-- ==== Defs.lean ====
def Pre_Kernel [hPre_groups_partition_tokens : Cert.Pre_groups_partition_tokens.Facts] (m : (ℓ : Loc Cert.Kernel.nD Cert.Kernel.τ Cert.Kernel.sig) → Buf (Elt Bits) ℓ) : Prop :=
  ∀ c : Dev Cert.Kernel.nD,
    (Cert.Pre_groups_partition_tokens.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).1 = (fun _ => 1#1)
    ∧ (Cert.Pre_groups_partition_tokens.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2 = (fun _ => 1#1)

def Pre_KernelIdeal [hPre_groups_partition_tokens : Cert.Pre_groups_partition_tokens.Facts] (m : (ℓ : Loc Cert.KernelIdeal.nD Cert.KernelIdeal.τ Cert.KernelIdeal.sig) → Buf (Elt Ideal) ℓ) : Prop :=
  ∀ c : Dev Cert.KernelIdeal.nD,
    (Cert.Pre_groups_partition_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_groups_partition_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_groups_partition_tokens [hPre_groups_partition_tokens : Cert.Pre_groups_partition_tokens.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_partition_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_groups_partition_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] [hPre_groups_partition_tokens : Cert.Pre_groups_partition_tokens.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_groups_partition_tokens : Cert.Pre_groups_partition_tokens.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_groups_partition_tokens [hReferenceIdeal : Cert.ReferenceIdeal.Facts] [hPre_groups_partition_tokens : Cert.Pre_groups_partition_tokens.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_groups_partition_tokens m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_groups_partition_tokens : Cert.Pre_groups_partition_tokens.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_groups_partition_tokens : Cert.Pre_groups_partition_tokens.Facts),
    quiescent_Kernel (hKernel := hKernel) (hPre_groups_partition_tokens := hPre_groups_partition_tokens)
    ∧ quiescent_KernelIdeal (hKernelIdeal := hKernelIdeal) (hPre_groups_partition_tokens := hPre_groups_partition_tokens)
    ∧ quiescent_ReferenceIdeal (hReferenceIdeal := hReferenceIdeal)
    ∧ quiescent_ReferenceIdeal_pre_groups_partition_tokens (hReferenceIdeal := hReferenceIdeal) (hPre_groups_partition_tokens := hPre_groups_partition_tokens)
    ∧ preserves_Kernel_KernelIdeal
    ∧ algebraic_KernelIdeal_ReferenceIdeal (hKernelIdeal := hKernelIdeal) (hReferenceIdeal := hReferenceIdeal) (hPre_groups_partition_tokens := hPre_groups_partition_tokens)
-- ==== Pre_groups_partition_tokens.lean ====
abbrev S9216x2816 : Shape := ⟨2, ![9216, 2816]⟩
abbrev S9216x1 : Shape := ⟨2, ![9216, 1]⟩
abbrev S8x2816x5632 : Shape := ⟨3, ![8, 2816, 5632]⟩
abbrev S8x5632 : Shape := ⟨2, ![8, 5632]⟩
abbrev S8 : Shape := ⟨1, ![8]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S9216x2816 .fp8e4m3) (main_arg1 : FVec F S9216x1 .f32) (main_arg2 : FVec F S8x2816x5632 .fp8e4m3) (main_arg3 : FVec F S8x5632 .f32) (main_arg4 : IVec S8 32) : IVec S8 1 × IVec S_ 1 :=
  let main_c : IVec S_ 32 := constantI S_ 32 0#32
  let main_v0 : IVec S8 32 := broadcastInDim S8 ![] bcast_S_S8 main_c
  let main_v1 : IVec S8 1 := cmpi .sge main_arg4 main_v0
  let main_c_0 : IVec S_ 32 := constantI S_ 32 9216#32
  let main_v2 : IVec S8 32 := broadcastInDim S8 ![] bcast_S_S8 main_c_0
  let main_v3 : IVec S8 1 := cmpi .sle main_arg4 main_v2
  let main_v4 : IVec S8 1 := andi main_v1 main_v3
  let main_c_1 : IVec S_ 32 := constantI S_ 32 0#32
  let main_v5 : IVec S_ 32 := (fun x v => Host.reduce IntOp.addi x v reducesTo_S8_S_d0 h_S_) main_arg4 main_c_1
  let main_c_2 : IVec S_ 32 := constantI S_ 32 9216#32
  let main_v6 : IVec S_ 1 := cmpi .eq main_v5 main_c_2
  (main_v4, main_v6)
-- ==== Kernel.lean ====
abbrev S9216x2816 : Shape := ⟨2, ![9216, 2816]⟩
abbrev S9216x1 : Shape := ⟨2, ![9216, 1]⟩
abbrev S8x2816x5632 : Shape := ⟨3, ![8, 2816, 5632]⟩
abbrev S8x5632 : Shape := ⟨2, ![8, 5632]⟩
abbrev S8 : Shape := ⟨1, ![8]⟩
abbrev S_ : Shape := ⟨0, ![]⟩
abbrev S1 : Shape := ⟨1, ![1]⟩
abbrev S43 : Shape := ⟨1, ![43]⟩
abbrev S43x1 : Shape := ⟨2, ![43, 1]⟩
abbrev S1x8 : Shape := ⟨2, ![1, 8]⟩
abbrev S43x8 : Shape := ⟨2, ![43, 8]⟩
abbrev S8x1x5632 : Shape := ⟨3, ![8, 1, 5632]⟩
abbrev S9216x5632 : Shape := ⟨2, ![9216, 5632]⟩
abbrev S256x2816 : Shape := ⟨2, ![256, 2816]⟩
abbrev S256x1 : Shape := ⟨2, ![256, 1]⟩
abbrev S1x2816x5632 : Shape := ⟨3, ![1, 2816, 5632]⟩
abbrev S1x1x5632 : Shape := ⟨3, ![1, 1, 5632]⟩
abbrev S256x5632 : Shape := ⟨2, ![256, 5632]⟩
abbrev S1x2816x512 : Shape := ⟨3, ![1, 2816, 512]⟩
abbrev S2816x512 : Shape := ⟨2, ![2816, 512]⟩
abbrev S256x512 : Shape := ⟨2, ![256, 512]⟩
abbrev S1x1x512 : Shape := ⟨3, ![1, 1, 512]⟩
abbrev S1x512 : Shape := ⟨2, ![1, 512]⟩

abbrev nBuf : Space → Nat
  | .hbm => 96
  | .vmem => 10
  | .smem => 5
  | _ => 0

abbrev bufTy : (tb : Table) → Fin (tcTables nBuf tb) → BufTy
  | .hbm, ⟨0, _⟩ => ⟨S9216x2816, .fp8e4m3⟩
  | .hbm, ⟨1, _⟩ => ⟨S9216x1, .f32⟩
  | .hbm, ⟨2, _⟩ => ⟨S8x2816x5632, .fp8e4m3⟩
  | .hbm, ⟨3, _⟩ => ⟨S8x5632, .f32⟩
  | .hbm, ⟨4, _⟩ => ⟨S8, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S8, .i32⟩
  | .hbm, ⟨12, _⟩ => ⟨S_, .i32⟩
  | .hbm, ⟨13, _⟩ => ⟨S8, .i32⟩
  | .hbm, ⟨14, _⟩ => ⟨S8, .i1⟩
  | .hbm, ⟨15, _⟩ => ⟨S8, .i32⟩
  | .hbm, ⟨16, _⟩ => ⟨S8, .i32⟩
  | .hbm, ⟨17, _⟩ => ⟨S_, .i32⟩
  | .hbm, ⟨18, _⟩ => ⟨S8, .i32⟩
  | .hbm, ⟨19, _⟩ => ⟨S8, .i1⟩
  | .hbm, ⟨20, _⟩ => ⟨S8, .i1⟩
  | .hbm, ⟨21, _⟩ => ⟨S_, .i32⟩
  | .hbm, ⟨22, _⟩ => ⟨S8, .i32⟩
  | .hbm, ⟨23, _⟩ => ⟨S8, .i32⟩
  | .hbm, ⟨24, _⟩ => ⟨S8, .i32⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S_, .i32⟩
  | .hbm, ⟨29, _⟩ => ⟨S_, .i32⟩
  | .hbm, ⟨30, _⟩ => ⟨S8, .i32⟩
  | .hbm, ⟨31, _⟩ => ⟨S8, .i32⟩
  | .hbm, ⟨32, _⟩ => ⟨S8, .i32⟩
  | .hbm, ⟨33, _⟩ => ⟨S_, .i32⟩
  | .hbm, ⟨34, _⟩ => ⟨S8, .i32⟩
  | .hbm, ⟨35, _⟩ => ⟨S8, .i1⟩
  | .hbm, ⟨36, _⟩ => ⟨S8, .i32⟩
  | .hbm, ⟨37, _⟩ => ⟨S8, .i32⟩
  | .hbm, ⟨38, _⟩ => ⟨S_, .i32⟩
  | .hbm, ⟨39, _⟩ => ⟨S8, .i32⟩
  | .hbm, ⟨40, _⟩ => ⟨S8, .i1⟩
  | .hbm, ⟨41, _⟩ => ⟨S8, .i1⟩
  | .hbm, ⟨42, _⟩ => ⟨S_, .i32⟩
  | .hbm, ⟨43, _⟩ => ⟨S8, .i32⟩
  | .hbm, ⟨44, _⟩ => ⟨S8, .i32⟩
  | .hbm, ⟨45, _⟩ => ⟨S8, .i32⟩
  | .hbm, ⟨46, _⟩ => ⟨S_, .i32⟩
  | .hbm, ⟨47, _⟩ => ⟨S8, .i32⟩
  | .hbm, ⟨48, _⟩ => ⟨S8, .i1⟩
  | .hbm, ⟨49, _⟩ => ⟨S8, .i32⟩
  | .hbm, ⟨50, _⟩ => ⟨S_, .i32⟩
  | .hbm, ⟨51, _⟩ => ⟨S8, .i32⟩
  | .hbm, ⟨52, _⟩ => ⟨S8, .i32⟩
  | .hbm, ⟨53, _⟩ => ⟨S_, .i32⟩
  | .hbm, ⟨54, _⟩ => ⟨S_, .i32⟩
  | .hbm, ⟨55, _⟩ => ⟨S8, .i32⟩
  | .hbm, ⟨56, _⟩ => ⟨S8, .i32⟩
  | .hbm, ⟨57, _⟩ => ⟨S_, .i32⟩
  | .hbm, ⟨58, _⟩ => ⟨S_, .i32⟩
  | .hbm, ⟨59, _⟩ => ⟨S8, .i32⟩
  | .hbm, ⟨60, _⟩ => ⟨S1, .i32⟩
  | .hbm, ⟨61, _⟩ => ⟨S_, .i32⟩
  | .hbm, ⟨62, _⟩ => ⟨S43, .i32⟩
  | .hbm, ⟨63, _⟩ => ⟨S_, .i32⟩
  | .hbm, ⟨64, _⟩ => ⟨S_, .i32⟩
  | .hbm, ⟨65, _⟩ => ⟨S43, .i32⟩
  | .hbm, ⟨66, _⟩ => ⟨S43, .i32⟩
  | .hbm, ⟨67, _⟩ => ⟨S43x1, .i32⟩
  | .hbm, ⟨68, _⟩ => ⟨S1x8, .i32⟩
  | .hbm, ⟨69, _⟩ => ⟨S43x8, .i32⟩
  | .hbm, ⟨70, _⟩ => ⟨S43x8, .i32⟩
  | .hbm, ⟨71, _⟩ => ⟨S43x8, .i1⟩
  | .hbm, ⟨72, _⟩ => ⟨S43x8, .i32⟩
  | .hbm, ⟨73, _⟩ => ⟨S_, .i32⟩
  | .hbm, ⟨74, _⟩ => ⟨S_, .i32⟩
  | .hbm, ⟨75, _⟩ => ⟨S43, .i32⟩
  | .hbm, ⟨76, _⟩ => ⟨S43, .i1⟩
  | .hbm, ⟨77, _⟩ => ⟨S_, .i32⟩
  | .hbm, ⟨78, _⟩ => ⟨S43, .i32⟩
  | .hbm, ⟨79, _⟩ => ⟨S43, .i32⟩
  | .hbm, ⟨80, _⟩ => ⟨S43, .i32⟩
  | .hbm, ⟨81, _⟩ => ⟨S43x1, .i32⟩
  | .hbm, ⟨82, _⟩ => ⟨S43, .i32⟩
  | .hbm, ⟨83, _⟩ => ⟨S43, .i32⟩
  | .hbm, ⟨84, _⟩ => ⟨S8, .i32⟩
  | .hbm, ⟨85, _⟩ => ⟨S_, .i32⟩
  | .hbm, ⟨86, _⟩ => ⟨S43, .i32⟩
  | .hbm, ⟨87, _⟩ => ⟨S43, .i1⟩
  | .hbm, ⟨88, _⟩ => ⟨S_, .i32⟩
  | .hbm, ⟨89, _⟩ => ⟨S43, .i32⟩
  | .hbm, ⟨90, _⟩ => ⟨S43, .i32⟩
  | .hbm, ⟨91, _⟩ => ⟨S43, .i32⟩
  | .hbm, ⟨92, _⟩ => ⟨S43x1, .i32⟩
  | .hbm, ⟨93, _⟩ => ⟨S43, .i32⟩
  | .hbm, ⟨94, _⟩ => ⟨S8x1x5632, .f32⟩
  | .hbm, ⟨95, _⟩ => ⟨S9216x5632, .bf16⟩
  | .local _ .vmem, ⟨0, _⟩ => ⟨S256x2816, .fp8e4m3⟩
  | .local _ .vmem, ⟨1, _⟩ => ⟨S256x2816, .fp8e4m3⟩
  | .local _ .vmem, ⟨2, _⟩ => ⟨S256x1, .f32⟩
  | .local _ .vmem, ⟨3, _⟩ => ⟨S256x1, .f32⟩
  | .local _ .vmem, ⟨4, _⟩ => ⟨S1x2816x5632, .fp8e4m3⟩
  | .local _ .vmem, ⟨5, _⟩ => ⟨S1x2816x5632, .fp8e4m3⟩
  | .local _ .vmem, ⟨6, _⟩ => ⟨S1x1x5632, .f32⟩
  | .local _ .vmem, ⟨7, _⟩ => ⟨S1x1x5632, .f32⟩
  | .local _ .vmem, ⟨8, _⟩ => ⟨S256x5632, .bf16⟩
  | .local _ .vmem, ⟨9, _⟩ => ⟨S256x5632, .bf16⟩
  | .local _ .smem, ⟨0, _⟩ => ⟨S43, .i32⟩
  | .local _ .smem, ⟨1, _⟩ => ⟨S43, .i32⟩
  | .local _ .smem, ⟨2, _⟩ => ⟨S8, .i32⟩
  | .local _ .smem, ⟨3, _⟩ => ⟨S8, .i32⟩
  | .local _ .smem, ⟨4, _⟩ => ⟨S1, .i32⟩
  | _, _ => ⟨S9216x2816, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_c : Ref sig .tc := ⟨.hbm, 7, rfl⟩
abbrev main_call1_v0 : Ref sig .tc := ⟨.hbm, 8, rfl⟩
abbrev main_call1_v1 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_v6 : Ref sig .tc := ⟨.hbm, 14, rfl⟩
abbrev main_call1_v7 : Ref sig .tc := ⟨.hbm, 15, rfl⟩
abbrev main_call1_v8 : Ref sig .tc := ⟨.hbm, 16, rfl⟩
abbrev main_call1_c : Ref sig .tc := ⟨.hbm, 17, rfl⟩
abbrev main_call1_v9 : Ref sig .tc := ⟨.hbm, 18, rfl⟩
abbrev main_call1_v10 : Ref sig .tc := ⟨.hbm, 19, rfl⟩
abbrev main_call1_v11 : Ref sig .tc := ⟨.hbm, 20, rfl⟩
abbrev main_call1_c_0 : Ref sig .tc := ⟨.hbm, 21, rfl⟩
abbrev main_call1_v12 : Ref sig .tc := ⟨.hbm, 22, rfl⟩
abbrev main_call1_v13 : Ref sig .tc := ⟨.hbm, 23, rfl⟩
abbrev main_v2 : Ref sig .tc := ⟨.hbm, 24, rfl⟩
abbrev main_c_0 : Ref sig .tc := ⟨.hbm, 25, rfl⟩
abbrev main_v3 : Ref sig .tc := ⟨.hbm, 26, rfl⟩
abbrev main_v4 : Ref sig .tc := ⟨.hbm, 27, rfl⟩
abbrev main_c_1 : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_v6 : Ref sig .tc := ⟨.hbm, 35, rfl⟩
abbrev main_call2_v7 : Ref sig .tc := ⟨.hbm, 36, rfl⟩
abbrev main_call2_v8 : Ref sig .tc := ⟨.hbm, 37, rfl⟩
abbrev main_call2_c : Ref sig .tc := ⟨.hbm, 38, rfl⟩
abbrev main_call2_v9 : Ref sig .tc := ⟨.hbm, 39, rfl⟩
abbrev main_call2_v10 : Ref sig .tc := ⟨.hbm, 40, rfl⟩
abbrev main_call2_v11 : Ref sig .tc := ⟨.hbm, 41, rfl⟩
abbrev main_call2_c_0 : Ref sig .tc := ⟨.hbm, 42, rfl⟩
abbrev main_call2_v12 : Ref sig .tc := ⟨.hbm, 43, rfl⟩
abbrev main_call2_v13 : Ref sig .tc := ⟨.hbm, 44, rfl⟩
abbrev main_v5 : Ref sig .tc := ⟨.hbm, 45, rfl⟩
abbrev main_c_2 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_c_3 : Ref sig .tc := ⟨.hbm, 50, rfl⟩
abbrev main_v9 : Ref sig .tc := ⟨.hbm, 51, rfl⟩
abbrev main_v10 : Ref sig .tc := ⟨.hbm, 52, rfl⟩
abbrev main_c_4 : Ref sig .tc := ⟨.hbm, 53, rfl⟩
abbrev main_call3_v0 : Ref sig .tc := ⟨.hbm, 54, rfl⟩
abbrev main_call3_v1 : Ref sig .tc := ⟨.hbm, 55, rfl⟩
abbrev main_v11 : Ref sig .tc := ⟨.hbm, 56, rfl⟩
abbrev main_call4_call0_c : Ref sig .tc := ⟨.hbm, 57, rfl⟩
abbrev main_call4_call0_v0 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_c_5 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_c_6 : Ref sig .tc := ⟨.hbm, 73, rfl⟩
abbrev main_c_7 : Ref sig .tc := ⟨.hbm, 74, rfl⟩
abbrev main_v26 : Ref sig .tc := ⟨.hbm, 75, rfl⟩
abbrev main_v27 : Ref sig .tc := ⟨.hbm, 76, rfl⟩
abbrev main_c_8 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_c_9 : Ref sig .tc := ⟨.hbm, 85, rfl⟩
abbrev main_v35 : Ref sig .tc := ⟨.hbm, 86, rfl⟩
abbrev main_v36 : Ref sig .tc := ⟨.hbm, 87, rfl⟩
abbrev main_c_10 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v44 : Ref sig .tc := ⟨.hbm, 94, rfl⟩
abbrev main_v45 : Ref sig .tc := ⟨.hbm, 95, rfl⟩
abbrev main_v25 : Ref sig .tc := ⟨.smem, 0, rfl⟩
abbrev main_v42 : Ref sig .tc := ⟨.smem, 1, rfl⟩
abbrev main_v1 : Ref sig .tc := ⟨.smem, 2, rfl⟩
abbrev main_v0 : Ref sig .tc := ⟨.smem, 3, rfl⟩
abbrev main_v43 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![43], ![false]⟩

abbrev pre0 : Pipeline.Prefetch sig := ⟨5, ![main_v25.idx, main_v42.idx, main_v1.idx, main_v0.idx, main_v43.idx], fun | 0 => main_v25.names | 1 => main_v42.names | 2 => main_v1.names | 3 => main_v0.names | 4 => main_v43.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v1 : BitVec 32) : Fin 1 → Nat :=
  let v5 : Index := Scalar.indexCast v1
  ![v5.toNat]

def k0_chk1 (v1 : BitVec 32) : Prop :=
  (∀ a, (k0_off2 v1) a + S1.size a ≤ S8.size a)
theorem k0_off2_inb : ∀ (v1 : BitVec 32) (k0_hw1 : k0_chk1 v1), ∀ a, (k0_off2 v1) a + S1.size a ≤ S8.size a := fun v1 k0_hw1 => k0_hw1

def k0_cond1 (i : grid0.Coords) (v3 : BitVec 32) (v6 : BitVec 32) (v8 : BitVec 32) (v9 : BitVec 32) : BitVec 1 :=
  let arg0 : BitVec 32 := BitVec.ofNat 32 (i 0).val
  let v10 : BitVec 1 := Scalar.cmpi .slt arg0 v9
  let c256_i32 : BitVec 32 := 256#32
  let v4 : BitVec 32 := Scalar.muli v3 c256_i32
  let v11 : BitVec 1 := Scalar.cmpi .sle v6 v4
  let c256_i32_0 : BitVec 32 := 256#32
  let v12 : BitVec 32 := Scalar.addi v4 c256_i32_0
  let v13 : BitVec 1 := Scalar.cmpi .sle v12 v8
  let v14 : BitVec 1 := Scalar.andi v11 v13
  let v15 : BitVec 1 := Scalar.andi v10 v14
  let v16 : BitVec 32 := Scalar.extui v15
  let c0_i32 : BitVec 32 := 0#32
  let v17 : BitVec 1 := Scalar.cmpi .ne v16 c0_i32
  v17

def k0_cond2 (i : grid0.Coords) (v3 : BitVec 32) (v6 : BitVec 32) (v8 : BitVec 32) (v9 : BitVec 32) : BitVec 1 :=
  let arg0 : BitVec 32 := BitVec.ofNat 32 (i 0).val
  let v10 : BitVec 1 := Scalar.cmpi .slt arg0 v9
  let c256_i32 : BitVec 32 := 256#32
  let v4 : BitVec 32 := Scalar.muli v3 c256_i32
  let v11 : BitVec 1 := Scalar.cmpi .sle v6 v4
  let c256_i32_0 : BitVec 32 := 256#32
  let v12 : BitVec 32 := Scalar.addi v4 c256_i32_0
  let v13 : BitVec 1 := Scalar.cmpi .sle v12 v8
  let v14 : BitVec 1 := Scalar.andi v11 v13
  let v_true : BitVec 1 := 1#1
  let v18 : BitVec 1 := Scalar.xori v14 v_true
  let v19 : BitVec 1 := Scalar.andi v10 v18
  let v20 : BitVec 32 := Scalar.extui v19
  let c0_i32_1 : BitVec 32 := 0#32
  let v21 : BitVec 1 := Scalar.cmpi .ne v20 c0_i32_1
  v21

def k0_cond3 (v3 : BitVec 32) (v6 : BitVec 32) : BitVec 1 :=
  let c256_i32 : BitVec 32 := 256#32
  let v4 : BitVec 32 := Scalar.muli v3 c256_i32
  let v22 : BitVec 1 := Scalar.cmpi .sle v6 v4
  let v23 : BitVec 32 := Scalar.extui v22
  let c0_i32_2 : BitVec 32 := 0#32
  let v24 : BitVec 1 := Scalar.cmpi .ne v23 c0_i32_2
  v24

def cc0_transform_0 (k0_off1_inb : ∀ i : grid0.Coords, ∀ a, (k0_off1 i) a + S1.size a ≤ S43.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S43) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S43.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S43) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S43.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S43) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S43.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S43) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S43.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S43) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x2816 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2816x5632 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x5632 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S9216x2816 : Shape := ⟨2, ![9216, 2816]⟩
abbrev S9216x1 : Shape := ⟨2, ![9216, 1]⟩
abbrev S8x2816x5632 : Shape := ⟨3, ![8, 2816, 5632]⟩
abbrev S8x5632 : Shape := ⟨2, ![8, 5632]⟩
abbrev S8 : Shape := ⟨1, ![8]⟩
abbrev S_ : Shape := ⟨0, ![]⟩
abbrev S9216 : Shape := ⟨1, ![9216]⟩
abbrev S1x9216 : Shape := ⟨2, ![1, 9216]⟩
abbrev S8x1 : Shape := ⟨2, ![8, 1]⟩
abbrev S8x9216 : Shape := ⟨2, ![8, 9216]⟩
abbrev S9216x5632 : Shape := ⟨2, ![9216, 5632]⟩
abbrev S1x2816x5632 : Shape := ⟨3, ![1, 2816, 5632]⟩
abbrev S2816x5632 : Shape := ⟨2, ![2816, 5632]⟩

abbrev nBuf : Space → Nat
  | .hbm => 36
  | .vmem => 6
  | .smem => 0
  | _ => 0

abbrev bufTy : (tb : Table) → Fin (tcTables nBuf tb) → BufTy
  | .hbm, ⟨0, _⟩ => ⟨S9216x2816, .fp8e4m3⟩
  | .hbm, ⟨1, _⟩ => ⟨S9216x1, .f32⟩
  | .hbm, ⟨2, _⟩ => ⟨S8x2816x5632, .fp8e4m3⟩
  | .hbm, ⟨3, _⟩ => ⟨S8x5632, .f32⟩
  | .hbm, ⟨4, _⟩ => ⟨S8, .i32⟩
  | .hbm, ⟨5, _⟩ => ⟨S_, .i32⟩
  | .hbm, ⟨6, _⟩ => ⟨S_, .i32⟩
  | .hbm, ⟨7, _⟩ => ⟨S8, .i32⟩
  | .hbm, ⟨8, _⟩ => ⟨S9216, .i32⟩
  | .hbm, ⟨9, _⟩ => ⟨S1x9216, .i32⟩
  | .hbm, ⟨10, _⟩ => ⟨S8x1, .i32⟩
  | .hbm, ⟨11, _⟩ => ⟨S8x9216, .i32⟩
  | .hbm, ⟨12, _⟩ => ⟨S8x9216, .i32⟩
  | .hbm, ⟨13, _⟩ => ⟨S8x9216, .i1⟩
  | .hbm, ⟨14, _⟩ => ⟨S8x9216, .i32⟩
  | .hbm, ⟨15, _⟩ => ⟨S_, .i32⟩
  | .hbm, ⟨16, _⟩ => ⟨S9216, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S9216, .i32⟩
  | .hbm, ⟨21, _⟩ => ⟨S9216, .i32⟩
  | .hbm, ⟨22, _⟩ => ⟨S_, .i32⟩
  | .hbm, ⟨23, _⟩ => ⟨S9216, .i32⟩
  | .hbm, ⟨24, _⟩ => ⟨S9216, .i32⟩
  | .hbm, ⟨25, _⟩ => ⟨S_, .i32⟩
  | .hbm, ⟨26, _⟩ => ⟨S9216, .i32⟩
  | .hbm, ⟨27, _⟩ => ⟨S9216, .i1⟩
  | .hbm, ⟨28, _⟩ => ⟨S_, .i32⟩
  | .hbm, ⟨29, _⟩ => ⟨S9216, .i32⟩
  | .hbm, ⟨30, _⟩ => ⟨S9216, .i32⟩
  | .hbm, ⟨31, _⟩ => ⟨S9216, .i32⟩
  | .hbm, ⟨32, _⟩ => ⟨S9216x1, .i32⟩
  | .hbm, ⟨33, _⟩ => ⟨S9216x5632, .f32⟩
  | .hbm, ⟨34, _⟩ => ⟨S9216x1, .i32⟩
  | .hbm, ⟨35, _⟩ => ⟨S9216x5632, .bf16⟩
  | .local _ .vmem, ⟨0, _⟩ => ⟨S9216x2816, .fp8e4m3⟩
  | .local _ .vmem, ⟨1, _⟩ => ⟨S9216x1, .f32⟩
  | .local _ .vmem, ⟨2, _⟩ => ⟨S8x2816x5632, .fp8e4m3⟩
  | .local _ .vmem, ⟨3, _⟩ => ⟨S9216x5632, .f32⟩
  | .local _ .vmem, ⟨4, _⟩ => ⟨S9216x1, .i32⟩
  | .local _ .vmem, ⟨5, _⟩ => ⟨S9216x5632, .bf16⟩
  | _, _ => ⟨S9216x2816, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_call1_call0_v0 : Ref sig .tc := ⟨.hbm, 9, rfl⟩
abbrev main_call1_call0_v1 : Ref sig .tc := ⟨.hbm, 10, rfl⟩
abbrev main_call1_call0_v2 : Ref sig .tc := ⟨.hbm, 11, rfl⟩
abbrev main_call1_call0_v3 : Ref sig .tc := ⟨.hbm, 12, rfl⟩
abbrev main_call1_call0_v4 : Ref sig .tc := ⟨.hbm, 13, rfl⟩
abbrev main_call1_call0_v5 : Ref sig .tc := ⟨.hbm, 14, rfl⟩
abbrev main_call1_call0_c : Ref sig .tc := ⟨.hbm, 15, rfl⟩
abbrev main_v2 : Ref sig .tc := ⟨.hbm, 16, rfl⟩
abbrev main_c : Ref sig .tc := ⟨.hbm, 17, rfl⟩
abbrev main_c_0 : Ref sig .tc := ⟨.hbm, 18, rfl⟩
abbrev main_call2_v0 : Ref sig .tc := ⟨.hbm, 19, rfl⟩
abbrev main_call2_v1 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_v3 : Ref sig .tc := ⟨.hbm, 24, rfl⟩
abbrev main_c_1 : Ref sig .tc := ⟨.hbm, 25, rfl⟩
abbrev main_v4 : Ref sig .tc := ⟨.hbm, 26, rfl⟩
abbrev main_v5 : Ref sig .tc := ⟨.hbm, 27, rfl⟩
abbrev main_c_2 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S9216x2816 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9216x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2816x5632 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9216x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9216x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9216x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Kernel.Run.lean ====
module

public import proofs.«01_k».proof.Defs
public import proofs.«01_k».proof.Proof.Gen.Kernel
public import proofs.«01_k».proof.Proof.Gen.Kernel.Launch
public import proofs.«01_k».proof.Proof.Gen.Kernel.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

/-! The kernel's body run once on each of its four paths: a tile that lies in the expert's rows (`runWhole`), the first visit
    to a shared tile (`runFirst`), a later visit to one (`runLater`), and a visit past the last (`runDead`). Each run starts from
    the blocks that the windows hold and from the five tables, and says what it leaves in the result's block as the list of
    its stores, the last first. -/

@[expose] public section

set_option maxRecDepth 16384
set_option Elab.async false

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources of the proof. -/
local notation "𝕄" => MT nD τ sig Unit (Elt F) ℕ (UR sig nD τ) ℕ

/-- The five tables as the body is handed them: each visit's expert, each visit's tile, the experts' first rows, the
    experts' last rows and the number of visits. -/
abbrev tbM0 : Memref sig .tc .smem S43 .i32 := Memref.whole main_v25
abbrev tbM1 : Memref sig .tc .smem S43 .i32 := Memref.whole main_v42
abbrev tbM2 : Memref sig .tc .smem S8 .i32 := Memref.whole main_v1
abbrev tbM3 : Memref sig .tc .smem S8 .i32 := Memref.whole main_v0
abbrev tbM4 : Memref sig .tc .smem S1 .i32 := Memref.whole main_v43

/-- The words that the body reads at point `i`: the visit's expert, -/
abbrev wE (i : grid0.Coords) (T0 : S43.Idx → Elt F .i32) : BitVec 32 :=
  View.readAt (Elt F) tbM0.view (Rect.unit (s := S43) (k0_off1 i) S1.size (k0_off1_inb i)).toLoadRect T0 (Shape.Idx.first (numel1_S1.symm ▸ Nat.one_pos))
/-- its tile, -/
abbrev wT (i : grid0.Coords) (T1 : S43.Idx → Elt F .i32) : BitVec 32 :=
  View.readAt (Elt F) tbM1.view (Rect.unit (s := S43) (k0_off1 i) S1.size (k0_off1_inb i)).toLoadRect T1 (Shape.Idx.first (numel1_S1.symm ▸ Nat.one_pos))
/-- the first row of the expert `e`, -/
abbrev wLo (e : BitVec 32) (he : k0_chk1 e) (T2 : S8.Idx → Elt F .i32) : BitVec 32 :=
  View.readAt (Elt F) tbM2.view (Rect.unit (s := S8) (k0_off2 e) S1.size (k0_off2_inb e he)).toLoadRect T2 (Shape.Idx.first (numel1_S1.symm ▸ Nat.one_pos))
/-- the row past its last, -/
abbrev wHi (e : BitVec 32) (he : k0_chk1 e) (T3 : S8.Idx → Elt F .i32) : BitVec 32 :=
  View.readAt (Elt F) tbM3.view (Rect.unit (s := S8) (k0_off2 e) S1.size (k0_off2_inb e he)).toLoadRect T3 (Shape.Idx.first (numel1_S1.symm ▸ Nat.one_pos))
/-- and the number of visits. -/
abbrev wN (T4 : S1.Idx → Elt F .i32) : BitVec 32 :=
  View.readAt (Elt F) tbM4.view (Rect.unit (s := S1) ![0] S1.size inb_S1_S1_0).toLoadRect T4 (Shape.Idx.first (numel1_S1.symm ▸ Nat.one_pos))

set_option backward.proofsInPublic true in
set_option maxHeartbeats 16000000 in
/-- A live visit whose tile lies in the expert's rows: eleven stores, one for every 512 columns, over whatever the block held. -/
noncomputable def runWhole (c : Dev nD) (i : grid0.Coords) (arg6 : Memref sig .tc .vmem S256x2816 .fp8e4m3) (harg6 : arg6.IsWhole) (arg7 : Memref sig .tc .vmem S256x1 .f32) (harg7 : arg7.IsWhole)
    (arg8 : Memref sig .tc .vmem S1x2816x5632 .fp8e4m3) (harg8 : arg8.IsWhole) (arg9 : Memref sig .tc .vmem S1x1x5632 .f32) (harg9 : arg9.IsWhole)
    (arg10 : Memref sig .tc .vmem S256x5632 .bf16) (harg10 : arg10.IsWhole)
    (T0 : S43.Idx → Elt F .i32) (T1 : S43.Idx → Elt F .i32) (T2 : S8.Idx → Elt F .i32) (T3 : S8.Idx → Elt F .i32) (T4 : S1.Idx → Elt F .i32)
    (x0 : S256x2816.Idx → Elt F .fp8e4m3) (x1 : S256x1.Idx → Elt F .f32) (x2 : S1x2816x5632.Idx → Elt F .fp8e4m3) (x3 : S1x1x5632.Idx → Elt F .f32)
    (hw : k0_chk1 (wE i T0))
    (h1 : k0_cond1 i (wT i T1) (wLo (wE i T0) hw T2) (wHi (wE i T0) hw T3) (wN T4) = 1#1) (h2 : ¬(k0_cond2 i (wT i T1) (wLo (wE i T0) hw T2) (wHi (wE i T0) hw T3) (wN T4) = 1#1)) :
    { out : List (View.Piece (Elt F) S256x5632 .bf16) //
      ∀ (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (tbM0.view.loc (c : Thread nD τ) ↦{fullShare.right} T0)
          ∗ (tbM1.view.loc (c : Thread nD τ) ↦{fullShare.right} T1)
          ∗ (tbM2.view.loc (c : Thread nD τ) ↦{fullShare.right} T2)
          ∗ (tbM3.view.loc (c : Thread nD τ) ↦{fullShare.right} T3)
          ∗ (tbM4.view.loc (c : Thread nD τ) ↦{fullShare.right} T4)
          ∗ (∃ d, owns (c : Thread nD τ) arg10 fullShare d)
          ∗ (iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (tbM0.view.loc (c : Thread nD τ) ↦{fullShare.right} T0)
          ∗ (tbM1.view.loc (c : Thread nD τ) ↦{fullShare.right} T1)
          ∗ (tbM2.view.loc (c : Thread nD τ) ↦{fullShare.right} T2)
          ∗ (tbM3.view.loc (c : Thread nD τ) ↦{fullShare.right} T3)
          ∗ (tbM4.view.loc (c : Thread nD τ) ↦{fullShare.right} T4)
              ∗ (∃ f, arg10.view.loc (c : Thread nD τ) ↦[arg10.view.set]{fullShare} arg10.view.writes (Elt F) f out)) -∗ K ⟨⟩))
          ⊢ wp frame (wpE (defs₀ (F := F)) Variants.none c none) Set.univ (cc0_grouped_fp8_matmul i tbM0 (Memref.isWhole_whole _) tbM1 (Memref.isWhole_whole _) tbM2 (Memref.isWhole_whole _) tbM3 (Memref.isWhole_whole _) tbM4 (Memref.isWhole_whole _) arg6 harg6 arg7 harg7 arg8 harg8 arg9 harg9 arg10 harg10) K } :=
  ⟨_, fun K => by
    unfold owns
    rw [cc0_grouped_fp8_matmul_eq_skeleton]; unfold cc0_grouped_fp8_matmul_skel
    iintro ⟨H0, H1, H2, H3, HT0, HT1, HT2, HT3, HT4, ⟨%d4, %f4, -, HO4⟩, Hk⟩
    have hT0 : tbM0.IsWhole := Memref.isWhole_whole _
    have hT1 : tbM1.IsWhole := Memref.isWhole_whole _
    have hT2 : tbM2.IsWhole := Memref.isWhole_whole _
    have hT3 : tbM3.IsWhole := Memref.isWhole_whole _
    have hT4 : tbM4.IsWhole := Memref.isWhole_whole _
    sl_exec! (disch := first | (guard_target = k0_chk1 _; exact hw) | (guard_target = k0_cond1 _ _ _ _ _ = _; exact h1) | (guard_target = ¬(k0_cond2 _ _ _ _ _ = _); exact h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HT3]; · iexact HT3
    isplitl [HT4]; · iexact HT4
    iexists _; iexact HO4⟩

set_option backward.proofsInPublic true in
set_option maxHeartbeats 16000000 in
/-- The first live visit to a tile that several experts share: the block is zeroed, then its rows of this expert are written. -/
noncomputable def runFirst (c : Dev nD) (i : grid0.Coords) (arg6 : Memref sig .tc .vmem S256x2816 .fp8e4m3) (harg6 : arg6.IsWhole) (arg7 : Memref sig .tc .vmem S256x1 .f32) (harg7 : arg7.IsWhole)
    (arg8 : Memref sig .tc .vmem S1x2816x5632 .fp8e4m3) (harg8 : arg8.IsWhole) (arg9 : Memref sig .tc .vmem S1x1x5632 .f32) (harg9 : arg9.IsWhole)
    (arg10 : Memref sig .tc .vmem S256x5632 .bf16) (harg10 : arg10.IsWhole)
    (T0 : S43.Idx → Elt F .i32) (T1 : S43.Idx → Elt F .i32) (T2 : S8.Idx → Elt F .i32) (T3 : S8.Idx → Elt F .i32) (T4 : S1.Idx → Elt F .i32)
    (x0 : S256x2816.Idx → Elt F .fp8e4m3) (x1 : S256x1.Idx → Elt F .f32) (x2 : S1x2816x5632.Idx → Elt F .fp8e4m3) (x3 : S1x1x5632.Idx → Elt F .f32)
    (hw : k0_chk1 (wE i T0))
    (h1 : ¬(k0_cond1 i (wT i T1) (wLo (wE i T0) hw T2) (wHi (wE i T0) hw T3) (wN T4) = 1#1)) (h2 : k0_cond2 i (wT i T1) (wLo (wE i T0) hw T2) (wHi (wE i T0) hw T3) (wN T4) = 1#1) (h3 : k0_cond3 (wT i T1) (wLo (wE i T0) hw T2) = 1#1) :
    { out : List (View.Piece (Elt F) S256x5632 .bf16) //
      ∀ (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (tbM0.view.loc (c : Thread nD τ) ↦{fullShare.right} T0)
          ∗ (tbM1.view.loc (c : Thread nD τ) ↦{fullShare.right} T1)
          ∗ (tbM2.view.loc (c : Thread nD τ) ↦{fullShare.right} T2)
          ∗ (tbM3.view.loc (c : Thread nD τ) ↦{fullShare.right} T3)
          ∗ (tbM4.view.loc (c : Thread nD τ) ↦{fullShare.right} T4)
          ∗ (∃ d, owns (c : Thread nD τ) arg10 fullShare d)
          ∗ (iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (tbM0.view.loc (c : Thread nD τ) ↦{fullShare.right} T0)
          ∗ (tbM1.view.loc (c : Thread nD τ) ↦{fullShare.right} T1)
          ∗ (tbM2.view.loc (c : Thread nD τ) ↦{fullShare.right} T2)
          ∗ (tbM3.view.loc (c : Thread nD τ) ↦{fullShare.right} T3)
          ∗ (tbM4.view.loc (c : Thread nD τ) ↦{fullShare.right} T4)
              ∗ (∃ f, arg10.view.loc (c : Thread nD τ) ↦[arg10.view.set]{fullShare} arg10.view.writes (Elt F) f out)) -∗ K ⟨⟩))
          ⊢ wp frame (wpE (defs₀ (F := F)) Variants.none c none) Set.univ (cc0_grouped_fp8_matmul i tbM0 (Memref.isWhole_whole _) tbM1 (Memref.isWhole_whole _) tbM2 (Memref.isWhole_whole _) tbM3 (Memref.isWhole_whole _) tbM4 (Memref.isWhole_whole _) arg6 harg6 arg7 harg7 arg8 harg8 arg9 harg9 arg10 harg10) K } :=
  ⟨_, fun K => by
    unfold owns
    rw [cc0_grouped_fp8_matmul_eq_skeleton]; unfold cc0_grouped_fp8_matmul_skel
    iintro ⟨H0, H1, H2, H3, HT0, HT1, HT2, HT3, HT4, ⟨%d4, %f4, -, HO4⟩, Hk⟩
    have hT0 : tbM0.IsWhole := Memref.isWhole_whole _
    have hT1 : tbM1.IsWhole := Memref.isWhole_whole _
    have hT2 : tbM2.IsWhole := Memref.isWhole_whole _
    have hT3 : tbM3.IsWhole := Memref.isWhole_whole _
    have hT4 : tbM4.IsWhole := Memref.isWhole_whole _
    sl_exec! (disch := first | (guard_target = k0_chk1 _; exact hw) | (guard_target = ¬(k0_cond1 _ _ _ _ _ = _); exact h1) | (guard_target = k0_cond2 _ _ _ _ _ = _; exact h2) | (guard_target = k0_cond3 _ _ = _; exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HT3]; · iexact HT3
    isplitl [HT4]; · iexact HT4
    iexists _; iexact HO4⟩

set_option backward.proofsInPublic true in
set_option maxHeartbeats 16000000 in
/-- A later live visit to a shared tile: its rows of this expert are written, the others kept. -/
noncomputable def runLater (c : Dev nD) (i : grid0.Coords) (arg6 : Memref sig .tc .vmem S256x2816 .fp8e4m3) (harg6 : arg6.IsWhole) (arg7 : Memref sig .tc .vmem S256x1 .f32) (harg7 : arg7.IsWhole)
    (arg8 : Memref sig .tc .vmem S1x2816x5632 .fp8e4m3) (harg8 : arg8.IsWhole) (arg9 : Memref sig .tc .vmem S1x1x5632 .f32) (harg9 : arg9.IsWhole)
    (arg10 : Memref sig .tc .vmem S256x5632 .bf16) (harg10 : arg10.IsWhole)
    (T0 : S43.Idx → Elt F .i32) (T1 : S43.Idx → Elt F .i32) (T2 : S8.Idx → Elt F .i32) (T3 : S8.Idx → Elt F .i32) (T4 : S1.Idx → Elt F .i32)
    (x0 : S256x2816.Idx → Elt F .fp8e4m3) (x1 : S256x1.Idx → Elt F .f32) (x2 : S1x2816x5632.Idx → Elt F .fp8e4m3) (x3 : S1x1x5632.Idx → Elt F .f32)
    (x4 : S256x5632.Idx → Elt F .bf16)
    (hw : k0_chk1 (wE i T0))
    (h1 : ¬(k0_cond1 i (wT i T1) (wLo (wE i T0) hw T2) (wHi (wE i T0) hw T3) (wN T4) = 1#1)) (h2 : k0_cond2 i (wT i T1) (wLo (wE i T0) hw T2) (wHi (wE i T0) hw T3) (wN T4) = 1#1) (h3 : ¬(k0_cond3 (wT i T1) (wLo (wE i T0) hw T2) = 1#1)) :
    { out : List (View.Piece (Elt F) S256x5632 .bf16) //
      ∀ (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (tbM0.view.loc (c : Thread nD τ) ↦{fullShare.right} T0)
          ∗ (tbM1.view.loc (c : Thread nD τ) ↦{fullShare.right} T1)
          ∗ (tbM2.view.loc (c : Thread nD τ) ↦{fullShare.right} T2)
          ∗ (tbM3.view.loc (c : Thread nD τ) ↦{fullShare.right} T3)
          ∗ (tbM4.view.loc (c : Thread nD τ) ↦{fullShare.right} T4)
          ∗ (arg10.view.loc (c : Thread nD τ) ↦[arg10.view.set]{fullShare} arg10.view.rep x4)
          ∗ (iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (tbM0.view.loc (c : Thread nD τ) ↦{fullShare.right} T0)
          ∗ (tbM1.view.loc (c : Thread nD τ) ↦{fullShare.right} T1)
          ∗ (tbM2.view.loc (c : Thread nD τ) ↦{fullShare.right} T2)
          ∗ (tbM3.view.loc (c : Thread nD τ) ↦{fullShare.right} T3)
          ∗ (tbM4.view.loc (c : Thread nD τ) ↦{fullShare.right} T4)
              ∗ (∃ f, arg10.view.loc (c : Thread nD τ) ↦[arg10.view.set]{fullShare} arg10.view.writes (Elt F) f out)) -∗ K ⟨⟩))
          ⊢ wp frame (wpE (defs₀ (F := F)) Variants.none c none) Set.univ (cc0_grouped_fp8_matmul i tbM0 (Memref.isWhole_whole _) tbM1 (Memref.isWhole_whole _) tbM2 (Memref.isWhole_whole _) tbM3 (Memref.isWhole_whole _) tbM4 (Memref.isWhole_whole _) arg6 harg6 arg7 harg7 arg8 harg8 arg9 harg9 arg10 harg10) K } :=
  ⟨_, fun K => by
    rw [cc0_grouped_fp8_matmul_eq_skeleton]; unfold cc0_grouped_fp8_matmul_skel
    iintro ⟨H0, H1, H2, H3, HT0, HT1, HT2, HT3, HT4, HO4, Hk⟩
    have hT0 : tbM0.IsWhole := Memref.isWhole_whole _
    have hT1 : tbM1.IsWhole := Memref.isWhole_whole _
    have hT2 : tbM2.IsWhole := Memref.isWhole_whole _
    have hT3 : tbM3.IsWhole := Memref.isWhole_whole _
    have hT4 : tbM4.IsWhole := Memref.isWhole_whole _
    sl_exec! (disch := first | (guard_target = k0_chk1 _; exact hw) | (guard_target = ¬(k0_cond1 _ _ _ _ _ = _); exact h1) | (guard_target = k0_cond2 _ _ _ _ _ = _; exact h2) | (guard_target = ¬(k0_cond3 _ _ = _); exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HT3]; · iexact HT3
    isplitl [HT4]; · iexact HT4
    iexists _; iexact HO4⟩

set_option backward.proofsInPublic true in
set_option maxHeartbeats 16000000 in
/-- A visit past the last: nothing is stored, and the result's block is not touched. -/
theorem runDead (c : Dev nD) (i : grid0.Coords) (arg6 : Memref sig .tc .vmem S256x2816 .fp8e4m3) (harg6 : arg6.IsWhole) (arg7 : Memref sig .tc .vmem S256x1 .f32) (harg7 : arg7.IsWhole)
    (arg8 : Memref sig .tc .vmem S1x2816x5632 .fp8e4m3) (harg8 : arg8.IsWhole) (arg9 : Memref sig .tc .vmem S1x1x5632 .f32) (harg9 : arg9.IsWhole)
    (arg10 : Memref sig .tc .vmem S256x5632 .bf16) (harg10 : arg10.IsWhole)
    (T0 : S43.Idx → Elt F .i32) (T1 : S43.Idx → Elt F .i32) (T2 : S8.Idx → Elt F .i32) (T3 : S8.Idx → Elt F .i32) (T4 : S1.Idx → Elt F .i32)
    (x0 : S256x2816.Idx → Elt F .fp8e4m3) (x1 : S256x1.Idx → Elt F .f32) (x2 : S1x2816x5632.Idx → Elt F .fp8e4m3) (x3 : S1x1x5632.Idx → Elt F .f32)
    (hw : k0_chk1 (wE i T0))
    (h1 : ¬(k0_cond1 i (wT i T1) (wLo (wE i T0) hw T2) (wHi (wE i T0) hw T3) (wN T4) = 1#1)) (h2 : ¬(k0_cond2 i (wT i T1) (wLo (wE i T0) hw T2) (wHi (wE i T0) hw T3) (wN T4) = 1#1)) :
    ∀ (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (tbM0.view.loc (c : Thread nD τ) ↦{fullShare.right} T0)
          ∗ (tbM1.view.loc (c : Thread nD τ) ↦{fullShare.right} T1)
          ∗ (tbM2.view.loc (c : Thread nD τ) ↦{fullShare.right} T2)
          ∗ (tbM3.view.loc (c : Thread nD τ) ↦{fullShare.right} T3)
          ∗ (tbM4.view.loc (c : Thread nD τ) ↦{fullShare.right} T4)
          ∗ (iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (tbM0.view.loc (c : Thread nD τ) ↦{fullShare.right} T0)
          ∗ (tbM1.view.loc (c : Thread nD τ) ↦{fullShare.right} T1)
          ∗ (tbM2.view.loc (c : Thread nD τ) ↦{fullShare.right} T2)
          ∗ (tbM3.view.loc (c : Thread nD τ) ↦{fullShare.right} T3)
          ∗ (tbM4.view.loc (c : Thread nD τ) ↦{fullShare.right} T4)
) -∗ K ⟨⟩))
          ⊢ wp frame (wpE (defs₀ (F := F)) Variants.none c none) Set.univ (cc0_grouped_fp8_matmul i tbM0 (Memref.isWhole_whole _) tbM1 (Memref.isWhole_whole _) tbM2 (Memref.isWhole_whole _) tbM3 (Memref.isWhole_whole _) tbM4 (Memref.isWhole_whole _) arg6 harg6 arg7 harg7 arg8 harg8 arg9 harg9 arg10 harg10) K := by
    intro K
    rw [cc0_grouped_fp8_matmul_eq_skeleton]; unfold cc0_grouped_fp8_matmul_skel
    iintro ⟨H0, H1, H2, H3, HT0, HT1, HT2, HT3, HT4, Hk⟩
    have hT0 : tbM0.IsWhole := Memref.isWhole_whole _
    have hT1 : tbM1.IsWhole := Memref.isWhole_whole _
    have hT2 : tbM2.IsWhole := Memref.isWhole_whole _
    have hT3 : tbM3.IsWhole := Memref.isWhole_whole _
    have hT4 : tbM4.IsWhole := Memref.isWhole_whole _
    sl_exec! (disch := first | (guard_target = k0_chk1 _; exact hw) | (guard_target = ¬(k0_cond1 _ _ _ _ _ = _); exact h1) | (guard_target = ¬(k0_cond2 _ _ _ _ _ = _); exact h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HT3]; · iexact HT3
    iexact HT4

/-- The result's block, as a buffer to read the stores back from. -/
abbrev VO : View sig .tc .vmem S256x5632 .bf16 := (Memref.whole cc0_stg4_0 : Memref sig .tc .vmem S256x5632 .bf16).view

/-- Its stores tile the block. -/
theorem runWhole_cover (c : Dev nD) (i : grid0.Coords) (arg6 : Memref sig .tc .vmem S256x2816 .fp8e4m3) (harg6 : arg6.IsWhole) (arg7 : Memref sig .tc .vmem S256x1 .f32) (harg7 : arg7.IsWhole)
    (arg8 : Memref sig .tc .vmem S1x2816x5632 .fp8e4m3) (harg8 : arg8.IsWhole) (arg9 : Memref sig .tc .vmem S1x1x5632 .f32) (harg9 : arg9.IsWhole)
    (arg10 : Memref sig .tc .vmem S256x5632 .bf16) (harg10 : arg10.IsWhole)
    (T0 : S43.Idx → Elt F .i32) (T1 : S43.Idx → Elt F .i32) (T2 : S8.Idx → Elt F .i32) (T3 : S8.Idx → Elt F .i32) (T4 : S1.Idx → Elt F .i32)
    (x0 : S256x2816.Idx → Elt F .fp8e4m3) (x1 : S256x1.Idx → Elt F .f32) (x2 : S1x2816x5632.Idx → Elt F .fp8e4m3) (x3 : S1x1x5632.Idx → Elt F .f32)
    (hw : k0_chk1 (wE i T0))
    (h1 : k0_cond1 i (wT i T1) (wLo (wE i T0) hw T2) (wHi (wE i T0) hw T3) (wN T4) = 1#1) (h2 : ¬(k0_cond2 i (wT i T1) (wLo (wE i T0) hw T2) (wHi (wE i T0) hw T3) (wN T4) = 1#1)) (y : S256x5632.Idx) :
    ∃ pc ∈ (runWhole c i arg6 harg6 arg7 harg7 arg8 harg8 arg9 harg9 arg10 harg10 T0 T1 T2 T3 T4 x0 x1 x2 x3 hw h1 h2).1, y ∈ pc.1.set :=
  View.cover_of_tiledL (runWhole c i arg6 harg6 arg7 harg7 arg8 harg8 arg9 harg9 arg10 harg10 T0 T1 T2 T3 T4 x0 x1 x2 x3 hw h1 h2).1 S256x512.size (by sl_kernel_rfl) y

/-- What a whole tile leaves in the result's block: its stores read back. -/
def outWhole (c : Dev nD) (i : grid0.Coords) (arg6 : Memref sig .tc .vmem S256x2816 .fp8e4m3) (harg6 : arg6.IsWhole) (arg7 : Memref sig .tc .vmem S256x1 .f32) (harg7 : arg7.IsWhole)
    (arg8 : Memref sig .tc .vmem S1x2816x5632 .fp8e4m3) (harg8 : arg8.IsWhole) (arg9 : Memref sig .tc .vmem S1x1x5632 .f32) (harg9 : arg9.IsWhole)
    (arg10 : Memref sig .tc .vmem S256x5632 .bf16) (harg10 : arg10.IsWhole)
    (T0 : S43.Idx → Elt F .i32) (T1 : S43.Idx → Elt F .i32) (T2 : S8.Idx → Elt F .i32) (T3 : S8.Idx → Elt F .i32) (T4 : S1.Idx → Elt F .i32)
    (x0 : S256x2816.Idx → Elt F .fp8e4m3) (x1 : S256x1.Idx → Elt F .f32) (x2 : S1x2816x5632.Idx → Elt F .fp8e4m3) (x3 : S1x1x5632.Idx → Elt F .f32)
    (hw : k0_chk1 (wE i T0))
    (h1 : k0_cond1 i (wT i T1) (wLo (wE i T0) hw T2) (wHi (wE i T0) hw T3) (wN T4) = 1#1) (h2 : ¬(k0_cond2 i (wT i T1) (wLo (wE i T0) hw T2) (wHi (wE i T0) hw T3) (wN T4) = 1#1)) : S256x5632.Idx → Elt F .bf16 :=
  VO.read (Elt F) (VO.writes (Elt F) VO.junk (runWhole c i arg6 harg6 arg7 harg7 arg8 harg8 arg9 harg9 arg10 harg10 T0 T1 T2 T3 T4 x0 x1 x2 x3 hw h1 h2).1)

/-- Its stores tile the block. -/
theorem runFirst_cover (c : Dev nD) (i : grid0.Coords) (arg6 : Memref sig .tc .vmem S256x2816 .fp8e4m3) (harg6 : arg6.IsWhole) (arg7 : Memref sig .tc .vmem S256x1 .f32) (harg7 : arg7.IsWhole)
    (arg8 : Memref sig .tc .vmem S1x2816x5632 .fp8e4m3) (harg8 : arg8.IsWhole) (arg9 : Memref sig .tc .vmem S1x1x5632 .f32) (harg9 : arg9.IsWhole)
    (arg10 : Memref sig .tc .vmem S256x5632 .bf16) (harg10 : arg10.IsWhole)
    (T0 : S43.Idx → Elt F .i32) (T1 : S43.Idx → Elt F .i32) (T2 : S8.Idx → Elt F .i32) (T3 : S8.Idx → Elt F .i32) (T4 : S1.Idx → Elt F .i32)
    (x0 : S256x2816.Idx → Elt F .fp8e4m3) (x1 : S256x1.Idx → Elt F .f32) (x2 : S1x2816x5632.Idx → Elt F .fp8e4m3) (x3 : S1x1x5632.Idx → Elt F .f32)
    (hw : k0_chk1 (wE i T0))
    (h1 : ¬(k0_cond1 i (wT i T1) (wLo (wE i T0) hw T2) (wHi (wE i T0) hw T3) (wN T4) = 1#1)) (h2 : k0_cond2 i (wT i T1) (wLo (wE i T0) hw T2) (wHi (wE i T0) hw T3) (wN T4) = 1#1) (h3 : k0_cond3 (wT i T1) (wLo (wE i T0) hw T2) = 1#1) (y : S256x5632.Idx) :
    ∃ pc ∈ (runFirst c i arg6 harg6 arg7 harg7 arg8 harg8 arg9 harg9 arg10 harg10 T0 T1 T2 T3 T4 x0 x1 x2 x3 hw h1 h2 h3).1, y ∈ pc.1.set :=
  View.cover_of_tiledL (runFirst c i arg6 harg6 arg7 harg7 arg8 harg8 arg9 harg9 arg10 harg10 T0 T1 T2 T3 T4 x0 x1 x2 x3 hw h1 h2 h3).1 S256x512.size (by sl_kernel_rfl) y

/-- What the first visit to a shared tile leaves in the result's block: its stores read back. -/
def outFirst (c : Dev nD) (i : grid0.Coords) (arg6 : Memref sig .tc .vmem S256x2816 .fp8e4m3) (harg6 : arg6.IsWhole) (arg7 : Memref sig .tc .vmem S256x1 .f32) (harg7 : arg7.IsWhole)
    (arg8 : Memref sig .tc .vmem S1x2816x5632 .fp8e4m3) (harg8 : arg8.IsWhole) (arg9 : Memref sig .tc .vmem S1x1x5632 .f32) (harg9 : arg9.IsWhole)
    (arg10 : Memref sig .tc .vmem S256x5632 .bf16) (harg10 : arg10.IsWhole)
    (T0 : S43.Idx → Elt F .i32) (T1 : S43.Idx → Elt F .i32) (T2 : S8.Idx → Elt F .i32) (T3 : S8.Idx → Elt F .i32) (T4 : S1.Idx → Elt F .i32)
    (x0 : S256x2816.Idx → Elt F .fp8e4m3) (x1 : S256x1.Idx → Elt F .f32) (x2 : S1x2816x5632.Idx → Elt F .fp8e4m3) (x3 : S1x1x5632.Idx → Elt F .f32)
    (hw : k0_chk1 (wE i T0))
    (h1 : ¬(k0_cond1 i (wT i T1) (wLo (wE i T0) hw T2) (wHi (wE i T0) hw T3) (wN T4) = 1#1)) (h2 : k0_cond2 i (wT i T1) (wLo (wE i T0) hw T2) (wHi (wE i T0) hw T3) (wN T4) = 1#1) (h3 : k0_cond3 (wT i T1) (wLo (wE i T0) hw T2) = 1#1) : S256x5632.Idx → Elt F .bf16 :=
  VO.read (Elt F) (VO.writes (Elt F) VO.junk (runFirst c i arg6 harg6 arg7 harg7 arg8 harg8 arg9 harg9 arg10 harg10 T0 T1 T2 T3 T4 x0 x1 x2 x3 hw h1 h2 h3).1)

/-- Its stores tile the block. -/
theorem runLater_cover (c : Dev nD) (i : grid0.Coords) (arg6 : Memref sig .tc .vmem S256x2816 .fp8e4m3) (harg6 : arg6.IsWhole) (arg7 : Memref sig .tc .vmem S256x1 .f32) (harg7 : arg7.IsWhole)
    (arg8 : Memref sig .tc .vmem S1x2816x5632 .fp8e4m3) (harg8 : arg8.IsWhole) (arg9 : Memref sig .tc .vmem S1x1x5632 .f32) (harg9 : arg9.IsWhole)
    (arg10 : Memref sig .tc .vmem S256x5632 .bf16) (harg10 : arg10.IsWhole)
    (T0 : S43.Idx → Elt F .i32) (T1 : S43.Idx → Elt F .i32) (T2 : S8.Idx → Elt F .i32) (T3 : S8.Idx → Elt F .i32) (T4 : S1.Idx → Elt F .i32)
    (x0 : S256x2816.Idx → Elt F .fp8e4m3) (x1 : S256x1.Idx → Elt F .f32) (x2 : S1x2816x5632.Idx → Elt F .fp8e4m3) (x3 : S1x1x5632.Idx → Elt F .f32)
    (x4 : S256x5632.Idx → Elt F .bf16)
    (hw : k0_chk1 (wE i T0))
    (h1 : ¬(k0_cond1 i (wT i T1) (wLo (wE i T0) hw T2) (wHi (wE i T0) hw T3) (wN T4) = 1#1)) (h2 : k0_cond2 i (wT i T1) (wLo (wE i T0) hw T2) (wHi (wE i T0) hw T3) (wN T4) = 1#1) (h3 : ¬(k0_cond3 (wT i T1) (wLo (wE i T0) hw T2) = 1#1)) (y : S256x5632.Idx) :
    ∃ pc ∈ (runLater c i arg6 harg6 arg7 harg7 arg8 harg8 arg9 harg9 arg10 harg10 T0 T1 T2 T3 T4 x0 x1 x2 x3 x4 hw h1 h2 h3).1, y ∈ pc.1.set :=
  View.cover_of_tiledL (runLater c i arg6 harg6 arg7 harg7 arg8 harg8 arg9 harg9 arg10 harg10 T0 T1 T2 T3 T4 x0 x1 x2 x3 x4 hw h1 h2 h3).1 S256x512.size (by sl_kernel_rfl) y

/-- What a later visit to a shared tile leaves in the result's block: its stores read back. -/
def outLater (c : Dev nD) (i : grid0.Coords) (arg6 : Memref sig .tc .vmem S256x2816 .fp8e4m3) (harg6 : arg6.IsWhole) (arg7 : Memref sig .tc .vmem S256x1 .f32) (harg7 : arg7.IsWhole)
    (arg8 : Memref sig .tc .vmem S1x2816x5632 .fp8e4m3) (harg8 : arg8.IsWhole) (arg9 : Memref sig .tc .vmem S1x1x5632 .f32) (harg9 : arg9.IsWhole)
    (arg10 : Memref sig .tc .vmem S256x5632 .bf16) (harg10 : arg10.IsWhole)
    (T0 : S43.Idx → Elt F .i32) (T1 : S43.Idx → Elt F .i32) (T2 : S8.Idx → Elt F .i32) (T3 : S8.Idx → Elt F .i32) (T4 : S1.Idx → Elt F .i32)
    (x0 : S256x2816.Idx → Elt F .fp8e4m3) (x1 : S256x1.Idx → Elt F .f32) (x2 : S1x2816x5632.Idx → Elt F .fp8e4m3) (x3 : S1x1x5632.Idx → Elt F .f32)
    (x4 : S256x5632.Idx → Elt F .bf16)
    (hw : k0_chk1 (wE i T0))
    (h1 : ¬(k0_cond1 i (wT i T1) (wLo (wE i T0) hw T2) (wHi (wE i T0) hw T3) (wN T4) = 1#1)) (h2 : k0_cond2 i (wT i T1) (wLo (wE i T0) hw T2) (wHi (wE i T0) hw T3) (wN T4) = 1#1) (h3 : ¬(k0_cond3 (wT i T1) (wLo (wE i T0) hw T2) = 1#1)) : S256x5632.Idx → Elt F .bf16 :=
  VO.read (Elt F) (VO.writes (Elt F) VO.junk (runLater c i arg6 harg6 arg7 harg7 arg8 harg8 arg9 harg9 arg10 harg10 T0 T1 T2 T3 T4 x0 x1 x2 x3 x4 hw h1 h2 h3).1)

end Cert.Kernel.Hand

end
-- ==== Proof.Kernel.Region.lean ====
module

public import proofs.«01_k».proof.Defs
public import proofs.«01_k».proof.Proof.Gen.Kernel
public import proofs.«01_k».proof.Proof.Gen.Kernel.Launch
public import proofs.«01_k».proof.Proof.Gen.Kernel.Skeleton
public import proofs.«01_k».proof.Proof.Kernel.Run
public import Idealize.ShloMosaic.Lib.Pipeline.Kit
public import Idealize.ShloMosaic.Lib.Pipeline.Frame
public import Idealize.ShloMosaic.Lib.Pipeline.TableIdle
public import Idealize.ShloMosaic.Lib.Pipeline.FrameBody
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

/-! The kernel's region at any admissible tables: what the result's block holds after each visit, that the body keeps to it, and
    the whole run of the kernel. The tables enter by what `Sched` says of them: every visit's expert is one of the eight, and a
    visit that keeps what the block held before, or a visit past the last, comes after a visit to the same tile. -/

@[expose] public section

set_option maxRecDepth 16384
set_option Elab.async false

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The resources of the proof. -/
local notation "𝕄" => MT nD τ sig Unit (Elt F) ℕ (UR sig nD τ) ℕ

/-- Where the proof keeps the pipeline's own state. -/
abbrev EP : Emb (UR sig nD τ) 𝕄 := emb₁

variable (a : (pcfg0 (F := F)).Adm)

/-- The kernel's pipeline at the tables `a`. -/
abbrev cfgA : Pipeline.Cfg sig Λ₀ := cfg0 (F := F) a

/-- The tables: each visit's expert, each visit's tile, the experts' first rows, the rows past their last, the number of visits. -/
abbrev tE : S43.Idx → Elt F .i32 := a.1 0
abbrev tT : S43.Idx → Elt F .i32 := a.1 1
abbrev tLo : S8.Idx → Elt F .i32 := a.1 2
abbrev tHi : S8.Idx → Elt F .i32 := a.1 3
abbrev tN : S1.Idx → Elt F .i32 := a.1 4

/-- The visit lies in the expert's rows whole; -/
abbrev Whole (i : grid0.Coords) (h : k0_chk1 (wE i (tE a))) : Prop :=
  k0_cond1 i (wT i (tT a)) (wLo (wE i (tE a)) h (tLo a)) (wHi (wE i (tE a)) h (tHi a)) (wN (tN a)) = 1#1
/-- it is a visit to a tile that other experts share; -/
abbrev Shared (i : grid0.Coords) (h : k0_chk1 (wE i (tE a))) : Prop :=
  k0_cond2 i (wT i (tT a)) (wLo (wE i (tE a)) h (tLo a)) (wHi (wE i (tE a)) h (tHi a)) (wN (tN a)) = 1#1
/-- the expert's rows begin at the tile's first row or before it. -/
abbrev Begins (i : grid0.Coords) (h : k0_chk1 (wE i (tE a))) : Prop :=
  k0_cond3 (wT i (tT a)) (wLo (wE i (tE a)) h (tLo a)) = 1#1

theorem bool_cond (b : BitVec 1) : (Scalar.cmpi .ne (Scalar.extui b : BitVec 32) (0#32) = 1#1) ↔ b = 1#1 := by
  revert b; decide

/-- A visit is not both. -/
theorem not_shared_of_whole (i : grid0.Coords) (w3 w6 w8 w9 : BitVec 32) (h : k0_cond1 i w3 w6 w8 w9 = 1#1) : ¬ k0_cond2 i w3 w6 w8 w9 = 1#1 := by
  unfold k0_cond1 at h; unfold k0_cond2
  simp only [bool_cond] at h ⊢
  generalize Scalar.cmpi .slt (BitVec.ofNat 32 (i 0).val) w9 = p at h ⊢
  generalize Scalar.andi (Scalar.cmpi .sle w6 (Scalar.muli w3 256#32)) (Scalar.cmpi .sle (Scalar.addi (Scalar.muli w3 256#32) 256#32) w8) = q at h ⊢
  revert p q; decide

/-- Point `t`'s coordinates, and the windows' buffers there. -/
abbrev crd (t : Fin (cfgA a).N) : (cfgA a).grid.Coords := (cfgA a).grid.coords t
abbrev ms0 (t : Fin (cfgA a).N) : Memref sig .tc .vmem S256x2816 .fp8e4m3 := spec0_0.stage ((cfgA a).slots t (0 : Fin 5))
abbrev hs0 (t : Fin (cfgA a).N) : (ms0 a t).IsWhole := hstage0_0 (((cfgA a).slots t (0 : Fin 5)).cast nbuf0_0)
abbrev ms1 (t : Fin (cfgA a).N) : Memref sig .tc .vmem S256x1 .f32 := spec0_1.stage ((cfgA a).slots t (1 : Fin 5))
abbrev hs1 (t : Fin (cfgA a).N) : (ms1 a t).IsWhole := hstage0_1 (((cfgA a).slots t (1 : Fin 5)).cast nbuf0_1)
abbrev ms2 (t : Fin (cfgA a).N) : Memref sig .tc .vmem S1x2816x5632 .fp8e4m3 := spec0_2.stage ((cfgA a).slots t (2 : Fin 5))
abbrev hs2 (t : Fin (cfgA a).N) : (ms2 a t).IsWhole := hstage0_2 (((cfgA a).slots t (2 : Fin 5)).cast nbuf0_2)
abbrev ms3 (t : Fin (cfgA a).N) : Memref sig .tc .vmem S1x1x5632 .f32 := spec0_3.stage ((cfgA a).slots t (3 : Fin 5))
abbrev hs3 (t : Fin (cfgA a).N) : (ms3 a t).IsWhole := hstage0_3 (((cfgA a).slots t (3 : Fin 5)).cast nbuf0_3)
abbrev ms4 (t : Fin (cfgA a).N) : Memref sig .tc .vmem S256x5632 .bf16 := spec0_4.stage ((cfgA a).slots t (4 : Fin 5))
abbrev hs4 (t : Fin (cfgA a).N) : (ms4 a t).IsWhole := hstage0_4 (((cfgA a).slots t (4 : Fin 5)).cast nbuf0_4)

/-- What the proof needs of the tables. -/
structure Sched : Prop where
  /-- every visit's expert is one of the eight; -/
  chk : ∀ i : grid0.Coords, k0_chk1 (wE i (tE a))
  /-- a visit that keeps what the block held finds there what the visit before left; -/
  later : ∀ t : Fin (cfgA a).N, Shared a (crd a t) (chk _) → ¬ Begins a (crd a t) (chk _) → (cfgA a).fresh (4 : Fin 5) t.val = false
  /-- and so does a visit past the last. -/
  dead : ∀ t : Fin (cfgA a).N, ¬ Whole a (crd a t) (chk _) → ¬ Shared a (crd a t) (chk _) → (cfgA a).fresh (4 : Fin 5) t.val = false

/-! The words that the pipeline's table of idle points names are the words the body reads. -/

theorem off1_lt (i : grid0.Coords) : ∀ b : Fin 1, k0_off1 i b + 1 ≤ S43.size b := fun b => by
  have h := k0_off1_inb i b
  fin_cases b; exact h
theorem off2_lt (e : BitVec 32) (h : k0_chk1 e) : ∀ b : Fin 1, k0_off2 e b + 1 ≤ S8.size b := fun b => by
  have h := k0_off2_inb e h b
  fin_cases b; exact h
theorem zero_lt_S1 : ∀ b : Fin 1, (![0] : Fin 1 → ℕ) b + 1 ≤ S1.size b := by decide

set_option backward.isDefEq.respectTransparency.types false in
theorem atD0 (i : grid0.Coords) : (a.1.atD 0 (k0_off1 i) : BitVec 32) = wE i (tE a) := by
  unfold Pipeline.Prefetch.Contents.atD
  split
  · rfl
  · rename_i hn; exact absurd (off1_lt i) hn
set_option backward.isDefEq.respectTransparency.types false in
theorem atD1 (i : grid0.Coords) : (a.1.atD 1 (k0_off1 i) : BitVec 32) = wT i (tT a) := by
  unfold Pipeline.Prefetch.Contents.atD
  split
  · rfl
  · rename_i hn; exact absurd (off1_lt i) hn
set_option backward.isDefEq.respectTransparency.types false in
theorem atD2 (e : BitVec 32) (h : k0_chk1 e) : (a.1.atD 2 (k0_off2 e) : BitVec 32) = wLo e h (tLo a) := by
  unfold Pipeline.Prefetch.Contents.atD
  split
  · rfl
  · rename_i hn; exact absurd (off2_lt e h) hn
set_option backward.isDefEq.respectTransparency.types false in
theorem atD3 (e : BitVec 32) (h : k0_chk1 e) : (a.1.atD 3 (k0_off2 e) : BitVec 32) = wHi e h (tHi a) := by
  unfold Pipeline.Prefetch.Contents.atD
  split
  · rfl
  · rename_i hn; exact absurd (off2_lt e h) hn
set_option backward.isDefEq.respectTransparency.types false in
theorem atD4 : (a.1.atD 4 ![0] : BitVec 32) = wN (tN a) := by
  unfold Pipeline.Prefetch.Contents.atD
  split
  · rfl
  · rename_i hn; exact absurd zero_lt_S1 hn

/-- The pipeline's test for an idle point, on the words. -/
def idleW (i : grid0.Coords) (w3 w6 w8 w9 : BitVec 32) : Bool :=
  !(k0_cond1 i w3 w6 w8 w9 == 1#1) && !(k0_cond2 i w3 w6 w8 w9 == 1#1 && k0_cond3 w3 w6 == 1#1) && !(k0_cond2 i w3 w6 w8 w9 == 1#1)

theorem idleW_iff (i : grid0.Coords) (w3 w6 w8 w9 : BitVec 32) :
    idleW i w3 w6 w8 w9 = true ↔ (¬ k0_cond1 i w3 w6 w8 w9 = 1#1 ∧ ¬ k0_cond2 i w3 w6 w8 w9 = 1#1) := by
  unfold idleW
  generalize k0_cond1 i w3 w6 w8 w9 = p
  generalize k0_cond2 i w3 w6 w8 w9 = q
  generalize k0_cond3 w3 w6 = r
  revert p q r; decide

/-- The result's window is idle at a point exactly when the visit is past the last. -/
theorem idle_iff (i : grid0.Coords) (h : k0_chk1 (wE i (tE a))) : (cfgA a).idle (4 : Fin 5) i = true ↔ (¬ Whole a i h ∧ ¬ Shared a i h) := by
  have e : (cfgA a).idle (4 : Fin 5) i = idleW i (a.1.atD 1 (k0_off1 i)) (a.1.atD 2 (k0_off2 (a.1.atD 0 (k0_off1 i)))) (a.1.atD 3 (k0_off2 (a.1.atD 0 (k0_off1 i)))) (a.1.atD 4 ![0]) := rfl
  have e2 : (a.1.atD 2 (k0_off2 (a.1.atD 0 (k0_off1 i))) : BitVec 32) = wLo (wE i (tE a)) h (tLo a) :=
    (congrArg (fun e : BitVec 32 => (a.1.atD 2 (k0_off2 e) : BitVec 32)) (atD0 a i)).trans (atD2 a _ h)
  have e3 : (a.1.atD 3 (k0_off2 (a.1.atD 0 (k0_off1 i))) : BitVec 32) = wHi (wE i (tE a)) h (tHi a) :=
    (congrArg (fun e : BitVec 32 => (a.1.atD 3 (k0_off2 e) : BitVec 32)) (atD0 a i)).trans (atD3 a _ h)
  exact (Eq.to_iff (congrArg (· = true) (e.trans (congrArg₂ (fun f x => f x) (congrArg₂ (fun f x => f x) (congrArg₂ (idleW i) (atD1 a i) e2) e3) (atD4 a))))).trans (idleW_iff _ _ _ _ _)

variable (hS : Sched a)
variable (V : (c : Dev nD) → (b : Ref sig .tc) → Buf (Elt F) ((c.tc : Thread nD τ).loc b))

/-- Window `w`'s block at point `t`, read off its array as the region finds it. -/
def iblk (c : Dev nD) (w : Fin (cfgA a).W) (t : Fin (cfgA a).N) : (((cfgA a).win w).xblock (crd a t)).Idx → Elt F ((cfgA a).win w).elt :=
  (((cfgA a).win w).blk t).view.read (Elt F) (V c (Pipeline.arrRef (cfgA a).spec w))

open scoped Classical in
/-- What the result's block holds after the visit at `t`, from what it held before. -/
def step (c : Dev nD) (t : Fin (cfgA a).N) (prev : S256x5632.Idx → Elt F .bf16) : S256x5632.Idx → Elt F .bf16 :=
  if h1 : Whole a (crd a t) (hS.chk _) then
    outWhole c (crd a t) (ms0 a t) (hs0 a t) (ms1 a t) (hs1 a t) (ms2 a t) (hs2 a t) (ms3 a t) (hs3 a t) (ms4 a t) (hs4 a t) (tE a) (tT a) (tLo a) (tHi a) (tN a) (iblk a V c (0 : Fin 5) t) (iblk a V c (1 : Fin 5) t) (iblk a V c (2 : Fin 5) t) (iblk a V c (3 : Fin 5) t) (hS.chk _) h1 (not_shared_of_whole _ _ _ _ _ h1)
  else if h2 : Shared a (crd a t) (hS.chk _) then
    if h3 : Begins a (crd a t) (hS.chk _) then
      outFirst c (crd a t) (ms0 a t) (hs0 a t) (ms1 a t) (hs1 a t) (ms2 a t) (hs2 a t) (ms3 a t) (hs3 a t) (ms4 a t) (hs4 a t) (tE a) (tT a) (tLo a) (tHi a) (tN a) (iblk a V c (0 : Fin 5) t) (iblk a V c (1 : Fin 5) t) (iblk a V c (2 : Fin 5) t) (iblk a V c (3 : Fin 5) t) (hS.chk _) h1 h2 h3
    else outLater c (crd a t) (ms0 a t) (hs0 a t) (ms1 a t) (hs1 a t) (ms2 a t) (hs2 a t) (ms3 a t) (hs3 a t) (ms4 a t) (hs4 a t) (tE a) (tT a) (tLo a) (tHi a) (tN a) (iblk a V c (0 : Fin 5) t) (iblk a V c (1 : Fin 5) t) (iblk a V c (2 : Fin 5) t) (iblk a V c (3 : Fin 5) t) prev (hS.chk _) h1 h2 h3
  else prev

/-- What it holds after each visit. -/
def traj (c : Dev nD) : (n : ℕ) → n < (cfgA a).N → (S256x5632.Idx → Elt F .bf16)
  | 0, h => step a hS V c ⟨0, h⟩ (VO.read (Elt F) VO.junk)
  | n + 1, h => step a hS V c ⟨n + 1, h⟩ (traj c n (Nat.lt_of_succ_lt h))

/-- What it held before one. -/
def prev (c : Dev nD) (t : Fin (cfgA a).N) : (S256x5632.Idx → Elt F .bf16) :=
  if h : t.val = 0 then (VO.read (Elt F) VO.junk) else traj a hS V c (t.val - 1) (by omega)

theorem traj_eq (c : Dev nD) (t : Fin (cfgA a).N) : traj a hS V c t.val t.isLt = step a hS V c t (prev a hS V c t) := by
  obtain ⟨n, hn⟩ := t
  cases n with
  | zero => rfl
  | succ n => unfold prev; simp only [Nat.add_one_ne_zero, dif_neg, not_false_eq_true]; rfl

/-- The proof's account of the region. -/
def dats (_ : Fin 1) (c : Dev nD) : Dat τ (Elt F) Unit ℕ (UR sig nD τ) ℕ (cfgA a) c where
  A w := V c (Pipeline.arrRef (cfgA a).spec w)
  after w t := match w with
    | ⟨0, _⟩ => iblk a V c (0 : Fin 5) t
    | ⟨1, _⟩ => iblk a V c (1 : Fin 5) t
    | ⟨2, _⟩ => iblk a V c (2 : Fin 5) t
    | ⟨3, _⟩ => iblk a V c (3 : Fin 5) t
    | ⟨4, _⟩ => (traj a hS V c t.val t.isLt)
  Φ t := iprop(Pipeline.ΦA spec0 c ∗ Pipeline.ΦT pre0 a.1 c)
  q _ := fullShare
  owed _ := 0

theorem after0 (c : Dev nD) (t : Fin (cfgA a).N) : (dats a hS V 0 c).after (0 : Fin 5) t = iblk a V c (0 : Fin 5) t := rfl
theorem after1 (c : Dev nD) (t : Fin (cfgA a).N) : (dats a hS V 0 c).after (1 : Fin 5) t = iblk a V c (1 : Fin 5) t := rfl
theorem after2 (c : Dev nD) (t : Fin (cfgA a).N) : (dats a hS V 0 c).after (2 : Fin 5) t = iblk a V c (2 : Fin 5) t := rfl
theorem after3 (c : Dev nD) (t : Fin (cfgA a).N) : (dats a hS V 0 c).after (3 : Fin 5) t = iblk a V c (3 : Fin 5) t := rfl
theorem after4 (c : Dev nD) (t : Fin (cfgA a).N) : (dats a hS V 0 c).after (4 : Fin 5) t = traj a hS V c t.val t.isLt := rfl

/-- Input 0's buffer holds its block when the body runs. -/
theorem before0 (c : Dev nD) (t : Fin (cfgA a).N) (d) : (dats a hS V 0 c).before (0 : Fin 5) t d = iblk a V c (0 : Fin 5) t :=
  ((dats a hS V 0 c).before_in_eq_fetched (0 : Fin 5) rfl (fun _ => rfl) (fun _ _ _ => rfl) (fun t => by rw [after0]; unfold Dat.blockOf iblk; rfl) t d).trans
    (by unfold Dat.fetched Dat.blockOf iblk; rfl)

/-- Input 1's buffer holds its block when the body runs. -/
theorem before1 (c : Dev nD) (t : Fin (cfgA a).N) (d) : (dats a hS V 0 c).before (1 : Fin 5) t d = iblk a V c (1 : Fin 5) t :=
  ((dats a hS V 0 c).before_in_eq_fetched (1 : Fin 5) rfl (fun _ => rfl) (fun _ _ _ => rfl) (fun t => by rw [after1]; unfold Dat.blockOf iblk; rfl) t d).trans
    (by unfold Dat.fetched Dat.blockOf iblk; rfl)

/-- Input 2's buffer holds its block when the body runs. -/
theorem before2 (c : Dev nD) (t : Fin (cfgA a).N) (d) : (dats a hS V 0 c).before (2 : Fin 5) t d = iblk a V c (2 : Fin 5) t :=
  ((dats a hS V 0 c).before_in_eq_fetched (2 : Fin 5) rfl (fun _ => rfl) (fun _ _ _ => rfl) (fun t => by rw [after2]; unfold Dat.blockOf iblk; rfl) t d).trans
    (by unfold Dat.fetched Dat.blockOf iblk; rfl)

/-- Input 3's buffer holds its block when the body runs. -/
theorem before3 (c : Dev nD) (t : Fin (cfgA a).N) (d) : (dats a hS V 0 c).before (3 : Fin 5) t d = iblk a V c (3 : Fin 5) t :=
  ((dats a hS V 0 c).before_in_eq_fetched (3 : Fin 5) rfl (fun _ => rfl) (fun _ _ _ => rfl) (fun t => by rw [after3]; unfold Dat.blockOf iblk; rfl) t d).trans
    (by unfold Dat.fetched Dat.blockOf iblk; rfl)

/-- A visit past the last leaves the block as it was. -/
theorem carry (c : Dev nD) : ∀ (t : Fin (cfgA a).N) (ht : t.val ≠ 0), (cfgA a).idle (4 : Fin 5) ((cfgA a).grid.coords t) = true → (cfgA a).fresh (4 : Fin 5) t.val = false →
    (dats a hS V 0 c).after (4 : Fin 5) t = (dats a hS V 0 c).after (4 : Fin 5) ⟨t.val - 1, by omega⟩ := by
  intro t ht hi hf
  rw [after4, after4, traj_eq]
  have h := (idle_iff a (crd a t) (hS.chk _)).1 hi
  unfold step prev
  rw [dif_neg h.1, dif_neg h.2, dif_neg ht]

/-- The result's block holds what the visit before left, unless it was written back since. -/
theorem before4 (c : Dev nD) (t : Fin (cfgA a).N) (d) :
    (dats a hS V 0 c).before (4 : Fin 5) t d = if (cfgA a).fresh (4 : Fin 5) t.val then d else (prev a hS V c t) := by
  rw [(dats a hS V 0 c).before_out_traj (4 : Fin 5) rfl (fun _ _ => rfl) (carry a hS V c) t.val t rfl d]
  by_cases hf : (cfgA a).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after4]; unfold prev; rw [dif_neg h0]

/-- The tables as the body is handed them. -/
theorem prefHeld_eq (c : Dev nD) (q : Fin 5 → PosShare TreeShare) (v : pre0.Contents (Elt F)) :
    (Pipeline.prefHeld (Ix := Unit) (Name := ℕ) (U := UR sig nD τ) (Lvl := ℕ) pre0 c q v : sProp 𝕄)
      = iprop((((c : Thread nD τ).loc main_v25) ↦{q 0} v 0) ∗ (((c : Thread nD τ).loc main_v42) ↦{q 1} v 1) ∗ (((c : Thread nD τ).loc main_v1) ↦{q 2} v 2) ∗ (((c : Thread nD τ).loc main_v0) ↦{q 3} v 3) ∗ (((c : Thread nD τ).loc main_v43) ↦{q 4} v 4)) := by
  unfold Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-- The body at point `t`, as the pipeline calls it. -/
abbrev bodyAt (t : Fin (cfgA a).N) : Prog (TpuEff nD τ sig (Elt F) Λ₀ .tc) PUnit :=
  cc0_grouped_fp8_matmul (crd a t) tbM0 (Memref.isWhole_whole _) tbM1 (Memref.isWhole_whole _) tbM2 (Memref.isWhole_whole _) tbM3 (Memref.isWhole_whole _) tbM4 (Memref.isWhole_whole _) (ms0 a t) (hs0 a t) (ms1 a t) (hs1 a t) (ms2 a t) (hs2 a t) (ms3 a t) (hs3 a t) (ms4 a t) (hs4 a t)

theorem step_whole (c : Dev nD) (t : Fin (cfgA a).N) (p) (h1 : Whole a (crd a t) (hS.chk _)) : step a hS V c t p = outWhole c (crd a t) (ms0 a t) (hs0 a t) (ms1 a t) (hs1 a t) (ms2 a t) (hs2 a t) (ms3 a t) (hs3 a t) (ms4 a t) (hs4 a t) (tE a) (tT a) (tLo a) (tHi a) (tN a) (iblk a V c (0 : Fin 5) t) (iblk a V c (1 : Fin 5) t) (iblk a V c (2 : Fin 5) t) (iblk a V c (3 : Fin 5) t) (hS.chk _) h1 (not_shared_of_whole _ _ _ _ _ h1) := by
  unfold step; rw [dif_pos h1]
theorem step_first (c : Dev nD) (t : Fin (cfgA a).N) (p) (h1 : ¬ Whole a (crd a t) (hS.chk _)) (h2 : Shared a (crd a t) (hS.chk _)) (h3 : Begins a (crd a t) (hS.chk _)) : step a hS V c t p = outFirst c (crd a t) (ms0 a t) (hs0 a t) (ms1 a t) (hs1 a t) (ms2 a t) (hs2 a t) (ms3 a t) (hs3 a t) (ms4 a t) (hs4 a t) (tE a) (tT a) (tLo a) (tHi a) (tN a) (iblk a V c (0 : Fin 5) t) (iblk a V c (1 : Fin 5) t) (iblk a V c (2 : Fin 5) t) (iblk a V c (3 : Fin 5) t) (hS.chk _) h1 h2 h3 := by
  unfold step; rw [dif_neg h1, dif_pos h2, dif_pos h3]
theorem step_later (c : Dev nD) (t : Fin (cfgA a).N) (p) (h1 : ¬ Whole a (crd a t) (hS.chk _)) (h2 : Shared a (crd a t) (hS.chk _)) (h3 : ¬ Begins a (crd a t) (hS.chk _)) : step a hS V c t p = outLater c (crd a t) (ms0 a t) (hs0 a t) (ms1 a t) (hs1 a t) (ms2 a t) (hs2 a t) (ms3 a t) (hs3 a t) (ms4 a t) (hs4 a t) (tE a) (tT a) (tLo a) (tHi a) (tN a) (iblk a V c (0 : Fin 5) t) (iblk a V c (1 : Fin 5) t) (iblk a V c (2 : Fin 5) t) (iblk a V c (3 : Fin 5) t) p (hS.chk _) h1 h2 h3 := by
  unfold step; rw [dif_neg h1, dif_pos h2, dif_neg h3]
theorem step_dead (c : Dev nD) (t : Fin (cfgA a).N) (p) (h1 : ¬ Whole a (crd a t) (hS.chk _)) (h2 : ¬ Shared a (crd a t) (hS.chk _)) : step a hS V c t p = p := by
  unfold step; rw [dif_neg h1, dif_neg h2]

set_option maxHeartbeats 4000000 in
/-- The body keeps to the account at a whole tile, -/
theorem body_whole (c : Dev nD) (t : Fin (cfgA a).N) (h1 : Whole a (crd a t) (hS.chk _)) :
    iprop((dats a hS V 0 c).Φ t.castSucc ∗ (dats a hS V 0 c).owesAt () t.castSucc
        ∗ (∃ d, owns (c : Thread nD τ) (ms0 a t) fullShare ((dats a hS V 0 c).before (0 : Fin 5) t d))
        ∗ (∃ d, owns (c : Thread nD τ) (ms1 a t) fullShare ((dats a hS V 0 c).before (1 : Fin 5) t d))
        ∗ (∃ d, owns (c : Thread nD τ) (ms2 a t) fullShare ((dats a hS V 0 c).before (2 : Fin 5) t d))
        ∗ (∃ d, owns (c : Thread nD τ) (ms3 a t) fullShare ((dats a hS V 0 c).before (3 : Fin 5) t d))
        ∗ (∃ d, owns (c : Thread nD τ) (ms4 a t) fullShare ((dats a hS V 0 c).before (4 : Fin 5) t d)))
      ⊢ wp frame (wpE (defs₀ (F := F)) Variants.none c none) Set.univ (bodyAt a t) fun _ =>
          iprop((dats a hS V 0 c).Φ t.succ ∗ (dats a hS V 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a hS V 0 c).before w t d))
                  | true => owns (c : Thread nD τ) (((cfgA a).win w).stage ((cfgA a).slots t w)) fullShare ((dats a hS V 0 c).after w t)
                | false => owns (c : Thread nD τ) (((cfgA a).win w).stage ((cfgA a).slots t w)) fullShare ((dats a hS V 0 c).after w t)) := by
  have i4 : (cfgA a).idle (4 : Fin 5) ((cfgA a).grid.coords t) = false := by
    rw [← Bool.not_eq_true, idle_iff a _ (hS.chk _)]; tauto
  rw [bigSep_W0]
  rewrite [i4]
  simp only [before0, before1, before2, before3, before4, after0, after1, after2, after3, after4]
  rewrite [show (dats a hS V 0 c).Φ t.succ = iprop(Pipeline.ΦA spec0 c ∗ Pipeline.ΦT pre0 a.1 c) from rfl, show (dats a hS V 0 c).Φ t.castSucc = iprop(Pipeline.ΦA spec0 c ∗ Pipeline.ΦT pre0 a.1 c) from rfl,
    show (dats a hS V 0 c).owesAt () t.succ = (dats a hS V 0 c).owesAt () t.castSucc from rfl]
  unfold Pipeline.ΦT
  rewrite [prefHeld_eq]
  rewrite [traj_eq, step_whole a hS V c t _ h1]
  iintro ⟨⟨HA, HT0, HT1, HT2, HT3, HT4⟩, Ho, ⟨%d0, H0⟩, ⟨%d1, H1⟩, ⟨%d2, H2⟩, ⟨%d3, H3⟩, ⟨%d4, H4⟩⟩
  iapply ((runWhole c (crd a t) (ms0 a t) (hs0 a t) (ms1 a t) (hs1 a t) (ms2 a t) (hs2 a t) (ms3 a t) (hs3 a t) (ms4 a t) (hs4 a t) (tE a) (tT a) (tLo a) (tHi a) (tN a) (iblk a V c (0 : Fin 5) t) (iblk a V c (1 : Fin 5) t) (iblk a V c (2 : Fin 5) t) (iblk a V c (3 : Fin 5) t) (hS.chk _) h1 (not_shared_of_whole _ _ _ _ _ h1)).2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [HT3]; · iexact HT3
  isplitl [HT4]; · iexact HT4
  isplitl [H4]; · iexists _; iexact H4
  iintro ⟨H0, H1, H2, H3, HT0, HT1, HT2, HT3, HT4, ⟨%e4, H4⟩⟩
  isplitl [HA HT0 HT1 HT2 HT3 HT4]
  · isplitl [HA]; · iexact HA
    isplitl [HT0]; · iexact HT0
    isplitl [HT1]; · iexact HT1
    isplitl [HT2]; · iexact HT2
    isplitl [HT3]; · iexact HT3
    iexact HT4
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  unfold owns; iexists _; isplitr; swap
  · iexact H4
  · ipureintro; exact View.read_writes_of_cover _ _ _ _ _ (runWhole_cover c (crd a t) (ms0 a t) (hs0 a t) (ms1 a t) (hs1 a t) (ms2 a t) (hs2 a t) (ms3 a t) (hs3 a t) (ms4 a t) (hs4 a t) (tE a) (tT a) (tLo a) (tHi a) (tN a) (iblk a V c (0 : Fin 5) t) (iblk a V c (1 : Fin 5) t) (iblk a V c (2 : Fin 5) t) (iblk a V c (3 : Fin 5) t) (hS.chk _) h1 (not_shared_of_whole _ _ _ _ _ h1))

set_option maxHeartbeats 4000000 in
/-- at the first visit to a shared tile, -/
theorem body_first (c : Dev nD) (t : Fin (cfgA a).N) (h1 : ¬ Whole a (crd a t) (hS.chk _)) (h2 : Shared a (crd a t) (hS.chk _)) (h3 : Begins a (crd a t) (hS.chk _)) :
    iprop((dats a hS V 0 c).Φ t.castSucc ∗ (dats a hS V 0 c).owesAt () t.castSucc
        ∗ (∃ d, owns (c : Thread nD τ) (ms0 a t) fullShare ((dats a hS V 0 c).before (0 : Fin 5) t d))
        ∗ (∃ d, owns (c : Thread nD τ) (ms1 a t) fullShare ((dats a hS V 0 c).before (1 : Fin 5) t d))
        ∗ (∃ d, owns (c : Thread nD τ) (ms2 a t) fullShare ((dats a hS V 0 c).before (2 : Fin 5) t d))
        ∗ (∃ d, owns (c : Thread nD τ) (ms3 a t) fullShare ((dats a hS V 0 c).before (3 : Fin 5) t d))
        ∗ (∃ d, owns (c : Thread nD τ) (ms4 a t) fullShare ((dats a hS V 0 c).before (4 : Fin 5) t d)))
      ⊢ wp frame (wpE (defs₀ (F := F)) Variants.none c none) Set.univ (bodyAt a t) fun _ =>
          iprop((dats a hS V 0 c).Φ t.succ ∗ (dats a hS V 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a hS V 0 c).before w t d))
                  | true => owns (c : Thread nD τ) (((cfgA a).win w).stage ((cfgA a).slots t w)) fullShare ((dats a hS V 0 c).after w t)
                | false => owns (c : Thread nD τ) (((cfgA a).win w).stage ((cfgA a).slots t w)) fullShare ((dats a hS V 0 c).after w t)) := by
  have i4 : (cfgA a).idle (4 : Fin 5) ((cfgA a).grid.coords t) = false := by
    rw [← Bool.not_eq_true, idle_iff a _ (hS.chk _)]; tauto
  rw [bigSep_W0]
  rewrite [i4]
  simp only [before0, before1, before2, before3, before4, after0, after1, after2, after3, after4]
  rewrite [show (dats a hS V 0 c).Φ t.succ = iprop(Pipeline.ΦA spec0 c ∗ Pipeline.ΦT pre0 a.1 c) from rfl, show (dats a hS V 0 c).Φ t.castSucc = iprop(Pipeline.ΦA spec0 c ∗ Pipeline.ΦT pre0 a.1 c) from rfl,
    show (dats a hS V 0 c).owesAt () t.succ = (dats a hS V 0 c).owesAt () t.castSucc from rfl]
  unfold Pipeline.ΦT
  rewrite [prefHeld_eq]
  rewrite [traj_eq, step_first a hS V c t _ h1 h2 h3]
  iintro ⟨⟨HA, HT0, HT1, HT2, HT3, HT4⟩, Ho, ⟨%d0, H0⟩, ⟨%d1, H1⟩, ⟨%d2, H2⟩, ⟨%d3, H3⟩, ⟨%d4, H4⟩⟩
  iapply ((runFirst c (crd a t) (ms0 a t) (hs0 a t) (ms1 a t) (hs1 a t) (ms2 a t) (hs2 a t) (ms3 a t) (hs3 a t) (ms4 a t) (hs4 a t) (tE a) (tT a) (tLo a) (tHi a) (tN a) (iblk a V c (0 : Fin 5) t) (iblk a V c (1 : Fin 5) t) (iblk a V c (2 : Fin 5) t) (iblk a V c (3 : Fin 5) t) (hS.chk _) h1 h2 h3).2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [HT3]; · iexact HT3
  isplitl [HT4]; · iexact HT4
  isplitl [H4]; · iexists _; iexact H4
  iintro ⟨H0, H1, H2, H3, HT0, HT1, HT2, HT3, HT4, ⟨%e4, H4⟩⟩
  isplitl [HA HT0 HT1 HT2 HT3 HT4]
  · isplitl [HA]; · iexact HA
    isplitl [HT0]; · iexact HT0
    isplitl [HT1]; · iexact HT1
    isplitl [HT2]; · iexact HT2
    isplitl [HT3]; · iexact HT3
    iexact HT4
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  unfold owns; iexists _; isplitr; swap
  · iexact H4
  · ipureintro; exact View.read_writes_of_cover _ _ _ _ _ (runFirst_cover c (crd a t) (ms0 a t) (hs0 a t) (ms1 a t) (hs1 a t) (ms2 a t) (hs2 a t) (ms3 a t) (hs3 a t) (ms4 a t) (hs4 a t) (tE a) (tT a) (tLo a) (tHi a) (tN a) (iblk a V c (0 : Fin 5) t) (iblk a V c (1 : Fin 5) t) (iblk a V c (2 : Fin 5) t) (iblk a V c (3 : Fin 5) t) (hS.chk _) h1 h2 h3)

set_option maxHeartbeats 4000000 in
/-- at a later one, -/
theorem body_later (c : Dev nD) (t : Fin (cfgA a).N) (h1 : ¬ Whole a (crd a t) (hS.chk _)) (h2 : Shared a (crd a t) (hS.chk _)) (h3 : ¬ Begins a (crd a t) (hS.chk _)) :
    iprop((dats a hS V 0 c).Φ t.castSucc ∗ (dats a hS V 0 c).owesAt () t.castSucc
        ∗ (∃ d, owns (c : Thread nD τ) (ms0 a t) fullShare ((dats a hS V 0 c).before (0 : Fin 5) t d))
        ∗ (∃ d, owns (c : Thread nD τ) (ms1 a t) fullShare ((dats a hS V 0 c).before (1 : Fin 5) t d))
        ∗ (∃ d, owns (c : Thread nD τ) (ms2 a t) fullShare ((dats a hS V 0 c).before (2 : Fin 5) t d))
        ∗ (∃ d, owns (c : Thread nD τ) (ms3 a t) fullShare ((dats a hS V 0 c).before (3 : Fin 5) t d))
        ∗ (∃ d, owns (c : Thread nD τ) (ms4 a t) fullShare ((dats a hS V 0 c).before (4 : Fin 5) t d)))
      ⊢ wp frame (wpE (defs₀ (F := F)) Variants.none c none) Set.univ (bodyAt a t) fun _ =>
          iprop((dats a hS V 0 c).Φ t.succ ∗ (dats a hS V 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a hS V 0 c).before w t d))
                  | true => owns (c : Thread nD τ) (((cfgA a).win w).stage ((cfgA a).slots t w)) fullShare ((dats a hS V 0 c).after w t)
                | false => owns (c : Thread nD τ) (((cfgA a).win w).stage ((cfgA a).slots t w)) fullShare ((dats a hS V 0 c).after w t)) := by
  have i4 : (cfgA a).idle (4 : Fin 5) ((cfgA a).grid.coords t) = false := by
    rw [← Bool.not_eq_true, idle_iff a _ (hS.chk _)]; tauto
  have hf := hS.later t h2 h3
  rw [bigSep_W0]
  rewrite [i4]
  simp only [before0, before1, before2, before3, before4, after0, after1, after2, after3, after4]
  rewrite [show (dats a hS V 0 c).Φ t.succ = iprop(Pipeline.ΦA spec0 c ∗ Pipeline.ΦT pre0 a.1 c) from rfl, show (dats a hS V 0 c).Φ t.castSucc = iprop(Pipeline.ΦA spec0 c ∗ Pipeline.ΦT pre0 a.1 c) from rfl,
    show (dats a hS V 0 c).owesAt () t.succ = (dats a hS V 0 c).owesAt () t.castSucc from rfl]
  unfold Pipeline.ΦT
  rewrite [prefHeld_eq]
  rewrite [traj_eq, step_later a hS V c t _ h1 h2 h3]
  simp only [hf, Bool.false_eq_true, ↓reduceIte]
  iintro ⟨⟨HA, HT0, HT1, HT2, HT3, HT4⟩, Ho, ⟨%d0, H0⟩, ⟨%d1, H1⟩, ⟨%d2, H2⟩, ⟨%d3, H3⟩, ⟨%d4, H4⟩⟩
  iapply ((runLater c (crd a t) (ms0 a t) (hs0 a t) (ms1 a t) (hs1 a t) (ms2 a t) (hs2 a t) (ms3 a t) (hs3 a t) (ms4 a t) (hs4 a t) (tE a) (tT a) (tLo a) (tHi a) (tN a) (iblk a V c (0 : Fin 5) t) (iblk a V c (1 : Fin 5) t) (iblk a V c (2 : Fin 5) t) (iblk a V c (3 : Fin 5) t) (prev a hS V c t) (hS.chk _) h1 h2 h3).2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [HT3]; · iexact HT3
  isplitl [HT4]; · iexact HT4
  isplitl [H4]; · iapply rep_of_owns; iexact H4
  iintro ⟨H0, H1, H2, H3, HT0, HT1, HT2, HT3, HT4, ⟨%e4, H4⟩⟩
  isplitl [HA HT0 HT1 HT2 HT3 HT4]
  · isplitl [HA]; · iexact HA
    isplitl [HT0]; · iexact HT0
    isplitl [HT1]; · iexact HT1
    isplitl [HT2]; · iexact HT2
    isplitl [HT3]; · iexact HT3
    iexact HT4
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  unfold owns; iexists _; isplitr; swap
  · iexact H4
  · ipureintro; exact View.read_writes_of_cover _ _ _ _ _ (runLater_cover c (crd a t) (ms0 a t) (hs0 a t) (ms1 a t) (hs1 a t) (ms2 a t) (hs2 a t) (ms3 a t) (hs3 a t) (ms4 a t) (hs4 a t) (tE a) (tT a) (tLo a) (tHi a) (tN a) (iblk a V c (0 : Fin 5) t) (iblk a V c (1 : Fin 5) t) (iblk a V c (2 : Fin 5) t) (iblk a V c (3 : Fin 5) t) (prev a hS V c t) (hS.chk _) h1 h2 h3)

set_option maxHeartbeats 4000000 in
/-- and at a visit past the last. -/
theorem body_dead (c : Dev nD) (t : Fin (cfgA a).N) (h1 : ¬ Whole a (crd a t) (hS.chk _)) (h2 : ¬ Shared a (crd a t) (hS.chk _)) :
    iprop((dats a hS V 0 c).Φ t.castSucc ∗ (dats a hS V 0 c).owesAt () t.castSucc
        ∗ (∃ d, owns (c : Thread nD τ) (ms0 a t) fullShare ((dats a hS V 0 c).before (0 : Fin 5) t d))
        ∗ (∃ d, owns (c : Thread nD τ) (ms1 a t) fullShare ((dats a hS V 0 c).before (1 : Fin 5) t d))
        ∗ (∃ d, owns (c : Thread nD τ) (ms2 a t) fullShare ((dats a hS V 0 c).before (2 : Fin 5) t d))
        ∗ (∃ d, owns (c : Thread nD τ) (ms3 a t) fullShare ((dats a hS V 0 c).before (3 : Fin 5) t d))
        ∗ (∃ d, owns (c : Thread nD τ) (ms4 a t) fullShare ((dats a hS V 0 c).before (4 : Fin 5) t d)))
      ⊢ wp frame (wpE (defs₀ (F := F)) Variants.none c none) Set.univ (bodyAt a t) fun _ =>
          iprop((dats a hS V 0 c).Φ t.succ ∗ (dats a hS V 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a hS V 0 c).before w t d))
                  | true => owns (c : Thread nD τ) (((cfgA a).win w).stage ((cfgA a).slots t w)) fullShare ((dats a hS V 0 c).after w t)
                | false => owns (c : Thread nD τ) (((cfgA a).win w).stage ((cfgA a).slots t w)) fullShare ((dats a hS V 0 c).after w t)) := by
  have i4 : (cfgA a).idle (4 : Fin 5) ((cfgA a).grid.coords t) = true := (idle_iff a _ (hS.chk _)).2 ⟨h1, h2⟩
  have hf := hS.dead t h1 h2
  rcases hfl : ((cfgA a).win (4 : Fin 5)).flush t with _ | _
  · rw [bigSep_W0]
    rewrite [i4, hfl]
    simp only [before0, before1, before2, before3, before4, after0, after1, after2, after3, after4]
    rewrite [show (dats a hS V 0 c).Φ t.succ = iprop(Pipeline.ΦA spec0 c ∗ Pipeline.ΦT pre0 a.1 c) from rfl, show (dats a hS V 0 c).Φ t.castSucc = iprop(Pipeline.ΦA spec0 c ∗ Pipeline.ΦT pre0 a.1 c) from rfl,
      show (dats a hS V 0 c).owesAt () t.succ = (dats a hS V 0 c).owesAt () t.castSucc from rfl]
    unfold Pipeline.ΦT
    rewrite [prefHeld_eq]
    simp only [hf, Bool.false_eq_true, ↓reduceIte]
    iintro ⟨⟨HA, HT0, HT1, HT2, HT3, HT4⟩, Ho, ⟨%d0, H0⟩, ⟨%d1, H1⟩, ⟨%d2, H2⟩, ⟨%d3, H3⟩, ⟨%d4, H4⟩⟩
    iapply (runDead c (crd a t) (ms0 a t) (hs0 a t) (ms1 a t) (hs1 a t) (ms2 a t) (hs2 a t) (ms3 a t) (hs3 a t) (ms4 a t) (hs4 a t) (tE a) (tT a) (tLo a) (tHi a) (tN a) (iblk a V c (0 : Fin 5) t) (iblk a V c (1 : Fin 5) t) (iblk a V c (2 : Fin 5) t) (iblk a V c (3 : Fin 5) t) (hS.chk _) h1 h2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [HT2]; · iexact HT2
    isplitl [HT3]; · iexact HT3
    isplitl [HT4]; · iexact HT4
    iintro ⟨H0, H1, H2, H3, HT0, HT1, HT2, HT3, HT4⟩
    isplitl [HA HT0 HT1 HT2 HT3 HT4]
    · isplitl [HA]; · iexact HA
      isplitl [HT0]; · iexact HT0
      isplitl [HT1]; · iexact HT1
      isplitl [HT2]; · iexact HT2
      isplitl [HT3]; · iexact HT3
      iexact HT4
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    iexists d4; iexact H4

  · rw [bigSep_W0]
    rewrite [i4, hfl]
    simp only [before0, before1, before2, before3, before4, after0, after1, after2, after3, after4]
    rewrite [show (dats a hS V 0 c).Φ t.succ = iprop(Pipeline.ΦA spec0 c ∗ Pipeline.ΦT pre0 a.1 c) from rfl, show (dats a hS V 0 c).Φ t.castSucc = iprop(Pipeline.ΦA spec0 c ∗ Pipeline.ΦT pre0 a.1 c) from rfl,
      show (dats a hS V 0 c).owesAt () t.succ = (dats a hS V 0 c).owesAt () t.castSucc from rfl]
    unfold Pipeline.ΦT
    rewrite [prefHeld_eq]
    rewrite [traj_eq, step_dead a hS V c t _ h1 h2]
    simp only [hf, Bool.false_eq_true, ↓reduceIte]
    iintro ⟨⟨HA, HT0, HT1, HT2, HT3, HT4⟩, Ho, ⟨%d0, H0⟩, ⟨%d1, H1⟩, ⟨%d2, H2⟩, ⟨%d3, H3⟩, ⟨%d4, H4⟩⟩
    iapply (runDead c (crd a t) (ms0 a t) (hs0 a t) (ms1 a t) (hs1 a t) (ms2 a t) (hs2 a t) (ms3 a t) (hs3 a t) (ms4 a t) (hs4 a t) (tE a) (tT a) (tLo a) (tHi a) (tN a) (iblk a V c (0 : Fin 5) t) (iblk a V c (1 : Fin 5) t) (iblk a V c (2 : Fin 5) t) (iblk a V c (3 : Fin 5) t) (hS.chk _) h1 h2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [HT2]; · iexact HT2
    isplitl [HT3]; · iexact HT3
    isplitl [HT4]; · iexact HT4
    iintro ⟨H0, H1, H2, H3, HT0, HT1, HT2, HT3, HT4⟩
    isplitl [HA HT0 HT1 HT2 HT3 HT4]
    · isplitl [HA]; · iexact HA
      isplitl [HT0]; · iexact HT0
      isplitl [HT1]; · iexact HT1
      isplitl [HT2]; · iexact HT2
      isplitl [HT3]; · iexact HT3
      iexact HT4
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    iexact H4

/-- The body keeps to the account at every point. -/
theorem body_obligation (c : Dev nD) : BodyObligation (dats a hS V 0 c) (defs₀ (F := F)) Variants.none () Set.univ := fun t => by
  rw [bigSep_W0]
  by_cases h1 : Whole a (crd a t) (hS.chk _)
  · exact body_whole a hS V c t h1
  by_cases h2 : Shared a (crd a t) (hS.chk _)
  · by_cases h3 : Begins a (crd a t) (hS.chk _)
    · exact body_first a hS V c t h1 h2 h3
    · exact body_later a hS V c t h1 h2 h3
  · exact body_dead a hS V c t h1 h2

theorem share_eq (c : Dev nD) (w : Fin (cfgA a).W) : (dats a hS V 0 c).share w = fullShare := by unfold Dat.share; split <;> rfl

/-- The steps before the kernel's region: they make the tables. -/
abbrev hostOps : List (List (HloOp τ sig (Elt F))) := [hostOps0, hostOps0_1, hostOps0_2, hostOps0_3, hostOps0_4, hostOps0_5, hostOps0_6, hostOps0_7, hostOps0_8]

/-- What the memory holds when the region starts, from the memory at launch. -/
def atEntry (m : (ℓ : Loc nD τ sig) → Buf (Elt F) ℓ) (c : Dev nD) (b : Ref sig .tc) : Buf (Elt F) ((c.tc : Thread nD τ).loc b) :=
  StableHlo.after hostOps.flatten (fun b => m (c, b)) b

set_option backward.isDefEq.respectTransparency.types false in
set_option maxHeartbeats 4000000 in
/-- The run of the whole kernel: it terminates, every array of the region ends as the account says, everything else as the region found
    it, and every semaphore counter at zero. -/
theorem run (m : (ℓ : Loc nD τ sig) → Buf (Elt F) ℓ) (ρ : Dev nD → PrngReg) (hpf : ∀ c k, atEntry m c (pre0.ref k) = a.1 k) :
    θ_run (defs (F := F)) (onTc (τ := τ) (main (F := F))) ⟨m, fun _ => 0, ρ⟩ (fun r =>
      Pipeline.FramePost (Pipeline.pin (pcfgs (F := F)) fun _ => a) (dats a hS (atEntry m)) 0 (atEntry m) r ∧ r.2.sem = fun _ => 0) :=
  Pipeline.θ_run_frameP pcfgs (fun _ => a) (dats a hS (atEntry m)) 0 launch0 defs₀ Variants.none m ρ main
    (hbody := fun c => (body_obligation a hS (atEntry m) c).loose)
    (hshare := share_eq a hS (atEntry m)) (howed := fun _ _ => rfl)
    (V := atEntry m)
    (hmain := Pipeline.hmainP_prefixes pcfgs 0 defs₀ Variants.none m main hostOps
      ⟨hostOps0_sub, hostOps0_1_sub, hostOps0_2_sub, hostOps0_3_sub, hostOps0_4_sub, hostOps0_5_sub, hostOps0_6_sub, hostOps0_7_sub, hostOps0_8_sub⟩
      (by simp only [List.Forall, hostOps0, hostOps0_1, hostOps0_2, hostOps0_3, hostOps0_4, hostOps0_5, hostOps0_6, hostOps0_7, hostOps0_8]; repeat' constructor)
      main_chain)
    (hA := fun _ _ => rfl) (hpf := hpf) (hΦ := fun _ _ => rfl)
    (Q' := fun r => Pipeline.FramePost (Pipeline.pin (pcfgs (F := F)) fun _ => a) (dats a hS (atEntry m)) 0 (atEntry m) r ∧ r.2.sem = fun _ => 0)
    (hQ' := fun _ h => h)

end Cert.Kernel.Hand

end
-- ==== Proof.Kernel.Entry.lean ====
module

public import proofs.«01_k».proof.Defs
public import proofs.«01_k».proof.Proof.Gen.Kernel
public import proofs.«01_k».proof.Proof.Gen.Kernel.Launch
public import Idealize.ShloMosaic.Lib.StableHlo.RunRead

/-! What the host lines before the kernel compute, as functions of the groups' sizes: each line of the visit plan by its own name. -/

@[expose] public section

set_option maxRecDepth 16384

noncomputable section

namespace Cert.Kernel.Hand

open Cert.Kernel Cert.Kernel.Gen
open Idealize.ShloMosaic
open Idealize.ShloMosaic.TcCoe Idealize.ShloMosaic.Tactic
open Idealize.ShloMosaic.StableHlo

variable {F : FTy → Type} [FloatOps F]

/-- One number at every group. -/
abbrev b8 (x : IVec S_ 32) : IVec S8 32 := broadcastInDim S8 ![] bcast_S_S8 x
/-- One number at every grid point. -/
abbrev b43 (x : IVec S_ 32) : IVec S43 32 := broadcastInDim S43 ![] bcast_S_S43 x
/-- The running sum. -/
def cumW (x : IVec S8 32) : IVec S8 32 :=
  Host.reduceWindow IntOp.addi ![8] ![1] ![7] ![0] x (broadcastInDim S_ ![] bcast_S_S_ (constantI S_ 32 0#32)) reduceWindows_S8_S8_w8s1p7_0 h_S_
/-- The quotient by 256, rounded down. -/
def fdivW (x : IVec S8 32) (q : IVec S_ 32) : IVec S8 32 :=
  select (andi (cmpi .ne (signi x) (b8 (signi q))) (cmpi .ne (Host.remsi x (b8 q)) (b8 (constantI S_ 32 0#32))))
    (subi (Host.divsi x (b8 q)) (b8 (constantI S_ 32 1#32))) (Host.divsi x (b8 q))
/-- Where each group ends. -/
def endsW (g : IVec S8 32) : IVec S8 32 := cumW g
/-- Where each group begins. -/
def startsW (g : IVec S8 32) : IVec S8 32 := subi (endsW g) g
/-- The first tile of each group. -/
def firstW (g : IVec S8 32) : IVec S8 32 := fdivW (startsW g) (constantI S_ 32 256#32)
/-- The last tile of each group. -/
def lastW (g : IVec S8 32) : IVec S8 32 := fdivW (subi (endsW g) (b8 (constantI S_ 32 1#32))) (constantI S_ 32 256#32)
/-- How many tiles each group meets. -/
def tilesW (g : IVec S8 32) : IVec S8 32 :=
  select (cmpi .sgt g (b8 (constantI S_ 32 0#32))) (addi (subi (lastW g) (firstW g)) (b8 (constantI S_ 32 1#32))) (b8 (constantI S_ 32 0#32))
/-- Where each group's visits end. -/
def vendW (g : IVec S8 32) : IVec S8 32 := cumW (tilesW g)
/-- How many visits there are. -/
def nvOf (q : IVec S8 32) : IVec S_ 32 := shapeCast S_ (extractStridedSlice S1 ![7] q slices_S8_S1_7) shapeCasts_S1_S_
/-- The visit of each grid point. -/
def visOf (q : IVec S8 32) : IVec S43 32 := minsi (iotaInDim S43 32 0) (b43 (subi (nvOf q) (constantI S_ 32 1#32)))
/-- The group of each grid point. -/
def groupOf (q : IVec S8 32) : IVec S43 32 :=
  Host.reduce IntOp.addi (extui 32 (cmpi .sge (broadcastInDim S43x8 ![0, 1] bcast_S43x1_S43x8_0_1 (broadcastInDim S43x1 ![0] bcast_S43_S43x1_0 (visOf q)))
    (broadcastInDim S43x8 ![0, 1] bcast_S1x8_S43x8_0_1 (broadcastInDim S1x8 ![1] bcast_S8_S1x8_1 q))) natLt_1_32) (constantI S_ 32 0#32)
    reducesTo_S43x8_S43_d1 h_S_
/-- An index, a negative one counted from the end. -/
def wrapW (x : IVec S43 32) : IVec S43x1 32 :=
  broadcastInDim S43x1 ![0] bcast_S43_S43x1_0 (select (cmpi .slt x (b43 (constantI S_ 32 0#32))) (addi x (b43 (constantI S_ 32 8#32))) x)
/-- The tile of each grid point. -/
def tileOf (f k q : IVec S8 32) : IVec S43 32 :=
  subi (addi (Host.gather gather_S8_S43x1_S43_n_0_n_n_0_1_1 f (wrapW (groupOf q))) (visOf q))
    (Host.gather gather_S8_S43x1_S43_n_0_n_n_0_1_1 (subi q k) (wrapW (groupOf q)))

/-- The same of the groups' sizes. -/
def nvW (g : IVec S8 32) : IVec S_ 32 := nvOf (vendW g)
@[inherit_doc nvW] def groupW (g : IVec S8 32) : IVec S43 32 := groupOf (vendW g)
@[inherit_doc nvW] def tileW (g : IVec S8 32) : IVec S43 32 := tileOf (firstW g) (tilesW g) (vendW g)

variable (V : Valuation τ sig (Elt F))

/-! ## Each stretch of lines: what it leaves alone, what it computes -/

theorem pass0 {r : Ref sig .tc} (hr : r ∉ [main_call0_call0_c, main_call0_call0_v0, main_v0]) : after (hostOps0 (F := F)) V (Proc.devRef .tc r) = V (Proc.devRef .tc r) :=
  after_unwritten _ rfl hr V
theorem pass1 {r : Ref sig .tc} (hr : r ∉ [main_v1, main_c]) : after (hostOps0_1 (F := F)) V (Proc.devRef .tc r) = V (Proc.devRef .tc r) :=
  after_unwritten _ rfl hr V
theorem pass2 {r : Ref sig .tc} (hr : r ∉ [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v2]) : after (hostOps0_2 (F := F)) V (Proc.devRef .tc r) = V (Proc.devRef .tc r) :=
  after_unwritten _ rfl hr V
theorem pass3 {r : Ref sig .tc} (hr : r ∉ [main_c_0, main_v3, main_v4, main_c_1]) : after (hostOps0_3 (F := F)) V (Proc.devRef .tc r) = V (Proc.devRef .tc r) :=
  after_unwritten _ rfl hr V
theorem pass4 {r : Ref sig .tc} (hr : r ∉ [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v5]) : after (hostOps0_4 (F := F)) V (Proc.devRef .tc r) = V (Proc.devRef .tc r) :=
  after_unwritten _ rfl hr V
theorem pass5 {r : Ref sig .tc} (hr : r ∉ [main_c_2, main_v6, main_v7, main_v8, main_c_3, main_v9, main_v10, main_c_4]) : after (hostOps0_5 (F := F)) V (Proc.devRef .tc r) = V (Proc.devRef .tc r) :=
  after_unwritten _ rfl hr V
theorem pass6 {r : Ref sig .tc} (hr : r ∉ [main_call3_v0, main_call3_v1, main_v11]) : after (hostOps0_6 (F := F)) V (Proc.devRef .tc r) = V (Proc.devRef .tc r) :=
  after_unwritten _ rfl hr V
theorem pass7 {r : Ref sig .tc} (hr : r ∉ [main_call4_call0_c, main_call4_call0_v0, main_v12]) : after (hostOps0_7 (F := F)) V (Proc.devRef .tc r) = V (Proc.devRef .tc r) :=
  after_unwritten _ rfl hr V
theorem pass8 {r : Ref sig .tc} (hr : r ∉ [main_v13, main_v14, main_v15, main_c_5, main_v16, main_v17, main_v18, main_v19, main_v20, main_v21, main_v22, main_v23, main_v24, main_c_6, main_v25, main_c_7, main_v26, main_v27, main_c_8, main_v28, main_v29, main_v30, main_v31, main_v32, main_v33, main_v34, main_c_9, main_v35, main_v36, main_c_10, main_v37, main_v38, main_v39, main_v40, main_v41, main_v42, main_v43, main_v44]) : after (hostOps0_8 (F := F)) V (Proc.devRef .tc r) = V (Proc.devRef .tc r) :=
  after_unwritten _ rfl hr V

theorem s0_main_v0 : after (hostOps0 (F := F)) V (Proc.devRef .tc main_v0) = cumW (V (Proc.devRef .tc main_arg4)) := by
  after_reads_simp
  unfold cumW
  simp only [TRef.toBuf, TRef.ofBuf, cast_eq]
theorem s1_main_v1 : after (hostOps0_1 (F := F)) V (Proc.devRef .tc main_v1) = subi (V (Proc.devRef .tc main_v0)) (V (Proc.devRef .tc main_arg4)) := by
  after_reads_simp
theorem s1_main_c : after (hostOps0_1 (F := F)) V (Proc.devRef .tc main_c) = constantI S_ 32 256#32 := by
  after_reads_simp
theorem s2_main_v2 : after (hostOps0_2 (F := F)) V (Proc.devRef .tc main_v2) = fdivW (V (Proc.devRef .tc main_v1)) (V (Proc.devRef .tc main_c)) := by
  after_reads_simp
  rfl
theorem s3_main_v4 : after (hostOps0_3 (F := F)) V (Proc.devRef .tc main_v4) = subi (V (Proc.devRef .tc main_v0)) (b8 (constantI S_ 32 1#32)) := by
  after_reads_simp
theorem s3_main_c_1 : after (hostOps0_3 (F := F)) V (Proc.devRef .tc main_c_1) = constantI S_ 32 256#32 := by
  after_reads_simp
theorem s4_main_v5 : after (hostOps0_4 (F := F)) V (Proc.devRef .tc main_v5) = fdivW (V (Proc.devRef .tc main_v4)) (V (Proc.devRef .tc main_c_1)) := by
  after_reads_simp
  rfl
theorem s5_main_v7 : after (hostOps0_5 (F := F)) V (Proc.devRef .tc main_v7) = cmpi .sgt (V (Proc.devRef .tc main_arg4)) (b8 (constantI S_ 32 0#32)) := by
  after_reads_simp
theorem s5_main_v10 : after (hostOps0_5 (F := F)) V (Proc.devRef .tc main_v10) = addi (subi (V (Proc.devRef .tc main_v5)) (V (Proc.devRef .tc main_v2))) (b8 (constantI S_ 32 1#32)) := by
  after_reads_simp
theorem s5_main_c_4 : after (hostOps0_5 (F := F)) V (Proc.devRef .tc main_c_4) = constantI S_ 32 0#32 := by
  after_reads_simp
theorem s6_main_v11 : after (hostOps0_6 (F := F)) V (Proc.devRef .tc main_v11) = select (V (Proc.devRef .tc main_v7)) (V (Proc.devRef .tc main_v10)) (b8 (V (Proc.devRef .tc main_c_4))) := by
  after_reads_simp
  rfl
theorem s7_main_v12 : after (hostOps0_7 (F := F)) V (Proc.devRef .tc main_v12) = cumW (V (Proc.devRef .tc main_v11)) := by
  after_reads_simp
  unfold cumW
  simp only [TRef.toBuf, TRef.ofBuf, cast_eq]
theorem s8_main_v14 : after (hostOps0_8 (F := F)) V (Proc.devRef .tc main_v14) = nvOf (V (Proc.devRef .tc main_v12)) := by
  after_reads_simp
  rfl
theorem s8_main_v43 : after (hostOps0_8 (F := F)) V (Proc.devRef .tc main_v43) = shapeCast S1 (nvOf (V (Proc.devRef .tc main_v12))) shapeCasts_S_S1 := by
  after_reads_simp
  rfl
theorem s8_main_v18 : after (hostOps0_8 (F := F)) V (Proc.devRef .tc main_v18) = visOf (V (Proc.devRef .tc main_v12)) := by
  after_reads_simp
  rfl
theorem s8_main_v25 : after (hostOps0_8 (F := F)) V (Proc.devRef .tc main_v25) = groupOf (V (Proc.devRef .tc main_v12)) := by
  after_reads_simp
  rfl
theorem s8_main_v42 : after (hostOps0_8 (F := F)) V (Proc.devRef .tc main_v42) = tileOf (V (Proc.devRef .tc main_v2)) (V (Proc.devRef .tc main_v11)) (V (Proc.devRef .tc main_v12)) := by
  after_reads_simp
  rfl
theorem s8_main_v44 : after (hostOps0_8 (F := F)) V (Proc.devRef .tc main_v44) = shapeCast S8x1x5632 (V (Proc.devRef .tc main_arg3)) shapeCasts_S8x5632_S8x1x5632 := by
  after_reads_simp
  rfl

/-! ## All the lines -/

/-- The host lines before the kernel, one stretch after another. -/
def entry : Valuation τ sig (Elt F) :=
  after hostOps0_8 (after hostOps0_7 (after hostOps0_6 (after hostOps0_5 (after hostOps0_4 (after hostOps0_3 (after hostOps0_2 (after hostOps0_1 (after hostOps0 V))))))))

theorem entry_main_arg0 : entry V (Proc.devRef .tc main_arg0) = V (Proc.devRef .tc main_arg0) := by
  unfold entry
  rw [pass8 (hr := by decide), pass7 (hr := by decide), pass6 (hr := by decide), pass5 (hr := by decide), pass4 (hr := by decide), pass3 (hr := by decide), pass2 (hr := by decide), pass1 (hr := by decide), pass0 (hr := by decide)]
theorem entry_main_arg1 : entry V (Proc.devRef .tc main_arg1) = V (Proc.devRef .tc main_arg1) := by
  unfold entry
  rw [pass8 (hr := by decide), pass7 (hr := by decide), pass6 (hr := by decide), pass5 (hr := by decide), pass4 (hr := by decide), pass3 (hr := by decide), pass2 (hr := by decide), pass1 (hr := by decide), pass0 (hr := by decide)]
theorem entry_main_arg2 : entry V (Proc.devRef .tc main_arg2) = V (Proc.devRef .tc main_arg2) := by
  unfold entry
  rw [pass8 (hr := by decide), pass7 (hr := by decide), pass6 (hr := by decide), pass5 (hr := by decide), pass4 (hr := by decide), pass3 (hr := by decide), pass2 (hr := by decide), pass1 (hr := by decide), pass0 (hr := by decide)]
theorem entry_main_arg3 : entry V (Proc.devRef .tc main_arg3) = V (Proc.devRef .tc main_arg3) := by
  unfold entry
  rw [pass8 (hr := by decide), pass7 (hr := by decide), pass6 (hr := by decide), pass5 (hr := by decide), pass4 (hr := by decide), pass3 (hr := by decide), pass2 (hr := by decide), pass1 (hr := by decide), pass0 (hr := by decide)]
theorem entry_main_arg4 : entry V (Proc.devRef .tc main_arg4) = V (Proc.devRef .tc main_arg4) := by
  unfold entry
  rw [pass8 (hr := by decide), pass7 (hr := by decide), pass6 (hr := by decide), pass5 (hr := by decide), pass4 (hr := by decide), pass3 (hr := by decide), pass2 (hr := by decide), pass1 (hr := by decide), pass0 (hr := by decide)]
theorem entry_main_v44 : entry V (Proc.devRef .tc main_v44) = shapeCast S8x1x5632 (V (Proc.devRef .tc main_arg3)) shapeCasts_S8x5632_S8x1x5632 := by
  unfold entry
  rw [s8_main_v44, pass7 (hr := by decide), pass6 (hr := by decide), pass5 (hr := by decide), pass4 (hr := by decide), pass3 (hr := by decide), pass2 (hr := by decide), pass1 (hr := by decide), pass0 (hr := by decide)]
theorem entry_main_v0 : entry V (Proc.devRef .tc main_v0) = endsW (V (Proc.devRef .tc main_arg4)) := by
  unfold entry
  rw [pass8 (hr := by decide), pass7 (hr := by decide), pass6 (hr := by decide), pass5 (hr := by decide), pass4 (hr := by decide), pass3 (hr := by decide), pass2 (hr := by decide), pass1 (hr := by decide), s0_main_v0]
  rfl
theorem entry_main_v1 : entry V (Proc.devRef .tc main_v1) = startsW (V (Proc.devRef .tc main_arg4)) := by
  unfold entry
  rw [pass8 (hr := by decide), pass7 (hr := by decide), pass6 (hr := by decide), pass5 (hr := by decide), pass4 (hr := by decide), pass3 (hr := by decide), pass2 (hr := by decide), s1_main_v1, s0_main_v0, pass0 (hr := by decide)]
  rfl
theorem at2_main_v2 : (after hostOps0_2 (after hostOps0_1 (after hostOps0 V))) (Proc.devRef .tc main_v2) = firstW (V (Proc.devRef .tc main_arg4)) := by
  rw [s2_main_v2, s1_main_v1, s1_main_c, s0_main_v0, pass0 (hr := by decide)]
  rfl
theorem at4_main_v5 : (after hostOps0_4 (after hostOps0_3 (after hostOps0_2 (after hostOps0_1 (after hostOps0 V))))) (Proc.devRef .tc main_v5) = lastW (V (Proc.devRef .tc main_arg4)) := by
  rw [s4_main_v5, s3_main_v4, s3_main_c_1, pass2 (hr := by decide), pass1 (hr := by decide), s0_main_v0]
  rfl
theorem at6_main_v11 : (after hostOps0_6 (after hostOps0_5 (after hostOps0_4 (after hostOps0_3 (after hostOps0_2 (after hostOps0_1 (after hostOps0 V))))))) (Proc.devRef .tc main_v11) = tilesW (V (Proc.devRef .tc main_arg4)) := by
  rw [s6_main_v11, s5_main_v7, s5_main_v10, s5_main_c_4, at4_main_v5, pass4 (hr := (by decide : main_v2 ∉ _)), pass3 (hr := (by decide : main_v2 ∉ _)), at2_main_v2, pass4 (hr := (by decide : main_arg4 ∉ _)), pass3 (hr := (by decide : main_arg4 ∉ _)), pass2 (hr := (by decide : main_arg4 ∉ _)), pass1 (hr := (by decide : main_arg4 ∉ _)), pass0 (hr := (by decide : main_arg4 ∉ _))]
  rfl
theorem at7_main_v12 : (after hostOps0_7 (after hostOps0_6 (after hostOps0_5 (after hostOps0_4 (after hostOps0_3 (after hostOps0_2 (after hostOps0_1 (after hostOps0 V)))))))) (Proc.devRef .tc main_v12) = vendW (V (Proc.devRef .tc main_arg4)) := by
  rw [s7_main_v12, at6_main_v11]
  rfl
theorem entry_main_v25 : entry V (Proc.devRef .tc main_v25) = groupW (V (Proc.devRef .tc main_arg4)) := by
  unfold entry
  rw [s8_main_v25, at7_main_v12]
  rfl
theorem entry_main_v43 : entry V (Proc.devRef .tc main_v43) = shapeCast S1 (nvW (V (Proc.devRef .tc main_arg4))) shapeCasts_S_S1 := by
  unfold entry
  rw [s8_main_v43, at7_main_v12]
  rfl
theorem entry_main_v42 : entry V (Proc.devRef .tc main_v42) = tileW (V (Proc.devRef .tc main_arg4)) := by
  unfold entry
  rw [s8_main_v42, at7_main_v12, pass7 (hr := (by decide : main_v11 ∉ _)), at6_main_v11, pass7 (hr := (by decide : main_v2 ∉ _)), pass6 (hr := (by decide : main_v2 ∉ _)), pass5 (hr := (by decide : main_v2 ∉ _)), pass4 (hr := (by decide : main_v2 ∉ _)), pass3 (hr := (by decide : main_v2 ∉ _)), at2_main_v2]
  rfl

end Cert.Kernel.Hand
-- ==== Proof.Visits.Plan.lean ====
/-
  The plan of visits, in natural numbers alone. Eight groups of rows, `n e` rows in group `e`, lie one after another in 9216 rows, which
  are cut into 36 tiles of 256. A visit is a pair of a group and a tile that it meets; the visits of a group follow each other by tile, and
  the groups follow each other. This module says which pair the visit `t` is and what the plan keeps: every tile is visited, in order, and
  the visits of one tile follow each other.
-/
module

public import Mathlib.Algebra.BigOperators.Intervals
public import Mathlib.Data.Finset.Card
public import Mathlib.Order.Interval.Finset.Nat
public import Mathlib.Tactic.Ring
public import Mathlib.Tactic.IntervalCases

@[expose] public section

namespace Plan

variable (n : ℕ → ℕ)

/-- The row at which group `e` begins: the rows of the groups before it. -/
def P (e : ℕ) : ℕ := ∑ j ∈ Finset.range e, n j

/-- How many tiles group `e` meets. -/
def tl (e : ℕ) : ℕ := if n e = 0 then 0 else (P n (e + 1) - 1) / 256 + 1 - P n e / 256

/-- The first visit of group `e`: the visits of the groups before it. -/
def Q (e : ℕ) : ℕ := ∑ j ∈ Finset.range e, tl n j

/-- How many visits there are. -/
def nv : ℕ := Q n 8

/-- The visit that grid point `t` makes: a point past the last visit repeats it. -/
def vis (t : ℕ) : ℕ := min t (nv n - 1)

/-- The group of grid point `t`: how many groups have all their visits behind it. -/
def E (t : ℕ) : ℕ := ((Finset.range 8).filter fun e => Q n (e + 1) ≤ vis n t).card

/-- The tile of grid point `t`. -/
def T (t : ℕ) : ℕ := P n (E n t) / 256 + (vis n t - Q n (E n t))

theorem P_zero : P n 0 = 0 := rfl
theorem Q_zero : Q n 0 = 0 := rfl
theorem P_succ (e : ℕ) : P n (e + 1) = P n e + n e := Finset.sum_range_succ _ _
theorem Q_succ (e : ℕ) : Q n (e + 1) = Q n e + tl n e := Finset.sum_range_succ _ _

theorem P_mono : Monotone (P n) := monotone_nat_of_le_succ fun e => by rw [P_succ]; omega
theorem Q_mono : Monotone (Q n) := monotone_nat_of_le_succ fun e => by rw [Q_succ]; omega

/-- The number of visits of the groups before `e` is at most the tiles that they fill and one more for each of them but the first. -/
theorem Q_le (e : ℕ) : (P n e = 0 → Q n e = 0) ∧ (0 < P n e → Q n e ≤ (P n e - 1) / 256 + e ∧ 1 ≤ Q n e) := by
  induction e with
  | zero => exact ⟨fun _ => rfl, fun h => absurd h (by rw [P_zero]; omega)⟩
  | succ e ih =>
    obtain ⟨h0, h1⟩ := ih
    rw [P_succ, Q_succ, tl, P_succ]
    by_cases hn : n e = 0
    · rw [if_pos hn, hn]
      refine ⟨fun h => by have := h0 (by omega); omega, fun h => ?_⟩
      have := h1 (by omega)
      exact ⟨by omega, by omega⟩
    · rw [if_neg hn]
      refine ⟨fun h => by omega, fun _ => ?_⟩
      rcases Nat.eq_zero_or_pos (P n e) with hp | hp
      · have := h0 hp
        rw [hp, this]
        exact ⟨by omega, by omega⟩
      · have := h1 hp
        exact ⟨by omega, by omega⟩

variable {n}

/-- A visit lies between the first visit of its group and the first visit of the next group. -/
theorem E_eq {t e : ℕ} (he : e < 8) (h0 : Q n e ≤ vis n t) (h1 : vis n t < Q n (e + 1)) : E n t = e := by
  unfold E
  have : (Finset.range 8).filter (fun e' => Q n (e' + 1) ≤ vis n t) = Finset.range e := by
    ext e'
    rw [Finset.mem_filter, Finset.mem_range, Finset.mem_range]
    refine ⟨fun h => ?_, fun h => ⟨by omega, (Q_mono n (by omega : e' + 1 ≤ e)).trans h0⟩⟩
    by_contra hc
    have := Q_mono n (by omega : e + 1 ≤ e' + 1)
    omega
  rw [this, Finset.card_range]

theorem exists_group (v : ℕ) : ∀ k, v < Q n k → ∃ e, e < k ∧ Q n e ≤ v ∧ v < Q n (e + 1)
  | 0, h => absurd h (by rw [Q_zero]; omega)
  | k + 1, h => by
    by_cases hk : v < Q n k
    · obtain ⟨e, he, h0, h1⟩ := exists_group v k hk
      exact ⟨e, by omega, h0, h1⟩
    · exact ⟨k, by omega, by omega, h⟩

section
variable (hP : P n 8 = 9216)
include hP

theorem nv_pos : 1 ≤ nv n := ((Q_le n 8).2 (by omega)).2
theorem nv_le : nv n ≤ 43 := by
  have := ((Q_le n 8).2 (by omega)).1
  rw [hP] at this
  exact this

theorem vis_lt (t : ℕ) : vis n t < nv n := by
  have := nv_pos hP
  unfold vis
  omega

/-- The group of a grid point, with the place of its visit among the group's visits. -/
theorem E_spec (t : ℕ) : E n t < 8 ∧ Q n (E n t) ≤ vis n t ∧ vis n t < Q n (E n t + 1) := by
  obtain ⟨e, he, h0, h1⟩ := exists_group (vis n t) 8 (vis_lt hP t)
  rw [E_eq he h0 h1]
  exact ⟨he, h0, h1⟩

theorem P_le (e : ℕ) (he : e ≤ 8) : P n e ≤ 9216 := hP ▸ P_mono n he

/-- A grid point's group has rows, and its tile is one that the group meets. -/
theorem T_spec (t : ℕ) : n (E n t) ≠ 0 ∧ P n (E n t) / 256 ≤ T n t ∧ T n t ≤ (P n (E n t + 1) - 1) / 256 ∧ T n t < 36 := by
  obtain ⟨he, h0, h1⟩ := E_spec hP t
  have hle := P_le hP (E n t + 1) (by omega)
  rw [Q_succ] at h1
  unfold tl at h1
  by_cases hn : n (E n t) = 0
  · rw [if_pos hn] at h1; omega
  · rw [if_neg hn] at h1
    have := P_succ n (E n t)
    refine ⟨hn, ?_, ?_, ?_⟩ <;> unfold T <;> omega

/-- Past the last visit a grid point has the group and the tile of the point before it. -/
theorem idle {t : ℕ} (ht : nv n ≤ t) : 1 ≤ t ∧ E n t = E n (t - 1) ∧ T n t = T n (t - 1) := by
  have := nv_pos hP
  have hv : vis n t = vis n (t - 1) := by unfold vis; omega
  have hE : E n t = E n (t - 1) := by unfold E; rw [hv]
  exact ⟨by omega, hE, by unfold T; rw [hE, hv]⟩

/-- The visit after a visit: the next tile of the same group; or the first tile of the next group with rows, which begins where the group
    before it ended. -/
theorem next {t : ℕ} (ht : t + 1 < nv n) :
    (E n (t + 1) = E n t ∧ T n (t + 1) = T n t + 1) ∨
      (P n (E n (t + 1)) = P n (E n t + 1) ∧ T n (t + 1) = P n (E n (t + 1)) / 256 ∧ T n t = (P n (E n t + 1) - 1) / 256) := by
  obtain ⟨he, h0, h1⟩ := E_spec hP t
  obtain ⟨he', h0', h1'⟩ := E_spec hP (t + 1)
  obtain ⟨hn, _, _, _⟩ := T_spec hP t
  have hv : vis n (t + 1) = vis n t + 1 := by unfold vis; omega
  by_cases hs : vis n t + 1 < Q n (E n t + 1)
  · have hE : E n (t + 1) = E n t := E_eq he (by omega) (by omega)
    refine .inl ⟨hE, ?_⟩
    unfold T
    rw [hE, hv]
    omega
  · right
    have hq : Q n (E n t + 1) = vis n t + 1 := by omega
    have hlt : E n t + 1 ≤ E n (t + 1) := by
      by_contra hc
      have := Q_mono n (by omega : E n (t + 1) + 1 ≤ E n t + 1)
      omega
    have hqe : Q n (E n (t + 1)) = Q n (E n t + 1) := le_antisymm (by omega) (Q_mono n hlt)
    have hp : ∀ k, E n t + 1 + k ≤ E n (t + 1) → P n (E n t + 1 + k) = P n (E n t + 1) := by
      intro k
      induction k with
      | zero => intro _; rfl
      | succ k ih =>
        intro hk
        have h1 := ih (by omega)
        have a := Q_mono n (by omega : E n t + 1 ≤ E n t + 1 + k)
        have b := Q_mono n (by omega : E n t + 1 + k + 1 ≤ E n (t + 1))
        have c := Q_succ n (E n t + 1 + k)
        have hz : tl n (E n t + 1 + k) = 0 := by omega
        have hnz : n (E n t + 1 + k) = 0 := by
          by_contra hne
          have d := P_succ n (E n t + 1 + k)
          unfold tl at hz
          rw [if_neg hne] at hz
          omega
        rw [← Nat.add_assoc, P_succ, h1, hnz, Nat.add_zero]
    have hpe := hp (E n (t + 1) - (E n t + 1)) (by omega)
    rw [Nat.add_sub_of_le hlt] at hpe
    refine ⟨hpe, ?_, ?_⟩
    · unfold T; omega
    · have d := Q_succ n (E n t)
      unfold tl at d
      rw [if_neg hn] at d
      have f := P_succ n (E n t)
      unfold T
      omega

/-- A visit whose group begins inside its tile is not the first of its tile: the visit before it is of the same tile, and its group ends
    where this one begins. -/
theorem shares {t : ℕ} (ht : t < nv n) (h : 256 * T n t < P n (E n t)) :
    1 ≤ t ∧ T n (t - 1) = T n t ∧ P n (E n (t - 1) + 1) = P n (E n t) := by
  rcases Nat.eq_zero_or_pos t with h0 | h0
  · exfalso
    subst h0
    obtain ⟨_, a, _⟩ := E_spec hP 0
    have hv : vis n 0 = 0 := by unfold vis; omega
    have := Q_le n (E n 0)
    rw [hv] at a
    have hz : ¬ 0 < P n (E n 0) := fun hp => by have := this.2 hp; omega
    omega
  · have hx := next hP (t := t - 1) (by omega)
    rw [Nat.sub_add_cancel h0] at hx
    obtain ⟨_, a, _, _⟩ := T_spec hP t
    obtain ⟨_, b, _, _⟩ := T_spec hP (t - 1)
    refine ⟨h0, ?_⟩
    rcases hx with ⟨hE, hT⟩ | ⟨hp, hT, hT'⟩
    · rw [← hE] at b
      omega
    · exact ⟨by omega, hp.symm⟩

/-- At the last visit of a tile the group's end has passed the tile. -/
theorem passes {t : ℕ} (ht : t < nv n) (h : t + 1 = nv n ∨ T n (t + 1) ≠ T n t) : 256 * (T n t + 1) ≤ P n (E n t + 1) := by
  obtain ⟨he, h0, h1⟩ := E_spec hP t
  by_cases hl : t + 1 = nv n
  · obtain ⟨hn, a, b, c⟩ := T_spec hP t
    have hv : vis n t = nv n - 1 := by unfold vis; omega
    have hq : Q n (E n t + 1) = nv n := le_antisymm (Q_mono n (by omega)) (by omega)
    have hp : ∀ k, E n t + 1 + k ≤ 8 → P n (E n t + 1 + k) = P n (E n t + 1) := by
      intro k
      induction k with
      | zero => intro _; rfl
      | succ k ih =>
        intro hk
        have h1 := ih (by omega)
        have a := Q_mono n (by omega : E n t + 1 ≤ E n t + 1 + k)
        have b : Q n (E n t + 1 + k + 1) ≤ nv n := Q_mono n (by omega)
        have c := Q_succ n (E n t + 1 + k)
        have hz : tl n (E n t + 1 + k) = 0 := by omega
        have hnz : n (E n t + 1 + k) = 0 := by
          by_contra hne
          have d := P_succ n (E n t + 1 + k)
          unfold tl at hz
          rw [if_neg hne] at hz
          omega
        rw [← Nat.add_assoc, P_succ, h1, hnz, Nat.add_zero]
    have hpe := hp (8 - (E n t + 1)) (by omega)
    rw [Nat.add_sub_of_le (by omega), hP] at hpe
    omega
  · have hne := h.resolve_left hl
    obtain ⟨hn, a, b, c⟩ := T_spec hP (t + 1)
    rcases next hP (t := t) (by omega) with ⟨hE, hT⟩ | ⟨hp, hT, hT'⟩
    · rw [hE] at b
      have := P_succ n (E n t)
      have := (T_spec hP t).1
      omega
    · omega

/-- Every tile is visited. -/
theorem visited {τ : ℕ} (hτ : τ < 36) : ∃ t, t < nv n ∧ T n t = τ := by
  have hex : ∃ e, e < 8 ∧ P n e ≤ 256 * τ ∧ 256 * τ < P n (e + 1) := by
    have : ∀ k, 256 * τ < P n k → ∃ e, e < k ∧ P n e ≤ 256 * τ ∧ 256 * τ < P n (e + 1) := by
      intro k
      induction k with
      | zero => intro h; rw [P_zero] at h; omega
      | succ k ih =>
        intro h
        by_cases hk : 256 * τ < P n k
        · obtain ⟨e, he, h0, h1⟩ := ih hk
          exact ⟨e, by omega, h0, h1⟩
        · exact ⟨k, by omega, by omega, h⟩
    exact this 8 (by omega)
  obtain ⟨e, he, h0, h1⟩ := hex
  have a := P_succ n e
  have b := Q_succ n e
  unfold tl at b
  rw [if_neg (by omega)] at b
  have hb : Q n (e + 1) ≤ nv n := Q_mono n (by omega)
  refine ⟨Q n e + (τ - P n e / 256), by omega, ?_⟩
  have hv : vis n (Q n e + (τ - P n e / 256)) = Q n e + (τ - P n e / 256) := by unfold vis; omega
  have hE : E n (Q n e + (τ - P n e / 256)) = e := E_eq he (by omega) (by omega)
  unfold T
  rw [hE, hv]
  omega

end

end Plan
-- ==== Proof.Visits.Words.lean ====
/-
  Small natural numbers as 32-bit words: what the integer operations of the visit plan do to them.
-/
module

public import Idealize.ShloMosaic.PureOps
public import Idealize.ShloMosaic.Lib.StableHlo.Predicate
public import proofs.«01_k».proof.Proof.Visits.Plan

@[expose] public section

namespace Plan

open Idealize.ShloMosaic

theorem toInt_small {k : ℕ} (hk : k < 2 ^ 31) : (BitVec.ofNat 32 k).toInt = (k : Int) :=
  StableHlo.Predicate.toInt_ofNat_small _ hk

theorem toNat_small {k : ℕ} (hk : k < 2 ^ 31) : (BitVec.ofNat 32 k).toNat = k := by
  rw [BitVec.toNat_ofNat, Nat.mod_eq_of_lt (by omega)]

theorem slt_small {a b : ℕ} (ha : a < 2 ^ 31) (hb : b < 2 ^ 31) : (BitVec.ofNat 32 a).slt (BitVec.ofNat 32 b) = decide (a < b) := by
  rw [BitVec.slt_eq_decide, toInt_small ha, toInt_small hb]
  simp only [Nat.cast_lt]

theorem sle_small {a b : ℕ} (ha : a < 2 ^ 31) (hb : b < 2 ^ 31) : (BitVec.ofNat 32 a).sle (BitVec.ofNat 32 b) = decide (a ≤ b) := by
  rw [BitVec.sle_eq_decide, toInt_small ha, toInt_small hb]
  simp only [Nat.cast_le]

theorem ofBool_one (b : Bool) : BitVec.ofBool b = 1#1 ↔ b = true := by cases b <;> decide

theorem minsi_small {a b : ℕ} (ha : a < 2 ^ 31) (hb : b < 2 ^ 31) :
    IntOp.minsi (BitVec.ofNat 32 a) (BitVec.ofNat 32 b) = BitVec.ofNat 32 (min a b) := by
  unfold IntOp.minsi
  rw [slt_small ha hb]
  by_cases h : a < b
  · rw [if_pos (decide_eq_true h), Nat.min_eq_left h.le]
  · rw [if_neg (by simpa using h), Nat.min_eq_right (by omega)]

theorem sub_small (a b : ℕ) : BitVec.ofNat 32 (a + b) - BitVec.ofNat 32 b = BitVec.ofNat 32 a := by
  rw [BitVec.ofNat_add, BitVec.add_sub_cancel]

theorem sub_small' {a b : ℕ} (h : b ≤ a) : BitVec.ofNat 32 a - BitVec.ofNat 32 b = BitVec.ofNat 32 (a - b) := by
  conv_lhs => rw [← Nat.sub_add_cancel h]
  exact sub_small _ _

theorem msb_small {k : ℕ} (hk : k < 2 ^ 31) : (BitVec.ofNat 32 k).msb = false := by
  rw [BitVec.msb_eq_false_iff_two_mul_lt, toNat_small hk]
  omega

/-- The quotient by 256 rounded down, of one word. -/
def fd (x : BitVec 32) : BitVec 32 :=
  Scalar.select (IntOp.andi (IntOp.cmpi .ne (if x = 0 then (0 : BitVec 32) else if x.msb then -1 else 1) (if (256#32 : BitVec 32) = 0 then (0 : BitVec 32) else if (256#32 : BitVec 32).msb then -1 else 1))
    (IntOp.cmpi .ne (IntOp.remsi .host x 256#32) 0#32)) (IntOp.subi (IntOp.divsi .host x 256#32) 1#32) (IntOp.divsi .host x 256#32)

theorem fd_small {k : ℕ} (hk : k < 2 ^ 31) : fd (BitVec.ofNat 32 k) = BitVec.ofNat 32 (k / 256) := by
  have hc : ¬ IntOp.SDivCorner (BitVec.ofNat 32 k) 256#32 := by
    unfold IntOp.SDivCorner
    simp
  have hdiv : IntOp.divsi .host (BitVec.ofNat 32 k) 256#32 = BitVec.ofNat 32 (k / 256) := by
    unfold IntOp.divsi
    rw [if_neg hc, BitVec.sdiv_eq, msb_small hk]
    apply BitVec.eq_of_toNat_eq
    show ((BitVec.ofNat 32 k).udiv 256#32).toNat = _
    rw [BitVec.udiv_eq, BitVec.toNat_udiv, toNat_small hk, toNat_small (by omega), toNat_small (by omega)]
  have hrem : k = 0 → IntOp.remsi .host (BitVec.ofNat 32 k) 256#32 = 0#32 := by
    rintro rfl
    unfold IntOp.remsi
    rw [if_neg hc]
    rfl
  unfold fd
  rw [hdiv]
  unfold Scalar.select
  rw [if_neg]
  intro h
  by_cases h0 : k = 0
  · rw [hrem h0] at h
    revert h
    subst h0
    decide
  · have hx : ¬ BitVec.ofNat 32 k = 0 := fun hh => h0 (by
      have := congrArg BitVec.toNat hh
      rw [toNat_small hk] at this
      exact this)
    rw [if_neg hx, msb_small hk] at h
    revert h
    generalize IntOp.cmpi _ (IntOp.remsi _ _ _) _ = w
    revert w
    decide

theorem sum_range (f : ℕ → ℕ) (k : ℕ) : ((List.range k).map f).sum = ∑ j ∈ Finset.range k, f j := by
  induction k with
  | zero => rfl
  | succ k ih => rw [List.range_succ, List.map_append, List.sum_append, ih, Finset.sum_range_succ]; simp

end Plan
-- ==== Proof.Kernel.Tables.lean ====
module

public import proofs.«01_k».proof.Proof.Kernel.Entry
public import proofs.«01_k».proof.Proof.Visits.Words
public import Idealize.ShloMosaic.Lib.Routing.Ops
public import Idealize.ShloMosaic.Lib.Routing.OpsSet

/-! The tables that the host lines make are the plan of visits: each word of each table is the plan's number. -/

@[expose] public section

set_option maxRecDepth 16384

noncomputable section

namespace Cert.Kernel.Hand

open Cert.Kernel Cert.Kernel.Gen
open Idealize.ShloMosaic Idealize.ShloMosaic.ValueIdx Idealize.ShloMosaic.Routing
open Plan

/-- The groups' sizes are `n 0`, …, `n 7`. -/
def Sizes (g : IVec S8 32) (n : ℕ → ℕ) : Prop := ∀ e : Fin 8, g (ix1 e) = BitVec.ofNat 32 (n e.val)

variable {g : IVec S8 32} {n : ℕ → ℕ}

theorem cumW_eq {x : IVec S8 32} {f : ℕ → ℕ} (hx : Sizes x f) (e : Fin 8) :
    cumW x (ix1 e) = BitVec.ofNat 32 (∑ j ∈ Finset.range (e.val + 1), f j) := by
  unfold cumW
  rw [← sum_range]
  exact cumsum1 (by decide) x f hx _ rfl _ _ e

theorem fdivW_eq (x : IVec S8 32) (e : Fin 8) : fdivW x (constantI S_ 32 256#32) (ix1 e) = fd (x (ix1 e)) := rfl

/-- The number of visits is the last group's end of visits. -/
theorem nvOf_eq (q : IVec S8 32) (i : S_.Idx) : nvOf q i = q (ix1 7) := by
  unfold nvOf
  refine congrArg q (funext fun a => Fin.ext ?_)
  match a with
  | ⟨0, _⟩ =>
    have : ∀ j : Fin 1, 7 + j.val = 7 := fun j => by omega
    exact this _

variable (hg : Sizes g n) (hP : P n 8 = 9216)
include hg

theorem endsW_eq (e : Fin 8) : endsW g (ix1 e) = BitVec.ofNat 32 (P n (e.val + 1)) := cumW_eq hg e

theorem startsW_eq (e : Fin 8) : startsW g (ix1 e) = BitVec.ofNat 32 (P n e.val) := by
  show endsW g (ix1 e) - g (ix1 e) = _
  rw [endsW_eq hg, hg e, P_succ, sub_small]

include hP

theorem firstW_eq (e : Fin 8) : firstW g (ix1 e) = BitVec.ofNat 32 (P n e.val / 256) := by
  have := P_le hP e.val (by omega)
  unfold firstW
  rw [fdivW_eq, startsW_eq hg, fd_small (by omega)]

theorem tilesW_eq : Sizes (tilesW g) (tl n) := fun e => by
  have h8 := P_le hP (e.val + 1) (by omega)
  have hs := P_succ n e.val
  show Scalar.select (IntOp.cmpi .sgt (g (ix1 e)) 0#32) (lastW g (ix1 e) - firstW g (ix1 e) + 1#32) 0#32 = _
  rw [hg e]
  unfold Scalar.select IntOp.cmpi tl
  dsimp only
  rw [show (0#32 : BitVec 32) = BitVec.ofNat 32 0 from rfl, slt_small (by omega) (by omega)]
  by_cases h0 : n e.val = 0
  · rw [h0, if_pos rfl]
    rfl
  · rw [if_neg h0, if_pos (by rw [decide_eq_true (by omega)]; rfl), firstW_eq hg hP]
    have hl : lastW g (ix1 e) = BitVec.ofNat 32 ((P n (e.val + 1) - 1) / 256) := by
      unfold lastW
      rw [fdivW_eq]
      show fd (endsW g (ix1 e) - BitVec.ofNat 32 1) = _
      rw [endsW_eq hg, sub_small' (by omega), fd_small (by omega)]
    rw [hl, sub_small' (by omega), show (1#32 : BitVec 32) = BitVec.ofNat 32 1 from rfl, ← BitVec.ofNat_add]
    congr 1
    omega

theorem vendW_eq (e : Fin 8) : vendW g (ix1 e) = BitVec.ofNat 32 (Q n (e.val + 1)) := cumW_eq (tilesW_eq hg hP) e

theorem nvW_eq (i : S_.Idx) : nvW g i = BitVec.ofNat 32 (nv n) :=
  (nvOf_eq (vendW g) i).trans (vendW_eq hg hP 7)

theorem visW_eq (t : Fin 43) : visOf (vendW g) (ix1 t) = BitVec.ofNat 32 (vis n t.val) := by
  have h1 := nv_pos hP
  have h2 := nv_le hP
  show IntOp.minsi (BitVec.ofNat 32 t.val) (nvW g _ - BitVec.ofNat 32 1) = _
  rw [nvW_eq hg hP, sub_small' (by omega), minsi_small (by omega) (by omega)]
  rfl

theorem groupW_eq (t : Fin 43) : groupW g (ix1 t) = BitVec.ofNat 32 (E n t.val) := by
  have h2 := nv_le hP
  have hv := vis_lt hP t.val
  have := reduce_count (n := 43) (m := 8) (by decide) (cmpi .sge (broadcastInDim S43x8 ![0, 1] bcast_S43x1_S43x8_0_1 (broadcastInDim S43x1 ![0] bcast_S43_S43x1_0 (visOf (vendW g))))
    (broadcastInDim S43x8 ![0, 1] bcast_S1x8_S43x8_0_1 (broadcastInDim S1x8 ![1] bcast_S8_S1x8_1 (vendW g)))) natLt_1_32 reducesTo_S43x8_S43_d1 h_S_ t
    (fun e => Q n (e + 1) ≤ vis n t.val) (fun q => by
      show IntOp.cmpi .sge (broadcastInDim S43x8 ![0, 1] bcast_S43x1_S43x8_0_1 (broadcastInDim S43x1 ![0] bcast_S43_S43x1_0 (visOf (vendW g))) (ix2 t q))
        (broadcastInDim S43x8 ![0, 1] bcast_S1x8_S43x8_0_1 (broadcastInDim S1x8 ![1] bcast_S8_S1x8_1 (vendW g)) (ix2 t q)) = 1#1 ↔ _
      rw [bcRows (n := 43) (m := 8) bcast_S43_S43x1_0 bcast_S43x1_S43x8_0_1 (visOf (vendW g)) t q,
        bcCols (n := 43) (m := 8) bcast_S8_S1x8_1 bcast_S1x8_S43x8_0_1 (vendW g) t q, visW_eq hg hP, vendW_eq hg hP]
      have hq : Q n (q.val + 1) ≤ nv n := Q_mono n (by omega)
      unfold IntOp.cmpi
      dsimp only
      rw [ofBool_one, sle_small (by omega) (by omega), decide_eq_true_iff])
  refine Eq.trans this ?_
  unfold E
  rw [Nat.count_eq_card_filter_range]

theorem wrapW_eq (t : Fin 43) : wrapW (groupW g) (ix2 t (0 : Fin 1)) = BitVec.ofNat 32 (E n t.val) := by
  have he := (E_spec hP t.val).1
  unfold wrapW
  rw [bcCol (n := 43) bcast_S43_S43x1_0]
  show Scalar.select (IntOp.cmpi .slt (groupW g (ix1 t)) (BitVec.ofNat 32 0)) (groupW g (ix1 t) + 8#32) (groupW g (ix1 t)) = _
  rw [groupW_eq hg hP]
  unfold Scalar.select IntOp.cmpi
  dsimp only
  rw [slt_small (by omega) (by omega), if_neg]
  rw [decide_eq_false (by omega)]
  decide

theorem tileW_eq (t : Fin 43) : tileW g (ix1 t) = BitVec.ofNat 32 (T n t.val) := by
  have he := (E_spec hP t.val).1
  have hq := (E_spec hP t.val).2.1
  have h1 : ∀ x : IVec S8 32, Host.gather gather_S8_S43x1_S43_n_0_n_n_0_1_1 x (wrapW (groupW g)) (ix1 t) = x (ix1 ⟨E n t.val, he⟩) := fun x =>
    gather_take1 gather_S8_S43x1_S43_n_0_n_n_0_1_1 rfl rfl rfl rfl x _ t ⟨E n t.val, he⟩ (wrapW_eq hg hP t) (by decide)
  show Host.gather gather_S8_S43x1_S43_n_0_n_n_0_1_1 (firstW g) (wrapW (groupW g)) (ix1 t) + visOf (vendW g) (ix1 t)
    - Host.gather gather_S8_S43x1_S43_n_0_n_n_0_1_1 (subi (vendW g) (tilesW g)) (wrapW (groupW g)) (ix1 t) = _
  rw [h1, h1, firstW_eq hg hP, visW_eq hg hP]
  show _ - (vendW g (ix1 _) - tilesW g (ix1 _)) = _
  rw [vendW_eq hg hP, tilesW_eq hg hP, Q_succ, sub_small, ← BitVec.ofNat_add, sub_small' (by dsimp only; omega)]
  unfold Plan.T
  congr 1
  dsimp only
  omega

end Cert.Kernel.Hand
-- ==== Proof.Kernel.Sched.lean ====
module

public import proofs.«01_k».proof.Proof.Kernel.Region
public import proofs.«01_k».proof.Proof.Kernel.Tables
public import proofs.«01_k».proof.Proof.Visits.Plan

/-! At tables that are the plan of visits the region is admissible, and the body's conditions are the plan's. -/

@[expose] public section

set_option maxRecDepth 16384

noncomputable section

namespace Cert.Kernel.Hand

open Cert.Kernel Cert.Kernel.Gen
open Idealize.ShloMosaic Idealize.ShloMosaic.ValueIdx
open Plan

variable {F : FTy → Type} [FloatOps F]

/-- The tables' contents are the plan of visits of the groups' sizes `n`. -/
structure Planned (pf : pre0.Contents (Elt F)) (n : ℕ → ℕ) : Prop where
  total : P n 8 = 9216
  expert : ∀ t : Fin 43, (pf 0 : S43.Idx → BitVec 32) (ix1 t) = BitVec.ofNat 32 (E n t.val)
  tile : ∀ t : Fin 43, (pf 1 : S43.Idx → BitVec 32) (ix1 t) = BitVec.ofNat 32 (T n t.val)
  lo : ∀ e : Fin 8, (pf 2 : S8.Idx → BitVec 32) (ix1 e) = BitVec.ofNat 32 (P n e.val)
  hi : ∀ e : Fin 8, (pf 3 : S8.Idx → BitVec 32) (ix1 e) = BitVec.ofNat 32 (P n (e.val + 1))
  count : ∀ j : S1.Idx, (pf 4 : S1.Idx → BitVec 32) j = BitVec.ofNat 32 (nv n)

theorem off1_val (i : grid0.Coords) : k0_off1 i 0 = (i 0).val := by
  have h : ∀ k : Fin 43, (Scalar.indexCast (BitVec.ofNat 32 k.val) : Index).toNat = k.val := by decide
  exact h (i 0)
theorem off2_val (e : Fin 8) : k0_off2 (BitVec.ofNat 32 e.val) 0 = e.val := by
  have h : ∀ k : Fin 8, (Scalar.indexCast (BitVec.ofNat 32 k.val) : Index).toNat = k.val := by decide
  exact h e

/-- The index that a one-word rectangle names. -/
theorem unit_first43 {off : Fin 1 → ℕ} (h : ∀ a, off a + S1.size a ≤ S43.size a) (k : Fin 43) (hk : off 0 = k.val)
    (j : S1.Idx) : (Rect.unit (s := S43) off S1.size h).emb j = ix1 k := by
  refine funext fun a => Fin.ext ?_
  match a with
  | ⟨0, _⟩ =>
    have hj : (j 0).val = 0 := by have := (j 0).isLt; have : (j 0).val < 1 := this; omega
    show off 0 + 1 * (j 0).val = k.val
    omega
theorem unit_first8 {off : Fin 1 → ℕ} (h : ∀ a, off a + S1.size a ≤ S8.size a) (k : Fin 8) (hk : off 0 = k.val)
    (j : S1.Idx) : (Rect.unit (s := S8) off S1.size h).emb j = ix1 k := by
  refine funext fun a => Fin.ext ?_
  match a with
  | ⟨0, _⟩ =>
    have hj : (j 0).val = 0 := by have := (j 0).isLt; have : (j 0).val < 1 := this; omega
    show off 0 + 1 * (j 0).val = k.val
    omega

section Words
variable {pf : pre0.Contents (Elt F)} {n : ℕ → ℕ} (hp : Planned pf n)
include hp

theorem E_lt (t : ℕ) : E n t < 8 := (E_spec hp.total t).1
theorem T_lt (t : ℕ) : T n t < 36 := (T_spec hp.total t).2.2.2
theorem P_lt {e : ℕ} (he : e ≤ 8) : P n e ≤ 9216 := P_le hp.total e he

theorem at_expert (i : grid0.Coords) :
    (pf.at 0 (Rect.unit (s := S43) (k0_off1 i) S1.size (k0_off1_inb i)) numel1_S1 : BitVec 32) = BitVec.ofNat 32 (E n (i 0).val) :=
  (congrArg (pf 0 : S43.Idx → BitVec 32) (unit_first43 (k0_off1_inb i) (i 0) (off1_val i) _)).trans (hp.expert (i 0))
theorem at_tile (i : grid0.Coords) :
    (pf.at 1 (Rect.unit (s := S43) (k0_off1 i) S1.size (k0_off1_inb i)) numel1_S1 : BitVec 32) = BitVec.ofNat 32 (T n (i 0).val) :=
  (congrArg (pf 1 : S43.Idx → BitVec 32) (unit_first43 (k0_off1_inb i) (i 0) (off1_val i) _)).trans (hp.tile (i 0))

theorem ix_0 (i : grid0.Coords) : cc0_transform_0 k0_off1_inb numel1_S1 pf i = ![T n (i 0).val, 0] := by
  have h := at_tile hp i
  have := T_lt hp (i 0).val
  show ![(pf.at 1 (Rect.unit (s := S43) (k0_off1 i) S1.size (k0_off1_inb i)) numel1_S1 : BitVec 32).toNat, 0] = _
  rw [h, toNat_small (by omega)]
theorem ix_1 (i : grid0.Coords) : cc0_transform_1 k0_off1_inb numel1_S1 pf i = ![T n (i 0).val, 0] := ix_0 hp i
theorem ix_4 (i : grid0.Coords) : cc0_transform_4 k0_off1_inb numel1_S1 pf i = ![T n (i 0).val, 0] := ix_0 hp i
theorem ix_2 (i : grid0.Coords) : cc0_transform_2 k0_off1_inb numel1_S1 pf i = ![E n (i 0).val, 0, 0] := by
  have h := at_expert hp i
  have := E_lt hp (i 0).val
  show ![(pf.at 0 (Rect.unit (s := S43) (k0_off1 i) S1.size (k0_off1_inb i)) numel1_S1 : BitVec 32).toNat, 0, 0] = _
  rw [h, toNat_small (by omega)]
theorem ix_3 (i : grid0.Coords) : cc0_transform_3 k0_off1_inb numel1_S1 pf i = ![E n (i 0).val, 0, 0] := ix_2 hp i

/-- Every block lies in its array, on whole words. -/
theorem ok0_of_planned : ok0 pf := by
  have hT := fun i : grid0.Coords => T_lt hp (i 0).val
  have hE := fun i : grid0.Coords => E_lt hp (i 0).val
  have i0 : ∀ (i : grid0.Coords) a, (cc0_transform_0 k0_off1_inb numel1_S1 pf i a + 1) * S256x2816.size a ≤ S9216x2816.size a := fun i a => by
    rw [ix_0 hp i]; have := hT i
    match a with
    | ⟨0, _⟩ => show (T n (i 0).val + 1) * 256 ≤ 9216; omega
    | ⟨1, _⟩ => show (0 + 1) * 2816 ≤ 2816; omega
  have i1 : ∀ (i : grid0.Coords) a, (cc0_transform_1 k0_off1_inb numel1_S1 pf i a + 1) * S256x1.size a ≤ S9216x1.size a := fun i a => by
    rw [ix_1 hp i]; have := hT i
    match a with
    | ⟨0, _⟩ => show (T n (i 0).val + 1) * 256 ≤ 9216; omega
    | ⟨1, _⟩ => show (0 + 1) * 1 ≤ 1; omega
  have i2 : ∀ (i : grid0.Coords) a, (cc0_transform_2 k0_off1_inb numel1_S1 pf i a + 1) * S1x2816x5632.size a ≤ S8x2816x5632.size a := fun i a => by
    rw [ix_2 hp i]; have := hE i
    match a with
    | ⟨0, _⟩ => show (E n (i 0).val + 1) * 1 ≤ 8; omega
    | ⟨1, _⟩ => show (0 + 1) * 2816 ≤ 2816; omega
    | ⟨2, _⟩ => show (0 + 1) * 5632 ≤ 5632; omega
  have i3 : ∀ (i : grid0.Coords) a, (cc0_transform_3 k0_off1_inb numel1_S1 pf i a + 1) * S1x1x5632.size a ≤ S8x1x5632.size a := fun i a => by
    rw [ix_3 hp i]; have := hE i
    match a with
    | ⟨0, _⟩ => show (E n (i 0).val + 1) * 1 ≤ 8; omega
    | ⟨1, _⟩ => show (0 + 1) * 1 ≤ 1; omega
    | ⟨2, _⟩ => show (0 + 1) * 5632 ≤ 5632; omega
  have i4 : ∀ (i : grid0.Coords) a, (cc0_transform_4 k0_off1_inb numel1_S1 pf i a + 1) * S256x5632.size a ≤ S9216x5632.size a := fun i a => by
    rw [ix_4 hp i]; have := hT i
    match a with
    | ⟨0, _⟩ => show (T n (i 0).val + 1) * 256 ≤ 9216; omega
    | ⟨1, _⟩ => show (0 + 1) * 5632 ≤ 5632; omega
  exact ⟨fun i => ⟨i0 i, .inr (Affine.block_words_dvd (s := S9216x2816) (p := EltTy.packing .fp8e4m3) (by decide) (by decide))⟩,
    fun i => ⟨i1 i, .inl rfl⟩,
    fun i => ⟨i2 i, .inr (Affine.block_words_dvd (s := S8x2816x5632) (p := EltTy.packing .fp8e4m3) (by decide) (by decide))⟩,
    fun i => ⟨i3 i, .inl rfl⟩,
    fun i => ⟨i4 i, .inr (Affine.block_words_dvd (s := S9216x5632) (p := EltTy.packing .bf16) (by decide) (by decide))⟩⟩

end Words

/-! ## The body's words and conditions -/

section Conds
variable (a : (pcfg0 (F := F)).Adm) {n : ℕ → ℕ} (hp : Planned a.1 n)
include hp

theorem wE_eq (i : grid0.Coords) : wE i (tE a) = BitVec.ofNat 32 (E n (i 0).val) := at_expert hp i
theorem wT_eq (i : grid0.Coords) : wT i (tT a) = BitVec.ofNat 32 (T n (i 0).val) := at_tile hp i
theorem chk_planned (i : grid0.Coords) : k0_chk1 (wE i (tE a)) := by
  rw [wE_eq a hp i]
  intro b
  have h := off2_val ⟨E n (i 0).val, E_lt hp _⟩
  have := E_lt hp (i 0).val
  match b with
  | ⟨0, _⟩ => show k0_off2 _ 0 + 1 ≤ 8; rw [h]; show E n (i 0).val + 1 ≤ 8; omega
theorem wLo_eq (i : grid0.Coords) (h : k0_chk1 (wE i (tE a))) : wLo (wE i (tE a)) h (tLo a) = BitVec.ofNat 32 (P n (E n (i 0).val)) :=
  (congrArg (tLo a) (unit_first8 (k0_off2_inb _ h) ⟨E n (i 0).val, E_lt hp _⟩ (by rw [wE_eq a hp i]; exact off2_val ⟨_, E_lt hp _⟩) _)).trans (hp.lo _)
theorem wHi_eq (i : grid0.Coords) (h : k0_chk1 (wE i (tE a))) : wHi (wE i (tE a)) h (tHi a) = BitVec.ofNat 32 (P n (E n (i 0).val + 1)) :=
  (congrArg (tHi a) (unit_first8 (k0_off2_inb _ h) ⟨E n (i 0).val, E_lt hp _⟩ (by rw [wE_eq a hp i]; exact off2_val ⟨_, E_lt hp _⟩) _)).trans (hp.hi _)
theorem wN_eq : wN (tN a) = BitVec.ofNat 32 (nv n) := hp.count _

omit hp [FloatOps F] in
theorem mul256 (k : ℕ) : IntOp.muli (BitVec.ofNat 32 k) 256#32 = BitVec.ofNat 32 (256 * k) := by
  show BitVec.ofNat 32 k * BitVec.ofNat 32 256 = _
  rw [← BitVec.ofNat_mul, Nat.mul_comm]

omit hp [FloatOps F] in
theorem cond1_nat (i : grid0.Coords) {T lo hi N : ℕ} (hT : T < 36) (hlo : lo ≤ 9216) (hhi : hi ≤ 9216) (hN : N ≤ 43) :
    k0_cond1 i (BitVec.ofNat 32 T) (BitVec.ofNat 32 lo) (BitVec.ofNat 32 hi) (BitVec.ofNat 32 N) = 1#1 ↔
      ((i 0).val < N ∧ lo ≤ 256 * T ∧ 256 * T + 256 ≤ hi) := by
  have hi0 : (i 0).val < 43 := (i 0).isLt
  unfold k0_cond1
  simp only [bool_cond]
  show (BitVec.ofBool ((BitVec.ofNat 32 (i 0).val).slt (BitVec.ofNat 32 N)) &&& (BitVec.ofBool ((BitVec.ofNat 32 lo).sle (BitVec.ofNat 32 T * 256#32)) &&&
    BitVec.ofBool ((BitVec.ofNat 32 T * 256#32 + 256#32).sle (BitVec.ofNat 32 hi)))) = 1#1 ↔ _
  have e1 : BitVec.ofNat 32 T * 256#32 = BitVec.ofNat 32 (256 * T) := mul256 T
  have e2 : BitVec.ofNat 32 (256 * T) + 256#32 = BitVec.ofNat 32 (256 * T + 256) := (BitVec.ofNat_add _ _).symm
  rw [e1, e2, slt_small (by omega) (by omega), sle_small (by omega) (by omega), sle_small (by omega) (by omega)]
  by_cases q1 : (i 0).val < N <;> by_cases q2 : lo ≤ 256 * T <;> by_cases q3 : 256 * T + 256 ≤ hi <;> simp [q1, q2, q3]

omit hp [FloatOps F] in
theorem cond2_nat (i : grid0.Coords) {T lo hi N : ℕ} (hT : T < 36) (hlo : lo ≤ 9216) (hhi : hi ≤ 9216) (hN : N ≤ 43) :
    k0_cond2 i (BitVec.ofNat 32 T) (BitVec.ofNat 32 lo) (BitVec.ofNat 32 hi) (BitVec.ofNat 32 N) = 1#1 ↔
      ((i 0).val < N ∧ ¬ (lo ≤ 256 * T ∧ 256 * T + 256 ≤ hi)) := by
  have hi0 : (i 0).val < 43 := (i 0).isLt
  unfold k0_cond2
  simp only [bool_cond]
  show (BitVec.ofBool ((BitVec.ofNat 32 (i 0).val).slt (BitVec.ofNat 32 N)) &&& ((BitVec.ofBool ((BitVec.ofNat 32 lo).sle (BitVec.ofNat 32 T * 256#32)) &&&
    BitVec.ofBool ((BitVec.ofNat 32 T * 256#32 + 256#32).sle (BitVec.ofNat 32 hi))) ^^^ 1#1)) = 1#1 ↔ _
  have e1 : BitVec.ofNat 32 T * 256#32 = BitVec.ofNat 32 (256 * T) := mul256 T
  have e2 : BitVec.ofNat 32 (256 * T) + 256#32 = BitVec.ofNat 32 (256 * T + 256) := (BitVec.ofNat_add _ _).symm
  rw [e1, e2, slt_small (by omega) (by omega), sle_small (by omega) (by omega), sle_small (by omega) (by omega)]
  by_cases q1 : (i 0).val < N <;> by_cases q2 : lo ≤ 256 * T <;> by_cases q3 : 256 * T + 256 ≤ hi <;> simp [q1, q2, q3]

omit hp [FloatOps F] in
theorem cond3_nat {T lo : ℕ} (hT : T < 36) (hlo : lo ≤ 9216) :
    k0_cond3 (BitVec.ofNat 32 T) (BitVec.ofNat 32 lo) = 1#1 ↔ lo ≤ 256 * T := by
  unfold k0_cond3
  simp only [bool_cond]
  show BitVec.ofBool ((BitVec.ofNat 32 lo).sle (BitVec.ofNat 32 T * 256#32)) = 1#1 ↔ _
  have e1 : BitVec.ofNat 32 T * 256#32 = BitVec.ofNat 32 (256 * T) := mul256 T
  rw [e1, sle_small (by omega) (by omega)]
  by_cases q2 : lo ≤ 256 * T <;> simp [q2]

theorem whole_iff (i : grid0.Coords) (h : k0_chk1 (wE i (tE a))) : Whole a i h ↔
    ((i 0).val < nv n ∧ P n (E n (i 0).val) ≤ 256 * T n (i 0).val ∧ 256 * T n (i 0).val + 256 ≤ P n (E n (i 0).val + 1)) := by
  unfold Whole
  rw [wT_eq a hp i, wLo_eq a hp i h, wHi_eq a hp i h, wN_eq a hp]
  exact cond1_nat i (T_lt hp _) (P_lt hp (by have := E_lt hp (i 0).val; omega)) (P_lt hp (by have := E_lt hp (i 0).val; omega)) (nv_le hp.total)
theorem shared_iff (i : grid0.Coords) (h : k0_chk1 (wE i (tE a))) : Shared a i h ↔
    ((i 0).val < nv n ∧ ¬ (P n (E n (i 0).val) ≤ 256 * T n (i 0).val ∧ 256 * T n (i 0).val + 256 ≤ P n (E n (i 0).val + 1))) := by
  unfold Shared
  rw [wT_eq a hp i, wLo_eq a hp i h, wHi_eq a hp i h, wN_eq a hp]
  exact cond2_nat i (T_lt hp _) (P_lt hp (by have := E_lt hp (i 0).val; omega)) (P_lt hp (by have := E_lt hp (i 0).val; omega)) (nv_le hp.total)
theorem begins_iff (i : grid0.Coords) (h : k0_chk1 (wE i (tE a))) : Begins a i h ↔ P n (E n (i 0).val) ≤ 256 * T n (i 0).val := by
  unfold Begins
  rw [wT_eq a hp i, wLo_eq a hp i h]
  exact cond3_nat (T_lt hp _) (P_lt hp (by have := E_lt hp (i 0).val; omega))

omit hp in
/-- The grid is one axis of 43 visits. -/
theorem crd_val (t : Fin (cfgA a).N) : ((crd a t) 0).val = t.val := by
  have h : ∀ t : Fin 43, ((grid0.coords t) 0).val = t.val := by decide +kernel
  exact h t

theorem index4 (t : Fin (cfgA a).N) : ((cfgA a).win (4 : Fin 5)).index t = ![T n t.val, 0] := by
  have h := ix_4 hp (crd a t)
  rw [crd_val a t] at h
  exact h

/-- A visit to the tile of the one before finds what that one left. -/
theorem fresh_same {t : ℕ} (ht : t + 1 < 43) (hlive : t < nv n) (hT : T n (t + 1) = T n t) : (cfgA a).fresh (4 : Fin 5) (t + 1) = false := by
  have htN : t < (cfgA a).N := by have : (cfgA a).N = 43 := rfl; omega
  rw [Pipeline.Cfg.fresh_succ _ _ t htN]
  have h1 : ((cfgA a).win (4 : Fin 5)).flush ⟨t, htN⟩ = false := by
    rw [Pipeline.Window.flush_eq_flushF]
    unfold Pipeline.Window.flushF
    have e : ¬ (∃ h : t + 1 < (cfgA a).grid.N, ∃ b, ((cfgA a).win (4 : Fin 5)).index ⟨t + 1, h⟩ b ≠ ((cfgA a).win (4 : Fin 5)).index ⟨t, htN⟩ b) := by
      rintro ⟨h, b, hb⟩
      refine hb ?_
      rw [index4 a hp ⟨t + 1, h⟩, index4 a hp ⟨t, htN⟩]
      show (![T n (t + 1), 0] : Fin 2 → ℕ) b = (![T n t, 0] : Fin 2 → ℕ) b
      rw [hT]
    have e2 : ¬ (t + 1 = (cfgA a).grid.N) := by
      have : (cfgA a).grid.N = 43 := rfl
      omega
    simp only [e, e2, decide_false, Bool.or_false, Bool.and_false]
  have h2 : (cfgA a).idle (4 : Fin 5) ((cfgA a).grid.coords ⟨t, htN⟩) = false := by
    have hc := crd_val a ⟨t, htN⟩
    refine Bool.eq_false_iff.2 fun hi => ?_
    obtain ⟨n1, n2⟩ := (idle_iff a (crd a ⟨t, htN⟩) (chk_planned a hp _)).1 hi
    rw [whole_iff a hp] at n1; rw [shared_iff a hp] at n2
    rw [hc] at n1 n2
    by_cases hq : P n (E n t) ≤ 256 * T n t ∧ 256 * T n t + 256 ≤ P n (E n t + 1)
    · exact n1 ⟨hlive, hq⟩
    · exact n2 ⟨hlive, hq⟩
  rw [h1, h2]; rfl

/-- So does a visit past the last. -/
theorem fresh_dead : ∀ t : ℕ, t < 43 → nv n ≤ t → (cfgA a).fresh (4 : Fin 5) t = false
  | 0, _, h => by have := nv_pos hp.total; omega
  | t + 1, ht, h => by
    obtain ⟨-, -, hT⟩ := idle hp.total h
    by_cases hl : t < nv n
    · exact fresh_same a hp ht hl hT
    have ih := fresh_dead t (by omega) (by omega)
    have htN : t < (cfgA a).N := by have : (cfgA a).N = 43 := rfl; omega
    rw [Pipeline.Cfg.fresh_succ _ _ t htN, ih, Bool.and_false, Bool.or_false]
    rw [Pipeline.Window.flush_eq_flushF]
    unfold Pipeline.Window.flushF
    have e : ¬ (∃ h : t + 1 < (cfgA a).grid.N, ∃ b, ((cfgA a).win (4 : Fin 5)).index ⟨t + 1, h⟩ b ≠ ((cfgA a).win (4 : Fin 5)).index ⟨t, htN⟩ b) := by
      rintro ⟨h, b, hb⟩
      refine hb ?_
      rw [index4 a hp ⟨t + 1, h⟩, index4 a hp ⟨t, htN⟩]
      show (![T n (t + 1), 0] : Fin 2 → ℕ) b = (![T n t, 0] : Fin 2 → ℕ) b
      rw [hT]; rfl
    have e2 : ¬ (t + 1 = (cfgA a).grid.N) := by
      have : (cfgA a).grid.N = 43 := rfl
      omega
    simp only [e, e2, decide_false, Bool.or_false, Bool.and_false]

/-- The plan's tables are what the region's proof needs. -/
theorem sched : Sched a where
  chk := chk_planned a hp
  later := fun t h2 h3 => by
    rw [shared_iff a hp, crd_val a t] at h2
    rw [begins_iff a hp, crd_val a t] at h3
    obtain ⟨h1, hT, -⟩ := shares hp.total h2.1 (by omega)
    have htN : t.val < 43 := t.isLt
    have e : t.val = (t.val - 1) + 1 := by omega
    rw [e]
    exact fresh_same a hp (by omega) (by omega) (by rw [← e]; exact hT.symm)
  dead := fun t h1 h2 => by
    rw [whole_iff a hp, crd_val a t] at h1
    rw [shared_iff a hp, crd_val a t] at h2
    refine fresh_dead a hp t.val t.isLt ?_
    by_contra hl
    by_cases hq : P n (E n t.val) ≤ 256 * T n t.val ∧ 256 * T n t.val + 256 ≤ P n (E n t.val + 1)
    · exact h1 ⟨by omega, hq⟩
    · exact h2 ⟨by omega, hq⟩

end Conds

end Cert.Kernel.Hand

end
-- ==== Proof.Kernel.Frame.lean ====
module

public import proofs.«01_k».proof.Proof.Kernel.Sched

/-! From the groups' sizes in memory to the tables, and the kernel's frame. -/

@[expose] public section

set_option maxRecDepth 16384

noncomputable section

namespace Cert.Kernel.Hand

open Cert.Kernel Cert.Kernel.Gen
open Idealize.ShloMosaic Idealize.ShloMosaic.ValueIdx
open Idealize.ShloMosaic.TcCoe
open Idealize.SL.Sem
open Plan

variable {F : FTy → Type} [FloatOps F]
variable (m : (ℓ : Loc nD τ sig) → Buf (Elt F) ℓ)

/-- What the region finds in memory is what the host lines leave. -/
theorem atEntry_eq (c : Dev nD) (b : Ref sig .tc) : atEntry m c b = entry (fun b => m (c, b)) (Proc.devRef .tc b) := by
  have h : (hostOps (F := F)).flatten = hostOps0 ++ (hostOps0_1 ++ (hostOps0_2 ++ (hostOps0_3 ++ (hostOps0_4 ++ (hostOps0_5 ++ (hostOps0_6 ++ (hostOps0_7 ++ hostOps0_8))))))) := by
    simp only [hostOps, List.flatten_cons, List.flatten_nil, List.append_nil]
  unfold atEntry entry
  rw [h]
  simp only [StableHlo.after_append]

/-- The tables the region finds. -/
def pfOf : pre0.Contents (Elt F) := fun k => atEntry m (0 : Dev nD) (pre0.ref k)

/-- The groups' sizes in memory. -/
abbrev gOf : IVec S8 32 := m (((0 : Dev nD).tc : Thread nD τ).loc main_arg4)

variable {n : ℕ → ℕ} (hg : Sizes (gOf m) n) (hP : P n 8 = 9216)
include hg hP

/-- They are the plan of visits. -/
theorem planned : Planned (pfOf m) n where
  total := hP
  expert t := (congrFun ((atEntry_eq m 0 main_v25).trans (entry_main_v25 _)) (ix1 t)).trans (groupW_eq hg hP t)
  tile t := (congrFun ((atEntry_eq m 0 main_v42).trans (entry_main_v42 _)) (ix1 t)).trans (tileW_eq hg hP t)
  lo e := (congrFun ((atEntry_eq m 0 main_v1).trans (entry_main_v1 _)) (ix1 e)).trans (startsW_eq hg e)
  hi e := (congrFun ((atEntry_eq m 0 main_v0).trans (entry_main_v0 _)) (ix1 e)).trans (endsW_eq hg e)
  count j := (congrFun ((atEntry_eq m 0 main_v43).trans (entry_main_v43 _)) j).trans (nvW_eq hg hP _)

omit hg hP in
/-- An input array after the run is what it was, at any tables. -/
theorem kept (a : (pcfg0 (F := F)).Adm) (hS : Sched a) (c : Dev nD) (w : Fin 5) (hw : ((cfgA a).win w).isOut = false) (N : ℕ) :
    (dats a hS (atEntry m) 0 c).arrAt w N = atEntry m c (Pipeline.arrRef (cfgA a).spec w) :=
  ((dats a hS (atEntry m) 0 c).arrAt_in w hw N).trans (by dsimp only [dats])

omit hg hP in
/-- No window of the region is over argument 3. -/
theorem rest_arg3 (a : (pcfg0 (F := F)).Adm) : ∀ w : Fin (cfgA a).W, ((cfgA a).spec w).arr.view.ref ≠ main_arg3 := by
  intro w
  change Fin 5 at w
  fin_cases w
  · exact show spec0_0.arr.view.ref ≠ main_arg3 by decide
  · exact show spec0_1.arr.view.ref ≠ main_arg3 by decide
  · exact show spec0_2.arr.view.ref ≠ main_arg3 by decide
  · exact show spec0_3.arr.view.ref ≠ main_arg3 by decide
  · exact show spec0_4.arr.view.ref ≠ main_arg3 by decide

omit hg hP in
/-- No window of the region is over argument 4. -/
theorem rest_arg4 (a : (pcfg0 (F := F)).Adm) : ∀ w : Fin (cfgA a).W, ((cfgA a).spec w).arr.view.ref ≠ main_arg4 := by
  intro w
  change Fin 5 at w
  fin_cases w
  · exact show spec0_0.arr.view.ref ≠ main_arg4 by decide
  · exact show spec0_1.arr.view.ref ≠ main_arg4 by decide
  · exact show spec0_2.arr.view.ref ≠ main_arg4 by decide
  · exact show spec0_3.arr.view.ref ≠ main_arg4 by decide
  · exact show spec0_4.arr.view.ref ≠ main_arg4 by decide

omit hg hP in
/-- The frame at any admissible tables that the region finds. -/
theorem frame_of (a : (pcfg0 (F := F)).Adm) (hS : Sched a) (ha : ∀ (c : Dev nD) (k : Fin (pcfg0 (F := F)).pre.K), atEntry m c ((pcfg0 (F := F)).pre.ref k) = a.1 k) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ?_, h.2⟩) (run a hS m ρ ha)
  refine ⟨?_, ?_, ?_, ?_, ?_⟩
  · exact ((h.1 c).1 (0 : Fin 5)).trans ((kept m a hS c 0 rfl _).trans ((atEntry_eq m c main_arg0).trans (entry_main_arg0 _)))
  · exact ((h.1 c).1 (1 : Fin 5)).trans ((kept m a hS c 1 rfl _).trans ((atEntry_eq m c main_arg1).trans (entry_main_arg1 _)))
  · exact ((h.1 c).1 (2 : Fin 5)).trans ((kept m a hS c 2 rfl _).trans ((atEntry_eq m c main_arg2).trans (entry_main_arg2 _)))
  · exact ((h.1 c).2 main_arg3 (Pipeline.mem_restRefs_of main_arg3 (by decide) (rest_arg3 a))).trans ((atEntry_eq m c main_arg3).trans (entry_main_arg3 _))
  · exact ((h.1 c).2 main_arg4 (Pipeline.mem_restRefs_of main_arg4 (by decide) (rest_arg4 a))).trans ((atEntry_eq m c main_arg4).trans (entry_main_arg4 _))

/-- There are admissible tables that the region finds, and they are the plan of visits. -/
theorem tables : ∃ a : (pcfg0 (F := F)).Adm, Planned a.1 n ∧ ∀ (c : Dev nD) (k : Fin (pcfg0 (F := F)).pre.K), atEntry m c ((pcfg0 (F := F)).pre.ref k) = a.1 k :=
  ⟨⟨pfOf m, ok0_of_planned (planned m hg hP)⟩, planned m hg hP, fun c k => by
    have : c = 0 := Subsingleton.elim _ _
    subst this; rfl⟩

/-- THE FRAME: the run ends, the arguments unchanged and the counters at zero. -/
theorem frame (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  obtain ⟨a, hp, ha⟩ := tables m hg hP
  exact frame_of m a (sched a hp) ha ρ

end Cert.Kernel.Hand

end
-- ==== Proof.KernelIdeal.Run.lean ====
module

public import proofs.«01_k».proof.Defs
public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

/-! The kernel's body run once on each of its four paths: a tile that lies in the expert's rows (`runWhole`), the first visit
    to a shared tile (`runFirst`), a later visit to one (`runLater`), and a visit past the last (`runDead`). Each run starts from
    the blocks that the windows hold and from the five tables, and says what it leaves in the result's block as the list of
    its stores, the last first. -/

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources of the proof. -/
local notation "𝕄" => MT nD τ sig Unit (Elt F) ℕ (UR sig nD τ) ℕ

/-- The five tables as the body is handed them: each visit's expert, each visit's tile, the experts' first rows, the
    experts' last rows and the number of visits. -/
abbrev tbM0 : Memref sig .tc .smem S43 .i32 := Memref.whole main_v25
abbrev tbM1 : Memref sig .tc .smem S43 .i32 := Memref.whole main_v42
abbrev tbM2 : Memref sig .tc .smem S8 .i32 := Memref.whole main_v1
abbrev tbM3 : Memref sig .tc .smem S8 .i32 := Memref.whole main_v0
abbrev tbM4 : Memref sig .tc .smem S1 .i32 := Memref.whole main_v43

/-- The words that the body reads at point `i`: the visit's expert, -/
abbrev wE (i : grid0.Coords) (T0 : S43.Idx → Elt F .i32) : BitVec 32 :=
  View.readAt (Elt F) tbM0.view (Rect.unit (s := S43) (k0_off1 i) S1.size (k0_off1_inb i)).toLoadRect T0 (Shape.Idx.first (numel1_S1.symm ▸ Nat.one_pos))
/-- its tile, -/
abbrev wT (i : grid0.Coords) (T1 : S43.Idx → Elt F .i32) : BitVec 32 :=
  View.readAt (Elt F) tbM1.view (Rect.unit (s := S43) (k0_off1 i) S1.size (k0_off1_inb i)).toLoadRect T1 (Shape.Idx.first (numel1_S1.symm ▸ Nat.one_pos))
/-- the first row of the expert `e`, -/
abbrev wLo (e : BitVec 32) (he : k0_chk1 e) (T2 : S8.Idx → Elt F .i32) : BitVec 32 :=
  View.readAt (Elt F) tbM2.view (Rect.unit (s := S8) (k0_off2 e) S1.size (k0_off2_inb e he)).toLoadRect T2 (Shape.Idx.first (numel1_S1.symm ▸ Nat.one_pos))
/-- the row past its last, -/
abbrev wHi (e : BitVec 32) (he : k0_chk1 e) (T3 : S8.Idx → Elt F .i32) : BitVec 32 :=
  View.readAt (Elt F) tbM3.view (Rect.unit (s := S8) (k0_off2 e) S1.size (k0_off2_inb e he)).toLoadRect T3 (Shape.Idx.first (numel1_S1.symm ▸ Nat.one_pos))
/-- and the number of visits. -/
abbrev wN (T4 : S1.Idx → Elt F .i32) : BitVec 32 :=
  View.readAt (Elt F) tbM4.view (Rect.unit (s := S1) ![0] S1.size inb_S1_S1_0).toLoadRect T4 (Shape.Idx.first (numel1_S1.symm ▸ Nat.one_pos))

set_option backward.proofsInPublic true in
set_option maxHeartbeats 16000000 in
/-- A live visit whose tile lies in the expert's rows: eleven stores, one for every 512 columns, over whatever the block held. -/
noncomputable def runWhole (c : Dev nD) (i : grid0.Coords) (arg6 : Memref sig .tc .vmem S256x2816 .fp8e4m3) (harg6 : arg6.IsWhole) (arg7 : Memref sig .tc .vmem S256x1 .f32) (harg7 : arg7.IsWhole)
    (arg8 : Memref sig .tc .vmem S1x2816x5632 .fp8e4m3) (harg8 : arg8.IsWhole) (arg9 : Memref sig .tc .vmem S1x1x5632 .f32) (harg9 : arg9.IsWhole)
    (arg10 : Memref sig .tc .vmem S256x5632 .bf16) (harg10 : arg10.IsWhole)
    (T0 : S43.Idx → Elt F .i32) (T1 : S43.Idx → Elt F .i32) (T2 : S8.Idx → Elt F .i32) (T3 : S8.Idx → Elt F .i32) (T4 : S1.Idx → Elt F .i32)
    (x0 : S256x2816.Idx → Elt F .fp8e4m3) (x1 : S256x1.Idx → Elt F .f32) (x2 : S1x2816x5632.Idx → Elt F .fp8e4m3) (x3 : S1x1x5632.Idx → Elt F .f32)
    (hw : k0_chk1 (wE i T0))
    (h1 : k0_cond1 i (wT i T1) (wLo (wE i T0) hw T2) (wHi (wE i T0) hw T3) (wN T4) = 1#1) (h2 : ¬(k0_cond2 i (wT i T1) (wLo (wE i T0) hw T2) (wHi (wE i T0) hw T3) (wN T4) = 1#1)) :
    { out : List (View.Piece (Elt F) S256x5632 .bf16) //
      ∀ (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (tbM0.view.loc (c : Thread nD τ) ↦{fullShare.right} T0)
          ∗ (tbM1.view.loc (c : Thread nD τ) ↦{fullShare.right} T1)
          ∗ (tbM2.view.loc (c : Thread nD τ) ↦{fullShare.right} T2)
          ∗ (tbM3.view.loc (c : Thread nD τ) ↦{fullShare.right} T3)
          ∗ (tbM4.view.loc (c : Thread nD τ) ↦{fullShare.right} T4)
          ∗ (∃ d, owns (c : Thread nD τ) arg10 fullShare d)
          ∗ (iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (tbM0.view.loc (c : Thread nD τ) ↦{fullShare.right} T0)
          ∗ (tbM1.view.loc (c : Thread nD τ) ↦{fullShare.right} T1)
          ∗ (tbM2.view.loc (c : Thread nD τ) ↦{fullShare.right} T2)
          ∗ (tbM3.view.loc (c : Thread nD τ) ↦{fullShare.right} T3)
          ∗ (tbM4.view.loc (c : Thread nD τ) ↦{fullShare.right} T4)
              ∗ (∃ f, arg10.view.loc (c : Thread nD τ) ↦[arg10.view.set]{fullShare} arg10.view.writes (Elt F) f out)) -∗ K ⟨⟩))
          ⊢ wp frame (wpE (defs₀ (F := F)) Variants.none c none) Set.univ (cc0_grouped_fp8_matmul i tbM0 (Memref.isWhole_whole _) tbM1 (Memref.isWhole_whole _) tbM2 (Memref.isWhole_whole _) tbM3 (Memref.isWhole_whole _) tbM4 (Memref.isWhole_whole _) arg6 harg6 arg7 harg7 arg8 harg8 arg9 harg9 arg10 harg10) K } :=
  ⟨_, fun K => by
    unfold owns
    rw [cc0_grouped_fp8_matmul_eq_skeleton]; unfold cc0_grouped_fp8_matmul_skel
    iintro ⟨H0, H1, H2, H3, HT0, HT1, HT2, HT3, HT4, ⟨%d4, %f4, -, HO4⟩, Hk⟩
    have hT0 : tbM0.IsWhole := Memref.isWhole_whole _
    have hT1 : tbM1.IsWhole := Memref.isWhole_whole _
    have hT2 : tbM2.IsWhole := Memref.isWhole_whole _
    have hT3 : tbM3.IsWhole := Memref.isWhole_whole _
    have hT4 : tbM4.IsWhole := Memref.isWhole_whole _
    sl_exec! (disch := first | (guard_target = k0_chk1 _; exact hw) | (guard_target = k0_cond1 _ _ _ _ _ = _; exact h1) | (guard_target = ¬(k0_cond2 _ _ _ _ _ = _); exact h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HT3]; · iexact HT3
    isplitl [HT4]; · iexact HT4
    iexists _; iexact HO4⟩

set_option backward.proofsInPublic true in
set_option maxHeartbeats 16000000 in
/-- The first live visit to a tile that several experts share: the block is zeroed, then its rows of this expert are written. -/
noncomputable def runFirst (c : Dev nD) (i : grid0.Coords) (arg6 : Memref sig .tc .vmem S256x2816 .fp8e4m3) (harg6 : arg6.IsWhole) (arg7 : Memref sig .tc .vmem S256x1 .f32) (harg7 : arg7.IsWhole)
    (arg8 : Memref sig .tc .vmem S1x2816x5632 .fp8e4m3) (harg8 : arg8.IsWhole) (arg9 : Memref sig .tc .vmem S1x1x5632 .f32) (harg9 : arg9.IsWhole)
    (arg10 : Memref sig .tc .vmem S256x5632 .bf16) (harg10 : arg10.IsWhole)
    (T0 : S43.Idx → Elt F .i32) (T1 : S43.Idx → Elt F .i32) (T2 : S8.Idx → Elt F .i32) (T3 : S8.Idx → Elt F .i32) (T4 : S1.Idx → Elt F .i32)
    (x0 : S256x2816.Idx → Elt F .fp8e4m3) (x1 : S256x1.Idx → Elt F .f32) (x2 : S1x2816x5632.Idx → Elt F .fp8e4m3) (x3 : S1x1x5632.Idx → Elt F .f32)
    (hw : k0_chk1 (wE i T0))
    (h1 : ¬(k0_cond1 i (wT i T1) (wLo (wE i T0) hw T2) (wHi (wE i T0) hw T3) (wN T4) = 1#1)) (h2 : k0_cond2 i (wT i T1) (wLo (wE i T0) hw T2) (wHi (wE i T0) hw T3) (wN T4) = 1#1) (h3 : k0_cond3 (wT i T1) (wLo (wE i T0) hw T2) = 1#1) :
    { out : List (View.Piece (Elt F) S256x5632 .bf16) //
      ∀ (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (tbM0.view.loc (c : Thread nD τ) ↦{fullShare.right} T0)
          ∗ (tbM1.view.loc (c : Thread nD τ) ↦{fullShare.right} T1)
          ∗ (tbM2.view.loc (c : Thread nD τ) ↦{fullShare.right} T2)
          ∗ (tbM3.view.loc (c : Thread nD τ) ↦{fullShare.right} T3)
          ∗ (tbM4.view.loc (c : Thread nD τ) ↦{fullShare.right} T4)
          ∗ (∃ d, owns (c : Thread nD τ) arg10 fullShare d)
          ∗ (iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (tbM0.view.loc (c : Thread nD τ) ↦{fullShare.right} T0)
          ∗ (tbM1.view.loc (c : Thread nD τ) ↦{fullShare.right} T1)
          ∗ (tbM2.view.loc (c : Thread nD τ) ↦{fullShare.right} T2)
          ∗ (tbM3.view.loc (c : Thread nD τ) ↦{fullShare.right} T3)
          ∗ (tbM4.view.loc (c : Thread nD τ) ↦{fullShare.right} T4)
              ∗ (∃ f, arg10.view.loc (c : Thread nD τ) ↦[arg10.view.set]{fullShare} arg10.view.writes (Elt F) f out)) -∗ K ⟨⟩))
          ⊢ wp frame (wpE (defs₀ (F := F)) Variants.none c none) Set.univ (cc0_grouped_fp8_matmul i tbM0 (Memref.isWhole_whole _) tbM1 (Memref.isWhole_whole _) tbM2 (Memref.isWhole_whole _) tbM3 (Memref.isWhole_whole _) tbM4 (Memref.isWhole_whole _) arg6 harg6 arg7 harg7 arg8 harg8 arg9 harg9 arg10 harg10) K } :=
  ⟨_, fun K => by
    unfold owns
    rw [cc0_grouped_fp8_matmul_eq_skeleton]; unfold cc0_grouped_fp8_matmul_skel
    iintro ⟨H0, H1, H2, H3, HT0, HT1, HT2, HT3, HT4, ⟨%d4, %f4, -, HO4⟩, Hk⟩
    have hT0 : tbM0.IsWhole := Memref.isWhole_whole _
    have hT1 : tbM1.IsWhole := Memref.isWhole_whole _
    have hT2 : tbM2.IsWhole := Memref.isWhole_whole _
    have hT3 : tbM3.IsWhole := Memref.isWhole_whole _
    have hT4 : tbM4.IsWhole := Memref.isWhole_whole _
    sl_exec! (disch := first | (guard_target = k0_chk1 _; exact hw) | (guard_target = ¬(k0_cond1 _ _ _ _ _ = _); exact h1) | (guard_target = k0_cond2 _ _ _ _ _ = _; exact h2) | (guard_target = k0_cond3 _ _ = _; exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HT3]; · iexact HT3
    isplitl [HT4]; · iexact HT4
    iexists _; iexact HO4⟩

set_option backward.proofsInPublic true in
set_option maxHeartbeats 16000000 in
/-- A later live visit to a shared tile: its rows of this expert are written, the others kept. -/
noncomputable def runLater (c : Dev nD) (i : grid0.Coords) (arg6 : Memref sig .tc .vmem S256x2816 .fp8e4m3) (harg6 : arg6.IsWhole) (arg7 : Memref sig .tc .vmem S256x1 .f32) (harg7 : arg7.IsWhole)
    (arg8 : Memref sig .tc .vmem S1x2816x5632 .fp8e4m3) (harg8 : arg8.IsWhole) (arg9 : Memref sig .tc .vmem S1x1x5632 .f32) (harg9 : arg9.IsWhole)
    (arg10 : Memref sig .tc .vmem S256x5632 .bf16) (harg10 : arg10.IsWhole)
    (T0 : S43.Idx → Elt F .i32) (T1 : S43.Idx → Elt F .i32) (T2 : S8.Idx → Elt F .i32) (T3 : S8.Idx → Elt F .i32) (T4 : S1.Idx → Elt F .i32)
    (x0 : S256x2816.Idx → Elt F .fp8e4m3) (x1 : S256x1.Idx → Elt F .f32) (x2 : S1x2816x5632.Idx → Elt F .fp8e4m3) (x3 : S1x1x5632.Idx → Elt F .f32)
    (x4 : S256x5632.Idx → Elt F .bf16)
    (hw : k0_chk1 (wE i T0))
    (h1 : ¬(k0_cond1 i (wT i T1) (wLo (wE i T0) hw T2) (wHi (wE i T0) hw T3) (wN T4) = 1#1)) (h2 : k0_cond2 i (wT i T1) (wLo (wE i T0) hw T2) (wHi (wE i T0) hw T3) (wN T4) = 1#1) (h3 : ¬(k0_cond3 (wT i T1) (wLo (wE i T0) hw T2) = 1#1)) :
    { out : List (View.Piece (Elt F) S256x5632 .bf16) //
      ∀ (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (tbM0.view.loc (c : Thread nD τ) ↦{fullShare.right} T0)
          ∗ (tbM1.view.loc (c : Thread nD τ) ↦{fullShare.right} T1)
          ∗ (tbM2.view.loc (c : Thread nD τ) ↦{fullShare.right} T2)
          ∗ (tbM3.view.loc (c : Thread nD τ) ↦{fullShare.right} T3)
          ∗ (tbM4.view.loc (c : Thread nD τ) ↦{fullShare.right} T4)
          ∗ (arg10.view.loc (c : Thread nD τ) ↦[arg10.view.set]{fullShare} arg10.view.rep x4)
          ∗ (iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (tbM0.view.loc (c : Thread nD τ) ↦{fullShare.right} T0)
          ∗ (tbM1.view.loc (c : Thread nD τ) ↦{fullShare.right} T1)
          ∗ (tbM2.view.loc (c : Thread nD τ) ↦{fullShare.right} T2)
          ∗ (tbM3.view.loc (c : Thread nD τ) ↦{fullShare.right} T3)
          ∗ (tbM4.view.loc (c : Thread nD τ) ↦{fullShare.right} T4)
              ∗ (∃ f, arg10.view.loc (c : Thread nD τ) ↦[arg10.view.set]{fullShare} arg10.view.writes (Elt F) f out)) -∗ K ⟨⟩))
          ⊢ wp frame (wpE (defs₀ (F := F)) Variants.none c none) Set.univ (cc0_grouped_fp8_matmul i tbM0 (Memref.isWhole_whole _) tbM1 (Memref.isWhole_whole _) tbM2 (Memref.isWhole_whole _) tbM3 (Memref.isWhole_whole _) tbM4 (Memref.isWhole_whole _) arg6 harg6 arg7 harg7 arg8 harg8 arg9 harg9 arg10 harg10) K } :=
  ⟨_, fun K => by
    rw [cc0_grouped_fp8_matmul_eq_skeleton]; unfold cc0_grouped_fp8_matmul_skel
    iintro ⟨H0, H1, H2, H3, HT0, HT1, HT2, HT3, HT4, HO4, Hk⟩
    have hT0 : tbM0.IsWhole := Memref.isWhole_whole _
    have hT1 : tbM1.IsWhole := Memref.isWhole_whole _
    have hT2 : tbM2.IsWhole := Memref.isWhole_whole _
    have hT3 : tbM3.IsWhole := Memref.isWhole_whole _
    have hT4 : tbM4.IsWhole := Memref.isWhole_whole _
    sl_exec! (disch := first | (guard_target = k0_chk1 _; exact hw) | (guard_target = ¬(k0_cond1 _ _ _ _ _ = _); exact h1) | (guard_target = k0_cond2 _ _ _ _ _ = _; exact h2) | (guard_target = ¬(k0_cond3 _ _ = _); exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HT3]; · iexact HT3
    isplitl [HT4]; · iexact HT4
    iexists _; iexact HO4⟩

set_option backward.proofsInPublic true in
set_option maxHeartbeats 16000000 in
/-- A visit past the last: nothing is stored, and the result's block is not touched. -/
theorem runDead (c : Dev nD) (i : grid0.Coords) (arg6 : Memref sig .tc .vmem S256x2816 .fp8e4m3) (harg6 : arg6.IsWhole) (arg7 : Memref sig .tc .vmem S256x1 .f32) (harg7 : arg7.IsWhole)
    (arg8 : Memref sig .tc .vmem S1x2816x5632 .fp8e4m3) (harg8 : arg8.IsWhole) (arg9 : Memref sig .tc .vmem S1x1x5632 .f32) (harg9 : arg9.IsWhole)
    (arg10 : Memref sig .tc .vmem S256x5632 .bf16) (harg10 : arg10.IsWhole)
    (T0 : S43.Idx → Elt F .i32) (T1 : S43.Idx → Elt F .i32) (T2 : S8.Idx → Elt F .i32) (T3 : S8.Idx → Elt F .i32) (T4 : S1.Idx → Elt F .i32)
    (x0 : S256x2816.Idx → Elt F .fp8e4m3) (x1 : S256x1.Idx → Elt F .f32) (x2 : S1x2816x5632.Idx → Elt F .fp8e4m3) (x3 : S1x1x5632.Idx → Elt F .f32)
    (hw : k0_chk1 (wE i T0))
    (h1 : ¬(k0_cond1 i (wT i T1) (wLo (wE i T0) hw T2) (wHi (wE i T0) hw T3) (wN T4) = 1#1)) (h2 : ¬(k0_cond2 i (wT i T1) (wLo (wE i T0) hw T2) (wHi (wE i T0) hw T3) (wN T4) = 1#1)) :
    ∀ (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (tbM0.view.loc (c : Thread nD τ) ↦{fullShare.right} T0)
          ∗ (tbM1.view.loc (c : Thread nD τ) ↦{fullShare.right} T1)
          ∗ (tbM2.view.loc (c : Thread nD τ) ↦{fullShare.right} T2)
          ∗ (tbM3.view.loc (c : Thread nD τ) ↦{fullShare.right} T3)
          ∗ (tbM4.view.loc (c : Thread nD τ) ↦{fullShare.right} T4)
          ∗ (iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (tbM0.view.loc (c : Thread nD τ) ↦{fullShare.right} T0)
          ∗ (tbM1.view.loc (c : Thread nD τ) ↦{fullShare.right} T1)
          ∗ (tbM2.view.loc (c : Thread nD τ) ↦{fullShare.right} T2)
          ∗ (tbM3.view.loc (c : Thread nD τ) ↦{fullShare.right} T3)
          ∗ (tbM4.view.loc (c : Thread nD τ) ↦{fullShare.right} T4)
) -∗ K ⟨⟩))
          ⊢ wp frame (wpE (defs₀ (F := F)) Variants.none c none) Set.univ (cc0_grouped_fp8_matmul i tbM0 (Memref.isWhole_whole _) tbM1 (Memref.isWhole_whole _) tbM2 (Memref.isWhole_whole _) tbM3 (Memref.isWhole_whole _) tbM4 (Memref.isWhole_whole _) arg6 harg6 arg7 harg7 arg8 harg8 arg9 harg9 arg10 harg10) K := by
    intro K
    rw [cc0_grouped_fp8_matmul_eq_skeleton]; unfold cc0_grouped_fp8_matmul_skel
    iintro ⟨H0, H1, H2, H3, HT0, HT1, HT2, HT3, HT4, Hk⟩
    have hT0 : tbM0.IsWhole := Memref.isWhole_whole _
    have hT1 : tbM1.IsWhole := Memref.isWhole_whole _
    have hT2 : tbM2.IsWhole := Memref.isWhole_whole _
    have hT3 : tbM3.IsWhole := Memref.isWhole_whole _
    have hT4 : tbM4.IsWhole := Memref.isWhole_whole _
    sl_exec! (disch := first | (guard_target = k0_chk1 _; exact hw) | (guard_target = ¬(k0_cond1 _ _ _ _ _ = _); exact h1) | (guard_target = ¬(k0_cond2 _ _ _ _ _ = _); exact h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HT3]; · iexact HT3
    iexact HT4

/-- The result's block, as a buffer to read the stores back from. -/
abbrev VO : View sig .tc .vmem S256x5632 .bf16 := (Memref.whole cc0_stg4_0 : Memref sig .tc .vmem S256x5632 .bf16).view

/-- Its stores tile the block. -/
theorem runWhole_cover (c : Dev nD) (i : grid0.Coords) (arg6 : Memref sig .tc .vmem S256x2816 .fp8e4m3) (harg6 : arg6.IsWhole) (arg7 : Memref sig .tc .vmem S256x1 .f32) (harg7 : arg7.IsWhole)
    (arg8 : Memref sig .tc .vmem S1x2816x5632 .fp8e4m3) (harg8 : arg8.IsWhole) (arg9 : Memref sig .tc .vmem S1x1x5632 .f32) (harg9 : arg9.IsWhole)
    (arg10 : Memref sig .tc .vmem S256x5632 .bf16) (harg10 : arg10.IsWhole)
    (T0 : S43.Idx → Elt F .i32) (T1 : S43.Idx → Elt F .i32) (T2 : S8.Idx → Elt F .i32) (T3 : S8.Idx → Elt F .i32) (T4 : S1.Idx → Elt F .i32)
    (x0 : S256x2816.Idx → Elt F .fp8e4m3) (x1 : S256x1.Idx → Elt F .f32) (x2 : S1x2816x5632.Idx → Elt F .fp8e4m3) (x3 : S1x1x5632.Idx → Elt F .f32)
    (hw : k0_chk1 (wE i T0))
    (h1 : k0_cond1 i (wT i T1) (wLo (wE i T0) hw T2) (wHi (wE i T0) hw T3) (wN T4) = 1#1) (h2 : ¬(k0_cond2 i (wT i T1) (wLo (wE i T0) hw T2) (wHi (wE i T0) hw T3) (wN T4) = 1#1)) (y : S256x5632.Idx) :
    ∃ pc ∈ (runWhole c i arg6 harg6 arg7 harg7 arg8 harg8 arg9 harg9 arg10 harg10 T0 T1 T2 T3 T4 x0 x1 x2 x3 hw h1 h2).1, y ∈ pc.1.set :=
  View.cover_of_tiledL (runWhole c i arg6 harg6 arg7 harg7 arg8 harg8 arg9 harg9 arg10 harg10 T0 T1 T2 T3 T4 x0 x1 x2 x3 hw h1 h2).1 S256x512.size (by sl_kernel_rfl) y

/-- What a whole tile leaves in the result's block: its stores read back. -/
def outWhole (c : Dev nD) (i : grid0.Coords) (arg6 : Memref sig .tc .vmem S256x2816 .fp8e4m3) (harg6 : arg6.IsWhole) (arg7 : Memref sig .tc .vmem S256x1 .f32) (harg7 : arg7.IsWhole)
    (arg8 : Memref sig .tc .vmem S1x2816x5632 .fp8e4m3) (harg8 : arg8.IsWhole) (arg9 : Memref sig .tc .vmem S1x1x5632 .f32) (harg9 : arg9.IsWhole)
    (arg10 : Memref sig .tc .vmem S256x5632 .bf16) (harg10 : arg10.IsWhole)
    (T0 : S43.Idx → Elt F .i32) (T1 : S43.Idx → Elt F .i32) (T2 : S8.Idx → Elt F .i32) (T3 : S8.Idx → Elt F .i32) (T4 : S1.Idx → Elt F .i32)
    (x0 : S256x2816.Idx → Elt F .fp8e4m3) (x1 : S256x1.Idx → Elt F .f32) (x2 : S1x2816x5632.Idx → Elt F .fp8e4m3) (x3 : S1x1x5632.Idx → Elt F .f32)
    (hw : k0_chk1 (wE i T0))
    (h1 : k0_cond1 i (wT i T1) (wLo (wE i T0) hw T2) (wHi (wE i T0) hw T3) (wN T4) = 1#1) (h2 : ¬(k0_cond2 i (wT i T1) (wLo (wE i T0) hw T2) (wHi (wE i T0) hw T3) (wN T4) = 1#1)) : S256x5632.Idx → Elt F .bf16 :=
  VO.read (Elt F) (VO.writes (Elt F) VO.junk (runWhole c i arg6 harg6 arg7 harg7 arg8 harg8 arg9 harg9 arg10 harg10 T0 T1 T2 T3 T4 x0 x1 x2 x3 hw h1 h2).1)

/-- Its stores tile the block. -/
theorem runFirst_cover (c : Dev nD) (i : grid0.Coords) (arg6 : Memref sig .tc .vmem S256x2816 .fp8e4m3) (harg6 : arg6.IsWhole) (arg7 : Memref sig .tc .vmem S256x1 .f32) (harg7 : arg7.IsWhole)
    (arg8 : Memref sig .tc .vmem S1x2816x5632 .fp8e4m3) (harg8 : arg8.IsWhole) (arg9 : Memref sig .tc .vmem S1x1x5632 .f32) (harg9 : arg9.IsWhole)
    (arg10 : Memref sig .tc .vmem S256x5632 .bf16) (harg10 : arg10.IsWhole)
    (T0 : S43.Idx → Elt F .i32) (T1 : S43.Idx → Elt F .i32) (T2 : S8.Idx → Elt F .i32) (T3 : S8.Idx → Elt F .i32) (T4 : S1.Idx → Elt F .i32)
    (x0 : S256x2816.Idx → Elt F .fp8e4m3) (x1 : S256x1.Idx → Elt F .f32) (x2 : S1x2816x5632.Idx → Elt F .fp8e4m3) (x3 : S1x1x5632.Idx → Elt F .f32)
    (hw : k0_chk1 (wE i T0))
    (h1 : ¬(k0_cond1 i (wT i T1) (wLo (wE i T0) hw T2) (wHi (wE i T0) hw T3) (wN T4) = 1#1)) (h2 : k0_cond2 i (wT i T1) (wLo (wE i T0) hw T2) (wHi (wE i T0) hw T3) (wN T4) = 1#1) (h3 : k0_cond3 (wT i T1) (wLo (wE i T0) hw T2) = 1#1) (y : S256x5632.Idx) :
    ∃ pc ∈ (runFirst c i arg6 harg6 arg7 harg7 arg8 harg8 arg9 harg9 arg10 harg10 T0 T1 T2 T3 T4 x0 x1 x2 x3 hw h1 h2 h3).1, y ∈ pc.1.set :=
  View.cover_of_tiledL (runFirst c i arg6 harg6 arg7 harg7 arg8 harg8 arg9 harg9 arg10 harg10 T0 T1 T2 T3 T4 x0 x1 x2 x3 hw h1 h2 h3).1 S256x512.size (by sl_kernel_rfl) y

/-- What the first visit to a shared tile leaves in the result's block: its stores read back. -/
def outFirst (c : Dev nD) (i : grid0.Coords) (arg6 : Memref sig .tc .vmem S256x2816 .fp8e4m3) (harg6 : arg6.IsWhole) (arg7 : Memref sig .tc .vmem S256x1 .f32) (harg7 : arg7.IsWhole)
    (arg8 : Memref sig .tc .vmem S1x2816x5632 .fp8e4m3) (harg8 : arg8.IsWhole) (arg9 : Memref sig .tc .vmem S1x1x5632 .f32) (harg9 : arg9.IsWhole)
    (arg10 : Memref sig .tc .vmem S256x5632 .bf16) (harg10 : arg10.IsWhole)
    (T0 : S43.Idx → Elt F .i32) (T1 : S43.Idx → Elt F .i32) (T2 : S8.Idx → Elt F .i32) (T3 : S8.Idx → Elt F .i32) (T4 : S1.Idx → Elt F .i32)
    (x0 : S256x2816.Idx → Elt F .fp8e4m3) (x1 : S256x1.Idx → Elt F .f32) (x2 : S1x2816x5632.Idx → Elt F .fp8e4m3) (x3 : S1x1x5632.Idx → Elt F .f32)
    (hw : k0_chk1 (wE i T0))
    (h1 : ¬(k0_cond1 i (wT i T1) (wLo (wE i T0) hw T2) (wHi (wE i T0) hw T3) (wN T4) = 1#1)) (h2 : k0_cond2 i (wT i T1) (wLo (wE i T0) hw T2) (wHi (wE i T0) hw T3) (wN T4) = 1#1) (h3 : k0_cond3 (wT i T1) (wLo (wE i T0) hw T2) = 1#1) : S256x5632.Idx → Elt F .bf16 :=
  VO.read (Elt F) (VO.writes (Elt F) VO.junk (runFirst c i arg6 harg6 arg7 harg7 arg8 harg8 arg9 harg9 arg10 harg10 T0 T1 T2 T3 T4 x0 x1 x2 x3 hw h1 h2 h3).1)

/-- Its stores tile the block. -/
theorem runLater_cover (c : Dev nD) (i : grid0.Coords) (arg6 : Memref sig .tc .vmem S256x2816 .fp8e4m3) (harg6 : arg6.IsWhole) (arg7 : Memref sig .tc .vmem S256x1 .f32) (harg7 : arg7.IsWhole)
    (arg8 : Memref sig .tc .vmem S1x2816x5632 .fp8e4m3) (harg8 : arg8.IsWhole) (arg9 : Memref sig .tc .vmem S1x1x5632 .f32) (harg9 : arg9.IsWhole)
    (arg10 : Memref sig .tc .vmem S256x5632 .bf16) (harg10 : arg10.IsWhole)
    (T0 : S43.Idx → Elt F .i32) (T1 : S43.Idx → Elt F .i32) (T2 : S8.Idx → Elt F .i32) (T3 : S8.Idx → Elt F .i32) (T4 : S1.Idx → Elt F .i32)
    (x0 : S256x2816.Idx → Elt F .fp8e4m3) (x1 : S256x1.Idx → Elt F .f32) (x2 : S1x2816x5632.Idx → Elt F .fp8e4m3) (x3 : S1x1x5632.Idx → Elt F .f32)
    (x4 : S256x5632.Idx → Elt F .bf16)
    (hw : k0_chk1 (wE i T0))
    (h1 : ¬(k0_cond1 i (wT i T1) (wLo (wE i T0) hw T2) (wHi (wE i T0) hw T3) (wN T4) = 1#1)) (h2 : k0_cond2 i (wT i T1) (wLo (wE i T0) hw T2) (wHi (wE i T0) hw T3) (wN T4) = 1#1) (h3 : ¬(k0_cond3 (wT i T1) (wLo (wE i T0) hw T2) = 1#1)) (y : S256x5632.Idx) :
    ∃ pc ∈ (runLater c i arg6 harg6 arg7 harg7 arg8 harg8 arg9 harg9 arg10 harg10 T0 T1 T2 T3 T4 x0 x1 x2 x3 x4 hw h1 h2 h3).1, y ∈ pc.1.set :=
  View.cover_of_tiledL (runLater c i arg6 harg6 arg7 harg7 arg8 harg8 arg9 harg9 arg10 harg10 T0 T1 T2 T3 T4 x0 x1 x2 x3 x4 hw h1 h2 h3).1 S256x512.size (by sl_kernel_rfl) y

/-- What a later visit to a shared tile leaves in the result's block: its stores read back. -/
def outLater (c : Dev nD) (i : grid0.Coords) (arg6 : Memref sig .tc .vmem S256x2816 .fp8e4m3) (harg6 : arg6.IsWhole) (arg7 : Memref sig .tc .vmem S256x1 .f32) (harg7 : arg7.IsWhole)
    (arg8 : Memref sig .tc .vmem S1x2816x5632 .fp8e4m3) (harg8 : arg8.IsWhole) (arg9 : Memref sig .tc .vmem S1x1x5632 .f32) (harg9 : arg9.IsWhole)
    (arg10 : Memref sig .tc .vmem S256x5632 .bf16) (harg10 : arg10.IsWhole)
    (T0 : S43.Idx → Elt F .i32) (T1 : S43.Idx → Elt F .i32) (T2 : S8.Idx → Elt F .i32) (T3 : S8.Idx → Elt F .i32) (T4 : S1.Idx → Elt F .i32)
    (x0 : S256x2816.Idx → Elt F .fp8e4m3) (x1 : S256x1.Idx → Elt F .f32) (x2 : S1x2816x5632.Idx → Elt F .fp8e4m3) (x3 : S1x1x5632.Idx → Elt F .f32)
    (x4 : S256x5632.Idx → Elt F .bf16)
    (hw : k0_chk1 (wE i T0))
    (h1 : ¬(k0_cond1 i (wT i T1) (wLo (wE i T0) hw T2) (wHi (wE i T0) hw T3) (wN T4) = 1#1)) (h2 : k0_cond2 i (wT i T1) (wLo (wE i T0) hw T2) (wHi (wE i T0) hw T3) (wN T4) = 1#1) (h3 : ¬(k0_cond3 (wT i T1) (wLo (wE i T0) hw T2) = 1#1)) : S256x5632.Idx → Elt F .bf16 :=
  VO.read (Elt F) (VO.writes (Elt F) VO.junk (runLater c i arg6 harg6 arg7 harg7 arg8 harg8 arg9 harg9 arg10 harg10 T0 T1 T2 T3 T4 x0 x1 x2 x3 x4 hw h1 h2 h3).1)

end Cert.KernelIdeal.Hand

end
-- ==== Proof.KernelIdeal.Region.lean ====
module

public import proofs.«01_k».proof.Defs
public import proofs.«01_k».proof.Proof.Gen.KernelIdeal
public import proofs.«01_k».proof.Proof.Gen.KernelIdeal.Launch
public import proofs.«01_k».proof.Proof.Gen.KernelIdeal.Skeleton
public import proofs.«01_k».proof.Proof.KernelIdeal.Run
public import Idealize.ShloMosaic.Lib.Pipeline.Kit
public import Idealize.ShloMosaic.Lib.Pipeline.Frame
public import Idealize.ShloMosaic.Lib.Pipeline.TableIdle
public import Idealize.ShloMosaic.Lib.Pipeline.FrameBody
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

/-! The kernel's region at any admissible tables: what the result's block holds after each visit, that the body keeps to it, and
    the whole run of the kernel. The tables enter by what `Sched` says of them: every visit's expert is one of the eight, and a
    visit that keeps what the block held before, or a visit past the last, comes after a visit to the same tile. -/

@[expose] public section

set_option maxRecDepth 16384
set_option Elab.async false

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The resources of the proof. -/
local notation "𝕄" => MT nD τ sig Unit (Elt F) ℕ (UR sig nD τ) ℕ

/-- Where the proof keeps the pipeline's own state. -/
abbrev EP : Emb (UR sig nD τ) 𝕄 := emb₁

variable (a : (pcfg0 (F := F)).Adm)

/-- The kernel's pipeline at the tables `a`. -/
abbrev cfgA : Pipeline.Cfg sig Λ₀ := cfg0 (F := F) a

/-- The tables: each visit's expert, each visit's tile, the experts' first rows, the rows past their last, the number of visits. -/
abbrev tE : S43.Idx → Elt F .i32 := a.1 0
abbrev tT : S43.Idx → Elt F .i32 := a.1 1
abbrev tLo : S8.Idx → Elt F .i32 := a.1 2
abbrev tHi : S8.Idx → Elt F .i32 := a.1 3
abbrev tN : S1.Idx → Elt F .i32 := a.1 4

/-- The visit lies in the expert's rows whole; -/
abbrev Whole (i : grid0.Coords) (h : k0_chk1 (wE i (tE a))) : Prop :=
  k0_cond1 i (wT i (tT a)) (wLo (wE i (tE a)) h (tLo a)) (wHi (wE i (tE a)) h (tHi a)) (wN (tN a)) = 1#1
/-- it is a visit to a tile that other experts share; -/
abbrev Shared (i : grid0.Coords) (h : k0_chk1 (wE i (tE a))) : Prop :=
  k0_cond2 i (wT i (tT a)) (wLo (wE i (tE a)) h (tLo a)) (wHi (wE i (tE a)) h (tHi a)) (wN (tN a)) = 1#1
/-- the expert's rows begin at the tile's first row or before it. -/
abbrev Begins (i : grid0.Coords) (h : k0_chk1 (wE i (tE a))) : Prop :=
  k0_cond3 (wT i (tT a)) (wLo (wE i (tE a)) h (tLo a)) = 1#1

theorem bool_cond (b : BitVec 1) : (Scalar.cmpi .ne (Scalar.extui b : BitVec 32) (0#32) = 1#1) ↔ b = 1#1 := by
  revert b; decide

/-- A visit is not both. -/
theorem not_shared_of_whole (i : grid0.Coords) (w3 w6 w8 w9 : BitVec 32) (h : k0_cond1 i w3 w6 w8 w9 = 1#1) : ¬ k0_cond2 i w3 w6 w8 w9 = 1#1 := by
  unfold k0_cond1 at h; unfold k0_cond2
  simp only [bool_cond] at h ⊢
  generalize Scalar.cmpi .slt (BitVec.ofNat 32 (i 0).val) w9 = p at h ⊢
  generalize Scalar.andi (Scalar.cmpi .sle w6 (Scalar.muli w3 256#32)) (Scalar.cmpi .sle (Scalar.addi (Scalar.muli w3 256#32) 256#32) w8) = q at h ⊢
  revert p q; decide

/-- Point `t`'s coordinates, and the windows' buffers there. -/
abbrev crd (t : Fin (cfgA a).N) : (cfgA a).grid.Coords := (cfgA a).grid.coords t
abbrev ms0 (t : Fin (cfgA a).N) : Memref sig .tc .vmem S256x2816 .fp8e4m3 := spec0_0.stage ((cfgA a).slots t (0 : Fin 5))
abbrev hs0 (t : Fin (cfgA a).N) : (ms0 a t).IsWhole := hstage0_0 (((cfgA a).slots t (0 : Fin 5)).cast nbuf0_0)
abbrev ms1 (t : Fin (cfgA a).N) : Memref sig .tc .vmem S256x1 .f32 := spec0_1.stage ((cfgA a).slots t (1 : Fin 5))
abbrev hs1 (t : Fin (cfgA a).N) : (ms1 a t).IsWhole := hstage0_1 (((cfgA a).slots t (1 : Fin 5)).cast nbuf0_1)
abbrev ms2 (t : Fin (cfgA a).N) : Memref sig .tc .vmem S1x2816x5632 .fp8e4m3 := spec0_2.stage ((cfgA a).slots t (2 : Fin 5))
abbrev hs2 (t : Fin (cfgA a).N) : (ms2 a t).IsWhole := hstage0_2 (((cfgA a).slots t (2 : Fin 5)).cast nbuf0_2)
abbrev ms3 (t : Fin (cfgA a).N) : Memref sig .tc .vmem S1x1x5632 .f32 := spec0_3.stage ((cfgA a).slots t (3 : Fin 5))
abbrev hs3 (t : Fin (cfgA a).N) : (ms3 a t).IsWhole := hstage0_3 (((cfgA a).slots t (3 : Fin 5)).cast nbuf0_3)
abbrev ms4 (t : Fin (cfgA a).N) : Memref sig .tc .vmem S256x5632 .bf16 := spec0_4.stage ((cfgA a).slots t (4 : Fin 5))
abbrev hs4 (t : Fin (cfgA a).N) : (ms4 a t).IsWhole := hstage0_4 (((cfgA a).slots t (4 : Fin 5)).cast nbuf0_4)

/-- What the proof needs of the tables. -/
structure Sched : Prop where
  /-- every visit's expert is one of the eight; -/
  chk : ∀ i : grid0.Coords, k0_chk1 (wE i (tE a))
  /-- a visit that keeps what the block held finds there what the visit before left; -/
  later : ∀ t : Fin (cfgA a).N, Shared a (crd a t) (chk _) → ¬ Begins a (crd a t) (chk _) → (cfgA a).fresh (4 : Fin 5) t.val = false
  /-- and so does a visit past the last. -/
  dead : ∀ t : Fin (cfgA a).N, ¬ Whole a (crd a t) (chk _) → ¬ Shared a (crd a t) (chk _) → (cfgA a).fresh (4 : Fin 5) t.val = false

/-! The words that the pipeline's table of idle points names are the words the body reads. -/

theorem off1_lt (i : grid0.Coords) : ∀ b : Fin 1, k0_off1 i b + 1 ≤ S43.size b := fun b => by
  have h := k0_off1_inb i b
  fin_cases b; exact h
theorem off2_lt (e : BitVec 32) (h : k0_chk1 e) : ∀ b : Fin 1, k0_off2 e b + 1 ≤ S8.size b := fun b => by
  have h := k0_off2_inb e h b
  fin_cases b; exact h
theorem zero_lt_S1 : ∀ b : Fin 1, (![0] : Fin 1 → ℕ) b + 1 ≤ S1.size b := by decide

set_option backward.isDefEq.respectTransparency.types false in
theorem atD0 (i : grid0.Coords) : (a.1.atD 0 (k0_off1 i) : BitVec 32) = wE i (tE a) := by
  unfold Pipeline.Prefetch.Contents.atD
  split
  · rfl
  · rename_i hn; exact absurd (off1_lt i) hn
set_option backward.isDefEq.respectTransparency.types false in
theorem atD1 (i : grid0.Coords) : (a.1.atD 1 (k0_off1 i) : BitVec 32) = wT i (tT a) := by
  unfold Pipeline.Prefetch.Contents.atD
  split
  · rfl
  · rename_i hn; exact absurd (off1_lt i) hn
set_option backward.isDefEq.respectTransparency.types false in
theorem atD2 (e : BitVec 32) (h : k0_chk1 e) : (a.1.atD 2 (k0_off2 e) : BitVec 32) = wLo e h (tLo a) := by
  unfold Pipeline.Prefetch.Contents.atD
  split
  · rfl
  · rename_i hn; exact absurd (off2_lt e h) hn
set_option backward.isDefEq.respectTransparency.types false in
theorem atD3 (e : BitVec 32) (h : k0_chk1 e) : (a.1.atD 3 (k0_off2 e) : BitVec 32) = wHi e h (tHi a) := by
  unfold Pipeline.Prefetch.Contents.atD
  split
  · rfl
  · rename_i hn; exact absurd (off2_lt e h) hn
set_option backward.isDefEq.respectTransparency.types false in
theorem atD4 : (a.1.atD 4 ![0] : BitVec 32) = wN (tN a) := by
  unfold Pipeline.Prefetch.Contents.atD
  split
  · rfl
  · rename_i hn; exact absurd zero_lt_S1 hn

/-- The pipeline's test for an idle point, on the words. -/
def idleW (i : grid0.Coords) (w3 w6 w8 w9 : BitVec 32) : Bool :=
  !(k0_cond1 i w3 w6 w8 w9 == 1#1) && !(k0_cond2 i w3 w6 w8 w9 == 1#1 && k0_cond3 w3 w6 == 1#1) && !(k0_cond2 i w3 w6 w8 w9 == 1#1)

theorem idleW_iff (i : grid0.Coords) (w3 w6 w8 w9 : BitVec 32) :
    idleW i w3 w6 w8 w9 = true ↔ (¬ k0_cond1 i w3 w6 w8 w9 = 1#1 ∧ ¬ k0_cond2 i w3 w6 w8 w9 = 1#1) := by
  unfold idleW
  generalize k0_cond1 i w3 w6 w8 w9 = p
  generalize k0_cond2 i w3 w6 w8 w9 = q
  generalize k0_cond3 w3 w6 = r
  revert p q r; decide

/-- The result's window is idle at a point exactly when the visit is past the last. -/
theorem idle_iff (i : grid0.Coords) (h : k0_chk1 (wE i (tE a))) : (cfgA a).idle (4 : Fin 5) i = true ↔ (¬ Whole a i h ∧ ¬ Shared a i h) := by
  have e : (cfgA a).idle (4 : Fin 5) i = idleW i (a.1.atD 1 (k0_off1 i)) (a.1.atD 2 (k0_off2 (a.1.atD 0 (k0_off1 i)))) (a.1.atD 3 (k0_off2 (a.1.atD 0 (k0_off1 i)))) (a.1.atD 4 ![0]) := rfl
  have e2 : (a.1.atD 2 (k0_off2 (a.1.atD 0 (k0_off1 i))) : BitVec 32) = wLo (wE i (tE a)) h (tLo a) :=
    (congrArg (fun e : BitVec 32 => (a.1.atD 2 (k0_off2 e) : BitVec 32)) (atD0 a i)).trans (atD2 a _ h)
  have e3 : (a.1.atD 3 (k0_off2 (a.1.atD 0 (k0_off1 i))) : BitVec 32) = wHi (wE i (tE a)) h (tHi a) :=
    (congrArg (fun e : BitVec 32 => (a.1.atD 3 (k0_off2 e) : BitVec 32)) (atD0 a i)).trans (atD3 a _ h)
  exact (Eq.to_iff (congrArg (· = true) (e.trans (congrArg₂ (fun f x => f x) (congrArg₂ (fun f x => f x) (congrArg₂ (idleW i) (atD1 a i) e2) e3) (atD4 a))))).trans (idleW_iff _ _ _ _ _)

variable (hS : Sched a)
variable (V : (c : Dev nD) → (b : Ref sig .tc) → Buf (Elt F) ((c.tc : Thread nD τ).loc b))

/-- Window `w`'s block at point `t`, read off its array as the region finds it. -/
def iblk (c : Dev nD) (w : Fin (cfgA a).W) (t : Fin (cfgA a).N) : (((cfgA a).win w).xblock (crd a t)).Idx → Elt F ((cfgA a).win w).elt :=
  (((cfgA a).win w).blk t).view.read (Elt F) (V c (Pipeline.arrRef (cfgA a).spec w))

open scoped Classical in
/-- What the result's block holds after the visit at `t`, from what it held before. -/
def step (c : Dev nD) (t : Fin (cfgA a).N) (prev : S256x5632.Idx → Elt F .bf16) : S256x5632.Idx → Elt F .bf16 :=
  if h1 : Whole a (crd a t) (hS.chk _) then
    outWhole c (crd a t) (ms0 a t) (hs0 a t) (ms1 a t) (hs1 a t) (ms2 a t) (hs2 a t) (ms3 a t) (hs3 a t) (ms4 a t) (hs4 a t) (tE a) (tT a) (tLo a) (tHi a) (tN a) (iblk a V c (0 : Fin 5) t) (iblk a V c (1 : Fin 5) t) (iblk a V c (2 : Fin 5) t) (iblk a V c (3 : Fin 5) t) (hS.chk _) h1 (not_shared_of_whole _ _ _ _ _ h1)
  else if h2 : Shared a (crd a t) (hS.chk _) then
    if h3 : Begins a (crd a t) (hS.chk _) then
      outFirst c (crd a t) (ms0 a t) (hs0 a t) (ms1 a t) (hs1 a t) (ms2 a t) (hs2 a t) (ms3 a t) (hs3 a t) (ms4 a t) (hs4 a t) (tE a) (tT a) (tLo a) (tHi a) (tN a) (iblk a V c (0 : Fin 5) t) (iblk a V c (1 : Fin 5) t) (iblk a V c (2 : Fin 5) t) (iblk a V c (3 : Fin 5) t) (hS.chk _) h1 h2 h3
    else outLater c (crd a t) (ms0 a t) (hs0 a t) (ms1 a t) (hs1 a t) (ms2 a t) (hs2 a t) (ms3 a t) (hs3 a t) (ms4 a t) (hs4 a t) (tE a) (tT a) (tLo a) (tHi a) (tN a) (iblk a V c (0 : Fin 5) t) (iblk a V c (1 : Fin 5) t) (iblk a V c (2 : Fin 5) t) (iblk a V c (3 : Fin 5) t) prev (hS.chk _) h1 h2 h3
  else prev

/-- What it holds after each visit. -/
def traj (c : Dev nD) : (n : ℕ) → n < (cfgA a).N → (S256x5632.Idx → Elt F .bf16)
  | 0, h => step a hS V c ⟨0, h⟩ (VO.read (Elt F) VO.junk)
  | n + 1, h => step a hS V c ⟨n + 1, h⟩ (traj c n (Nat.lt_of_succ_lt h))

/-- What it held before one. -/
def prev (c : Dev nD) (t : Fin (cfgA a).N) : (S256x5632.Idx → Elt F .bf16) :=
  if h : t.val = 0 then (VO.read (Elt F) VO.junk) else traj a hS V c (t.val - 1) (by omega)

theorem traj_eq (c : Dev nD) (t : Fin (cfgA a).N) : traj a hS V c t.val t.isLt = step a hS V c t (prev a hS V c t) := by
  obtain ⟨n, hn⟩ := t
  cases n with
  | zero => rfl
  | succ n => unfold prev; simp only [Nat.add_one_ne_zero, dif_neg, not_false_eq_true]; rfl

/-- The proof's account of the region. -/
def dats (_ : Fin 1) (c : Dev nD) : Dat τ (Elt F) Unit ℕ (UR sig nD τ) ℕ (cfgA a) c where
  A w := V c (Pipeline.arrRef (cfgA a).spec w)
  after w t := match w with
    | ⟨0, _⟩ => iblk a V c (0 : Fin 5) t
    | ⟨1, _⟩ => iblk a V c (1 : Fin 5) t
    | ⟨2, _⟩ => iblk a V c (2 : Fin 5) t
    | ⟨3, _⟩ => iblk a V c (3 : Fin 5) t
    | ⟨4, _⟩ => (traj a hS V c t.val t.isLt)
  Φ t := iprop(Pipeline.ΦA spec0 c ∗ Pipeline.ΦT pre0 a.1 c)
  q _ := fullShare
  owed _ := 0

theorem after0 (c : Dev nD) (t : Fin (cfgA a).N) : (dats a hS V 0 c).after (0 : Fin 5) t = iblk a V c (0 : Fin 5) t := rfl
theorem after1 (c : Dev nD) (t : Fin (cfgA a).N) : (dats a hS V 0 c).after (1 : Fin 5) t = iblk a V c (1 : Fin 5) t := rfl
theorem after2 (c : Dev nD) (t : Fin (cfgA a).N) : (dats a hS V 0 c).after (2 : Fin 5) t = iblk a V c (2 : Fin 5) t := rfl
theorem after3 (c : Dev nD) (t : Fin (cfgA a).N) : (dats a hS V 0 c).after (3 : Fin 5) t = iblk a V c (3 : Fin 5) t := rfl
theorem after4 (c : Dev nD) (t : Fin (cfgA a).N) : (dats a hS V 0 c).after (4 : Fin 5) t = traj a hS V c t.val t.isLt := rfl

/-- Input 0's buffer holds its block when the body runs. -/
theorem before0 (c : Dev nD) (t : Fin (cfgA a).N) (d) : (dats a hS V 0 c).before (0 : Fin 5) t d = iblk a V c (0 : Fin 5) t :=
  ((dats a hS V 0 c).before_in_eq_fetched (0 : Fin 5) rfl (fun _ => rfl) (fun _ _ _ => rfl) (fun t => by rw [after0]; unfold Dat.blockOf iblk; rfl) t d).trans
    (by unfold Dat.fetched Dat.blockOf iblk; rfl)

/-- Input 1's buffer holds its block when the body runs. -/
theorem before1 (c : Dev nD) (t : Fin (cfgA a).N) (d) : (dats a hS V 0 c).before (1 : Fin 5) t d = iblk a V c (1 : Fin 5) t :=
  ((dats a hS V 0 c).before_in_eq_fetched (1 : Fin 5) rfl (fun _ => rfl) (fun _ _ _ => rfl) (fun t => by rw [after1]; unfold Dat.blockOf iblk; rfl) t d).trans
    (by unfold Dat.fetched Dat.blockOf iblk; rfl)

/-- Input 2's buffer holds its block when the body runs. -/
theorem before2 (c : Dev nD) (t : Fin (cfgA a).N) (d) : (dats a hS V 0 c).before (2 : Fin 5) t d = iblk a V c (2 : Fin 5) t :=
  ((dats a hS V 0 c).before_in_eq_fetched (2 : Fin 5) rfl (fun _ => rfl) (fun _ _ _ => rfl) (fun t => by rw [after2]; unfold Dat.blockOf iblk; rfl) t d).trans
    (by unfold Dat.fetched Dat.blockOf iblk; rfl)

/-- Input 3's buffer holds its block when the body runs. -/
theorem before3 (c : Dev nD) (t : Fin (cfgA a).N) (d) : (dats a hS V 0 c).before (3 : Fin 5) t d = iblk a V c (3 : Fin 5) t :=
  ((dats a hS V 0 c).before_in_eq_fetched (3 : Fin 5) rfl (fun _ => rfl) (fun _ _ _ => rfl) (fun t => by rw [after3]; unfold Dat.blockOf iblk; rfl) t d).trans
    (by unfold Dat.fetched Dat.blockOf iblk; rfl)

/-- A visit past the last leaves the block as it was. -/
theorem carry (c : Dev nD) : ∀ (t : Fin (cfgA a).N) (ht : t.val ≠ 0), (cfgA a).idle (4 : Fin 5) ((cfgA a).grid.coords t) = true → (cfgA a).fresh (4 : Fin 5) t.val = false →
    (dats a hS V 0 c).after (4 : Fin 5) t = (dats a hS V 0 c).after (4 : Fin 5) ⟨t.val - 1, by omega⟩ := by
  intro t ht hi hf
  rw [after4, after4, traj_eq]
  have h := (idle_iff a (crd a t) (hS.chk _)).1 hi
  unfold step prev
  rw [dif_neg h.1, dif_neg h.2, dif_neg ht]

/-- The result's block holds what the visit before left, unless it was written back since. -/
theorem before4 (c : Dev nD) (t : Fin (cfgA a).N) (d) :
    (dats a hS V 0 c).before (4 : Fin 5) t d = if (cfgA a).fresh (4 : Fin 5) t.val then d else (prev a hS V c t) := by
  rw [(dats a hS V 0 c).before_out_traj (4 : Fin 5) rfl (fun _ _ => rfl) (carry a hS V c) t.val t rfl d]
  by_cases hf : (cfgA a).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after4]; unfold prev; rw [dif_neg h0]

/-- The tables as the body is handed them. -/
theorem prefHeld_eq (c : Dev nD) (q : Fin 5 → PosShare TreeShare) (v : pre0.Contents (Elt F)) :
    (Pipeline.prefHeld (Ix := Unit) (Name := ℕ) (U := UR sig nD τ) (Lvl := ℕ) pre0 c q v : sProp 𝕄)
      = iprop((((c : Thread nD τ).loc main_v25) ↦{q 0} v 0) ∗ (((c : Thread nD τ).loc main_v42) ↦{q 1} v 1) ∗ (((c : Thread nD τ).loc main_v1) ↦{q 2} v 2) ∗ (((c : Thread nD τ).loc main_v0) ↦{q 3} v 3) ∗ (((c : Thread nD τ).loc main_v43) ↦{q 4} v 4)) := by
  unfold Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-- The body at point `t`, as the pipeline calls it. -/
abbrev bodyAt (t : Fin (cfgA a).N) : Prog (TpuEff nD τ sig (Elt F) Λ₀ .tc) PUnit :=
  cc0_grouped_fp8_matmul (crd a t) tbM0 (Memref.isWhole_whole _) tbM1 (Memref.isWhole_whole _) tbM2 (Memref.isWhole_whole _) tbM3 (Memref.isWhole_whole _) tbM4 (Memref.isWhole_whole _) (ms0 a t) (hs0 a t) (ms1 a t) (hs1 a t) (ms2 a t) (hs2 a t) (ms3 a t) (hs3 a t) (ms4 a t) (hs4 a t)

theorem step_whole (c : Dev nD) (t : Fin (cfgA a).N) (p) (h1 : Whole a (crd a t) (hS.chk _)) : step a hS V c t p = outWhole c (crd a t) (ms0 a t) (hs0 a t) (ms1 a t) (hs1 a t) (ms2 a t) (hs2 a t) (ms3 a t) (hs3 a t) (ms4 a t) (hs4 a t) (tE a) (tT a) (tLo a) (tHi a) (tN a) (iblk a V c (0 : Fin 5) t) (iblk a V c (1 : Fin 5) t) (iblk a V c (2 : Fin 5) t) (iblk a V c (3 : Fin 5) t) (hS.chk _) h1 (not_shared_of_whole _ _ _ _ _ h1) := by
  unfold step; rw [dif_pos h1]
theorem step_first (c : Dev nD) (t : Fin (cfgA a).N) (p) (h1 : ¬ Whole a (crd a t) (hS.chk _)) (h2 : Shared a (crd a t) (hS.chk _)) (h3 : Begins a (crd a t) (hS.chk _)) : step a hS V c t p = outFirst c (crd a t) (ms0 a t) (hs0 a t) (ms1 a t) (hs1 a t) (ms2 a t) (hs2 a t) (ms3 a t) (hs3 a t) (ms4 a t) (hs4 a t) (tE a) (tT a) (tLo a) (tHi a) (tN a) (iblk a V c (0 : Fin 5) t) (iblk a V c (1 : Fin 5) t) (iblk a V c (2 : Fin 5) t) (iblk a V c (3 : Fin 5) t) (hS.chk _) h1 h2 h3 := by
  unfold step; rw [dif_neg h1, dif_pos h2, dif_pos h3]
theorem step_later (c : Dev nD) (t : Fin (cfgA a).N) (p) (h1 : ¬ Whole a (crd a t) (hS.chk _)) (h2 : Shared a (crd a t) (hS.chk _)) (h3 : ¬ Begins a (crd a t) (hS.chk _)) : step a hS V c t p = outLater c (crd a t) (ms0 a t) (hs0 a t) (ms1 a t) (hs1 a t) (ms2 a t) (hs2 a t) (ms3 a t) (hs3 a t) (ms4 a t) (hs4 a t) (tE a) (tT a) (tLo a) (tHi a) (tN a) (iblk a V c (0 : Fin 5) t) (iblk a V c (1 : Fin 5) t) (iblk a V c (2 : Fin 5) t) (iblk a V c (3 : Fin 5) t) p (hS.chk _) h1 h2 h3 := by
  unfold step; rw [dif_neg h1, dif_pos h2, dif_neg h3]
theorem step_dead (c : Dev nD) (t : Fin (cfgA a).N) (p) (h1 : ¬ Whole a (crd a t) (hS.chk _)) (h2 : ¬ Shared a (crd a t) (hS.chk _)) : step a hS V c t p = p := by
  unfold step; rw [dif_neg h1, dif_neg h2]

set_option maxHeartbeats 4000000 in
/-- The body keeps to the account at a whole tile, -/
theorem body_whole (c : Dev nD) (t : Fin (cfgA a).N) (h1 : Whole a (crd a t) (hS.chk _)) :
    iprop((dats a hS V 0 c).Φ t.castSucc ∗ (dats a hS V 0 c).owesAt () t.castSucc
        ∗ (∃ d, owns (c : Thread nD τ) (ms0 a t) fullShare ((dats a hS V 0 c).before (0 : Fin 5) t d))
        ∗ (∃ d, owns (c : Thread nD τ) (ms1 a t) fullShare ((dats a hS V 0 c).before (1 : Fin 5) t d))
        ∗ (∃ d, owns (c : Thread nD τ) (ms2 a t) fullShare ((dats a hS V 0 c).before (2 : Fin 5) t d))
        ∗ (∃ d, owns (c : Thread nD τ) (ms3 a t) fullShare ((dats a hS V 0 c).before (3 : Fin 5) t d))
        ∗ (∃ d, owns (c : Thread nD τ) (ms4 a t) fullShare ((dats a hS V 0 c).before (4 : Fin 5) t d)))
      ⊢ wp frame (wpE (defs₀ (F := F)) Variants.none c none) Set.univ (bodyAt a t) fun _ =>
          iprop((dats a hS V 0 c).Φ t.succ ∗ (dats a hS V 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a hS V 0 c).before w t d))
                  | true => owns (c : Thread nD τ) (((cfgA a).win w).stage ((cfgA a).slots t w)) fullShare ((dats a hS V 0 c).after w t)
                | false => owns (c : Thread nD τ) (((cfgA a).win w).stage ((cfgA a).slots t w)) fullShare ((dats a hS V 0 c).after w t)) := by
  have i4 : (cfgA a).idle (4 : Fin 5) ((cfgA a).grid.coords t) = false := by
    rw [← Bool.not_eq_true, idle_iff a _ (hS.chk _)]; tauto
  rw [bigSep_W0]
  rewrite [i4]
  simp only [before0, before1, before2, before3, before4, after0, after1, after2, after3, after4]
  rewrite [show (dats a hS V 0 c).Φ t.succ = iprop(Pipeline.ΦA spec0 c ∗ Pipeline.ΦT pre0 a.1 c) from rfl, show (dats a hS V 0 c).Φ t.castSucc = iprop(Pipeline.ΦA spec0 c ∗ Pipeline.ΦT pre0 a.1 c) from rfl,
    show (dats a hS V 0 c).owesAt () t.succ = (dats a hS V 0 c).owesAt () t.castSucc from rfl]
  unfold Pipeline.ΦT
  rewrite [prefHeld_eq]
  rewrite [traj_eq, step_whole a hS V c t _ h1]
  iintro ⟨⟨HA, HT0, HT1, HT2, HT3, HT4⟩, Ho, ⟨%d0, H0⟩, ⟨%d1, H1⟩, ⟨%d2, H2⟩, ⟨%d3, H3⟩, ⟨%d4, H4⟩⟩
  iapply ((runWhole c (crd a t) (ms0 a t) (hs0 a t) (ms1 a t) (hs1 a t) (ms2 a t) (hs2 a t) (ms3 a t) (hs3 a t) (ms4 a t) (hs4 a t) (tE a) (tT a) (tLo a) (tHi a) (tN a) (iblk a V c (0 : Fin 5) t) (iblk a V c (1 : Fin 5) t) (iblk a V c (2 : Fin 5) t) (iblk a V c (3 : Fin 5) t) (hS.chk _) h1 (not_shared_of_whole _ _ _ _ _ h1)).2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [HT3]; · iexact HT3
  isplitl [HT4]; · iexact HT4
  isplitl [H4]; · iexists _; iexact H4
  iintro ⟨H0, H1, H2, H3, HT0, HT1, HT2, HT3, HT4, ⟨%e4, H4⟩⟩
  isplitl [HA HT0 HT1 HT2 HT3 HT4]
  · isplitl [HA]; · iexact HA
    isplitl [HT0]; · iexact HT0
    isplitl [HT1]; · iexact HT1
    isplitl [HT2]; · iexact HT2
    isplitl [HT3]; · iexact HT3
    iexact HT4
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  unfold owns; iexists _; isplitr; swap
  · iexact H4
  · ipureintro; exact View.read_writes_of_cover _ _ _ _ _ (runWhole_cover c (crd a t) (ms0 a t) (hs0 a t) (ms1 a t) (hs1 a t) (ms2 a t) (hs2 a t) (ms3 a t) (hs3 a t) (ms4 a t) (hs4 a t) (tE a) (tT a) (tLo a) (tHi a) (tN a) (iblk a V c (0 : Fin 5) t) (iblk a V c (1 : Fin 5) t) (iblk a V c (2 : Fin 5) t) (iblk a V c (3 : Fin 5) t) (hS.chk _) h1 (not_shared_of_whole _ _ _ _ _ h1))

set_option maxHeartbeats 4000000 in
/-- at the first visit to a shared tile, -/
theorem body_first (c : Dev nD) (t : Fin (cfgA a).N) (h1 : ¬ Whole a (crd a t) (hS.chk _)) (h2 : Shared a (crd a t) (hS.chk _)) (h3 : Begins a (crd a t) (hS.chk _)) :
    iprop((dats a hS V 0 c).Φ t.castSucc ∗ (dats a hS V 0 c).owesAt () t.castSucc
        ∗ (∃ d, owns (c : Thread nD τ) (ms0 a t) fullShare ((dats a hS V 0 c).before (0 : Fin 5) t d))
        ∗ (∃ d, owns (c : Thread nD τ) (ms1 a t) fullShare ((dats a hS V 0 c).before (1 : Fin 5) t d))
        ∗ (∃ d, owns (c : Thread nD τ) (ms2 a t) fullShare ((dats a hS V 0 c).before (2 : Fin 5) t d))
        ∗ (∃ d, owns (c : Thread nD τ) (ms3 a t) fullShare ((dats a hS V 0 c).before (3 : Fin 5) t d))
        ∗ (∃ d, owns (c : Thread nD τ) (ms4 a t) fullShare ((dats a hS V 0 c).before (4 : Fin 5) t d)))
      ⊢ wp frame (wpE (defs₀ (F := F)) Variants.none c none) Set.univ (bodyAt a t) fun _ =>
          iprop((dats a hS V 0 c).Φ t.succ ∗ (dats a hS V 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a hS V 0 c).before w t d))
                  | true => owns (c : Thread nD τ) (((cfgA a).win w).stage ((cfgA a).slots t w)) fullShare ((dats a hS V 0 c).after w t)
                | false => owns (c : Thread nD τ) (((cfgA a).win w).stage ((cfgA a).slots t w)) fullShare ((dats a hS V 0 c).after w t)) := by
  have i4 : (cfgA a).idle (4 : Fin 5) ((cfgA a).grid.coords t) = false := by
    rw [← Bool.not_eq_true, idle_iff a _ (hS.chk _)]; tauto
  rw [bigSep_W0]
  rewrite [i4]
  simp only [before0, before1, before2, before3, before4, after0, after1, after2, after3, after4]
  rewrite [show (dats a hS V 0 c).Φ t.succ = iprop(Pipeline.ΦA spec0 c ∗ Pipeline.ΦT pre0 a.1 c) from rfl, show (dats a hS V 0 c).Φ t.castSucc = iprop(Pipeline.ΦA spec0 c ∗ Pipeline.ΦT pre0 a.1 c) from rfl,
    show (dats a hS V 0 c).owesAt () t.succ = (dats a hS V 0 c).owesAt () t.castSucc from rfl]
  unfold Pipeline.ΦT
  rewrite [prefHeld_eq]
  rewrite [traj_eq, step_first a hS V c t _ h1 h2 h3]
  iintro ⟨⟨HA, HT0, HT1, HT2, HT3, HT4⟩, Ho, ⟨%d0, H0⟩, ⟨%d1, H1⟩, ⟨%d2, H2⟩, ⟨%d3, H3⟩, ⟨%d4, H4⟩⟩
  iapply ((runFirst c (crd a t) (ms0 a t) (hs0 a t) (ms1 a t) (hs1 a t) (ms2 a t) (hs2 a t) (ms3 a t) (hs3 a t) (ms4 a t) (hs4 a t) (tE a) (tT a) (tLo a) (tHi a) (tN a) (iblk a V c (0 : Fin 5) t) (iblk a V c (1 : Fin 5) t) (iblk a V c (2 : Fin 5) t) (iblk a V c (3 : Fin 5) t) (hS.chk _) h1 h2 h3).2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [HT3]; · iexact HT3
  isplitl [HT4]; · iexact HT4
  isplitl [H4]; · iexists _; iexact H4
  iintro ⟨H0, H1, H2, H3, HT0, HT1, HT2, HT3, HT4, ⟨%e4, H4⟩⟩
  isplitl [HA HT0 HT1 HT2 HT3 HT4]
  · isplitl [HA]; · iexact HA
    isplitl [HT0]; · iexact HT0
    isplitl [HT1]; · iexact HT1
    isplitl [HT2]; · iexact HT2
    isplitl [HT3]; · iexact HT3
    iexact HT4
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  unfold owns; iexists _; isplitr; swap
  · iexact H4
  · ipureintro; exact View.read_writes_of_cover _ _ _ _ _ (runFirst_cover c (crd a t) (ms0 a t) (hs0 a t) (ms1 a t) (hs1 a t) (ms2 a t) (hs2 a t) (ms3 a t) (hs3 a t) (ms4 a t) (hs4 a t) (tE a) (tT a) (tLo a) (tHi a) (tN a) (iblk a V c (0 : Fin 5) t) (iblk a V c (1 : Fin 5) t) (iblk a V c (2 : Fin 5) t) (iblk a V c (3 : Fin 5) t) (hS.chk _) h1 h2 h3)

set_option maxHeartbeats 4000000 in
/-- at a later one, -/
theorem body_later (c : Dev nD) (t : Fin (cfgA a).N) (h1 : ¬ Whole a (crd a t) (hS.chk _)) (h2 : Shared a (crd a t) (hS.chk _)) (h3 : ¬ Begins a (crd a t) (hS.chk _)) :
    iprop((dats a hS V 0 c).Φ t.castSucc ∗ (dats a hS V 0 c).owesAt () t.castSucc
        ∗ (∃ d, owns (c : Thread nD τ) (ms0 a t) fullShare ((dats a hS V 0 c).before (0 : Fin 5) t d))
        ∗ (∃ d, owns (c : Thread nD τ) (ms1 a t) fullShare ((dats a hS V 0 c).before (1 : Fin 5) t d))
        ∗ (∃ d, owns (c : Thread nD τ) (ms2 a t) fullShare ((dats a hS V 0 c).before (2 : Fin 5) t d))
        ∗ (∃ d, owns (c : Thread nD τ) (ms3 a t) fullShare ((dats a hS V 0 c).before (3 : Fin 5) t d))
        ∗ (∃ d, owns (c : Thread nD τ) (ms4 a t) fullShare ((dats a hS V 0 c).before (4 : Fin 5) t d)))
      ⊢ wp frame (wpE (defs₀ (F := F)) Variants.none c none) Set.univ (bodyAt a t) fun _ =>
          iprop((dats a hS V 0 c).Φ t.succ ∗ (dats a hS V 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a hS V 0 c).before w t d))
                  | true => owns (c : Thread nD τ) (((cfgA a).win w).stage ((cfgA a).slots t w)) fullShare ((dats a hS V 0 c).after w t)
                | false => owns (c : Thread nD τ) (((cfgA a).win w).stage ((cfgA a).slots t w)) fullShare ((dats a hS V 0 c).after w t)) := by
  have i4 : (cfgA a).idle (4 : Fin 5) ((cfgA a).grid.coords t) = false := by
    rw [← Bool.not_eq_true, idle_iff a _ (hS.chk _)]; tauto
  have hf := hS.later t h2 h3
  rw [bigSep_W0]
  rewrite [i4]
  simp only [before0, before1, before2, before3, before4, after0, after1, after2, after3, after4]
  rewrite [show (dats a hS V 0 c).Φ t.succ = iprop(Pipeline.ΦA spec0 c ∗ Pipeline.ΦT pre0 a.1 c) from rfl, show (dats a hS V 0 c).Φ t.castSucc = iprop(Pipeline.ΦA spec0 c ∗ Pipeline.ΦT pre0 a.1 c) from rfl,
    show (dats a hS V 0 c).owesAt () t.succ = (dats a hS V 0 c).owesAt () t.castSucc from rfl]
  unfold Pipeline.ΦT
  rewrite [prefHeld_eq]
  rewrite [traj_eq, step_later a hS V c t _ h1 h2 h3]
  simp only [hf, Bool.false_eq_true, ↓reduceIte]
  iintro ⟨⟨HA, HT0, HT1, HT2, HT3, HT4⟩, Ho, ⟨%d0, H0⟩, ⟨%d1, H1⟩, ⟨%d2, H2⟩, ⟨%d3, H3⟩, ⟨%d4, H4⟩⟩
  iapply ((runLater c (crd a t) (ms0 a t) (hs0 a t) (ms1 a t) (hs1 a t) (ms2 a t) (hs2 a t) (ms3 a t) (hs3 a t) (ms4 a t) (hs4 a t) (tE a) (tT a) (tLo a) (tHi a) (tN a) (iblk a V c (0 : Fin 5) t) (iblk a V c (1 : Fin 5) t) (iblk a V c (2 : Fin 5) t) (iblk a V c (3 : Fin 5) t) (prev a hS V c t) (hS.chk _) h1 h2 h3).2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [HT3]; · iexact HT3
  isplitl [HT4]; · iexact HT4
  isplitl [H4]; · iapply rep_of_owns; iexact H4
  iintro ⟨H0, H1, H2, H3, HT0, HT1, HT2, HT3, HT4, ⟨%e4, H4⟩⟩
  isplitl [HA HT0 HT1 HT2 HT3 HT4]
  · isplitl [HA]; · iexact HA
    isplitl [HT0]; · iexact HT0
    isplitl [HT1]; · iexact HT1
    isplitl [HT2]; · iexact HT2
    isplitl [HT3]; · iexact HT3
    iexact HT4
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  unfold owns; iexists _; isplitr; swap
  · iexact H4
  · ipureintro; exact View.read_writes_of_cover _ _ _ _ _ (runLater_cover c (crd a t) (ms0 a t) (hs0 a t) (ms1 a t) (hs1 a t) (ms2 a t) (hs2 a t) (ms3 a t) (hs3 a t) (ms4 a t) (hs4 a t) (tE a) (tT a) (tLo a) (tHi a) (tN a) (iblk a V c (0 : Fin 5) t) (iblk a V c (1 : Fin 5) t) (iblk a V c (2 : Fin 5) t) (iblk a V c (3 : Fin 5) t) (prev a hS V c t) (hS.chk _) h1 h2 h3)

set_option maxHeartbeats 4000000 in
/-- and at a visit past the last. -/
theorem body_dead (c : Dev nD) (t : Fin (cfgA a).N) (h1 : ¬ Whole a (crd a t) (hS.chk _)) (h2 : ¬ Shared a (crd a t) (hS.chk _)) :
    iprop((dats a hS V 0 c).Φ t.castSucc ∗ (dats a hS V 0 c).owesAt () t.castSucc
        ∗ (∃ d, owns (c : Thread nD τ) (ms0 a t) fullShare ((dats a hS V 0 c).before (0 : Fin 5) t d))
        ∗ (∃ d, owns (c : Thread nD τ) (ms1 a t) fullShare ((dats a hS V 0 c).before (1 : Fin 5) t d))
        ∗ (∃ d, owns (c : Thread nD τ) (ms2 a t) fullShare ((dats a hS V 0 c).before (2 : Fin 5) t d))
        ∗ (∃ d, owns (c : Thread nD τ) (ms3 a t) fullShare ((dats a hS V 0 c).before (3 : Fin 5) t d))
        ∗ (∃ d, owns (c : Thread nD τ) (ms4 a t) fullShare ((dats a hS V 0 c).before (4 : Fin 5) t d)))
      ⊢ wp frame (wpE (defs₀ (F := F)) Variants.none c none) Set.univ (bodyAt a t) fun _ =>
          iprop((dats a hS V 0 c).Φ t.succ ∗ (dats a hS V 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a hS V 0 c).before w t d))
                  | true => owns (c : Thread nD τ) (((cfgA a).win w).stage ((cfgA a).slots t w)) fullShare ((dats a hS V 0 c).after w t)
                | false => owns (c : Thread nD τ) (((cfgA a).win w).stage ((cfgA a).slots t w)) fullShare ((dats a hS V 0 c).after w t)) := by
  have i4 : (cfgA a).idle (4 : Fin 5) ((cfgA a).grid.coords t) = true := (idle_iff a _ (hS.chk _)).2 ⟨h1, h2⟩
  have hf := hS.dead t h1 h2
  rcases hfl : ((cfgA a).win (4 : Fin 5)).flush t with _ | _
  · rw [bigSep_W0]
    rewrite [i4, hfl]
    simp only [before0, before1, before2, before3, before4, after0, after1, after2, after3, after4]
    rewrite [show (dats a hS V 0 c).Φ t.succ = iprop(Pipeline.ΦA spec0 c ∗ Pipeline.ΦT pre0 a.1 c) from rfl, show (dats a hS V 0 c).Φ t.castSucc = iprop(Pipeline.ΦA spec0 c ∗ Pipeline.ΦT pre0 a.1 c) from rfl,
      show (dats a hS V 0 c).owesAt () t.succ = (dats a hS V 0 c).owesAt () t.castSucc from rfl]
    unfold Pipeline.ΦT
    rewrite [prefHeld_eq]
    simp only [hf, Bool.false_eq_true, ↓reduceIte]
    iintro ⟨⟨HA, HT0, HT1, HT2, HT3, HT4⟩, Ho, ⟨%d0, H0⟩, ⟨%d1, H1⟩, ⟨%d2, H2⟩, ⟨%d3, H3⟩, ⟨%d4, H4⟩⟩
    iapply (runDead c (crd a t) (ms0 a t) (hs0 a t) (ms1 a t) (hs1 a t) (ms2 a t) (hs2 a t) (ms3 a t) (hs3 a t) (ms4 a t) (hs4 a t) (tE a) (tT a) (tLo a) (tHi a) (tN a) (iblk a V c (0 : Fin 5) t) (iblk a V c (1 : Fin 5) t) (iblk a V c (2 : Fin 5) t) (iblk a V c (3 : Fin 5) t) (hS.chk _) h1 h2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [HT2]; · iexact HT2
    isplitl [HT3]; · iexact HT3
    isplitl [HT4]; · iexact HT4
    iintro ⟨H0, H1, H2, H3, HT0, HT1, HT2, HT3, HT4⟩
    isplitl [HA HT0 HT1 HT2 HT3 HT4]
    · isplitl [HA]; · iexact HA
      isplitl [HT0]; · iexact HT0
      isplitl [HT1]; · iexact HT1
      isplitl [HT2]; · iexact HT2
      isplitl [HT3]; · iexact HT3
      iexact HT4
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    iexists d4; iexact H4

  · rw [bigSep_W0]
    rewrite [i4, hfl]
    simp only [before0, before1, before2, before3, before4, after0, after1, after2, after3, after4]
    rewrite [show (dats a hS V 0 c).Φ t.succ = iprop(Pipeline.ΦA spec0 c ∗ Pipeline.ΦT pre0 a.1 c) from rfl, show (dats a hS V 0 c).Φ t.castSucc = iprop(Pipeline.ΦA spec0 c ∗ Pipeline.ΦT pre0 a.1 c) from rfl,
      show (dats a hS V 0 c).owesAt () t.succ = (dats a hS V 0 c).owesAt () t.castSucc from rfl]
    unfold Pipeline.ΦT
    rewrite [prefHeld_eq]
    rewrite [traj_eq, step_dead a hS V c t _ h1 h2]
    simp only [hf, Bool.false_eq_true, ↓reduceIte]
    iintro ⟨⟨HA, HT0, HT1, HT2, HT3, HT4⟩, Ho, ⟨%d0, H0⟩, ⟨%d1, H1⟩, ⟨%d2, H2⟩, ⟨%d3, H3⟩, ⟨%d4, H4⟩⟩
    iapply (runDead c (crd a t) (ms0 a t) (hs0 a t) (ms1 a t) (hs1 a t) (ms2 a t) (hs2 a t) (ms3 a t) (hs3 a t) (ms4 a t) (hs4 a t) (tE a) (tT a) (tLo a) (tHi a) (tN a) (iblk a V c (0 : Fin 5) t) (iblk a V c (1 : Fin 5) t) (iblk a V c (2 : Fin 5) t) (iblk a V c (3 : Fin 5) t) (hS.chk _) h1 h2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [HT2]; · iexact HT2
    isplitl [HT3]; · iexact HT3
    isplitl [HT4]; · iexact HT4
    iintro ⟨H0, H1, H2, H3, HT0, HT1, HT2, HT3, HT4⟩
    isplitl [HA HT0 HT1 HT2 HT3 HT4]
    · isplitl [HA]; · iexact HA
      isplitl [HT0]; · iexact HT0
      isplitl [HT1]; · iexact HT1
      isplitl [HT2]; · iexact HT2
      isplitl [HT3]; · iexact HT3
      iexact HT4
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    iexact H4

/-- The body keeps to the account at every point. -/
theorem body_obligation (c : Dev nD) : BodyObligation (dats a hS V 0 c) (defs₀ (F := F)) Variants.none () Set.univ := fun t => by
  rw [bigSep_W0]
  by_cases h1 : Whole a (crd a t) (hS.chk _)
  · exact body_whole a hS V c t h1
  by_cases h2 : Shared a (crd a t) (hS.chk _)
  · by_cases h3 : Begins a (crd a t) (hS.chk _)
    · exact body_first a hS V c t h1 h2 h3
    · exact body_later a hS V c t h1 h2 h3
  · exact body_dead a hS V c t h1 h2

theorem share_eq (c : Dev nD) (w : Fin (cfgA a).W) : (dats a hS V 0 c).share w = fullShare := by unfold Dat.share; split <;> rfl

/-- The steps before the kernel's region: they make the tables. -/
abbrev hostOps : List (List (HloOp τ sig (Elt F))) := [hostOps0, hostOps0_1, hostOps0_2, hostOps0_3, hostOps0_4, hostOps0_5, hostOps0_6, hostOps0_7, hostOps0_8]

/-- What the memory holds when the region starts, from the memory at launch. -/
def atEntry (m : (ℓ : Loc nD τ sig) → Buf (Elt F) ℓ) (c : Dev nD) (b : Ref sig .tc) : Buf (Elt F) ((c.tc : Thread nD τ).loc b) :=
  StableHlo.after hostOps.flatten (fun b => m (c, b)) b

set_option backward.isDefEq.respectTransparency.types false in
set_option maxHeartbeats 4000000 in
/-- The run of the whole kernel: it terminates, every array of the region ends as the account says, everything else as the region found
    it, and every semaphore counter at zero. -/
theorem run (m : (ℓ : Loc nD τ sig) → Buf (Elt F) ℓ) (ρ : Dev nD → PrngReg) (hpf : ∀ c k, atEntry m c (pre0.ref k) = a.1 k) :
    θ_run (defs (F := F)) (onTc (τ := τ) (main (F := F))) ⟨m, fun _ => 0, ρ⟩ (fun r =>
      Pipeline.FramePost (Pipeline.pin (pcfgs (F := F)) fun _ => a) (dats a hS (atEntry m)) 0 (atEntry m) r ∧ r.2.sem = fun _ => 0) :=
  Pipeline.θ_run_frameP pcfgs (fun _ => a) (dats a hS (atEntry m)) 0 launch0 defs₀ Variants.none m ρ main
    (hbody := fun c => (body_obligation a hS (atEntry m) c).loose)
    (hshare := share_eq a hS (atEntry m)) (howed := fun _ _ => rfl)
    (V := atEntry m)
    (hmain := Pipeline.hmainP_prefixes pcfgs 0 defs₀ Variants.none m main hostOps
      ⟨hostOps0_sub, hostOps0_1_sub, hostOps0_2_sub, hostOps0_3_sub, hostOps0_4_sub, hostOps0_5_sub, hostOps0_6_sub, hostOps0_7_sub, hostOps0_8_sub⟩
      (by simp only [List.Forall, hostOps0, hostOps0_1, hostOps0_2, hostOps0_3, hostOps0_4, hostOps0_5, hostOps0_6, hostOps0_7, hostOps0_8]; repeat' constructor)
      main_chain)
    (hA := fun _ _ => rfl) (hpf := hpf) (hΦ := fun _ _ => rfl)
    (Q' := fun r => Pipeline.FramePost (Pipeline.pin (pcfgs (F := F)) fun _ => a) (dats a hS (atEntry m)) 0 (atEntry m) r ∧ r.2.sem = fun _ => 0)
    (hQ' := fun _ h => h)

end Cert.KernelIdeal.Hand

end
-- ==== Proof.KernelIdeal.Entry.lean ====
module

public import proofs.«01_k».proof.Defs
public import proofs.«01_k».proof.Proof.Gen.KernelIdeal
public import proofs.«01_k».proof.Proof.Gen.KernelIdeal.Launch
public import Idealize.ShloMosaic.Lib.StableHlo.RunRead

/-! What the host lines before the kernel compute, as functions of the groups' sizes: each line of the visit plan by its own name. -/

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.ShloMosaic.StableHlo

variable {F : FTy → Type} [FloatOps F]

/-- One number at every group. -/
abbrev b8 (x : IVec S_ 32) : IVec S8 32 := broadcastInDim S8 ![] bcast_S_S8 x
/-- One number at every grid point. -/
abbrev b43 (x : IVec S_ 32) : IVec S43 32 := broadcastInDim S43 ![] bcast_S_S43 x
/-- The running sum. -/
def cumW (x : IVec S8 32) : IVec S8 32 :=
  Host.reduceWindow IntOp.addi ![8] ![1] ![7] ![0] x (broadcastInDim S_ ![] bcast_S_S_ (constantI S_ 32 0#32)) reduceWindows_S8_S8_w8s1p7_0 h_S_
/-- The quotient by 256, rounded down. -/
def fdivW (x : IVec S8 32) (q : IVec S_ 32) : IVec S8 32 :=
  select (andi (cmpi .ne (signi x) (b8 (signi q))) (cmpi .ne (Host.remsi x (b8 q)) (b8 (constantI S_ 32 0#32))))
    (subi (Host.divsi x (b8 q)) (b8 (constantI S_ 32 1#32))) (Host.divsi x (b8 q))
/-- Where each group ends. -/
def endsW (g : IVec S8 32) : IVec S8 32 := cumW g
/-- Where each group begins. -/
def startsW (g : IVec S8 32) : IVec S8 32 := subi (endsW g) g
/-- The first tile of each group. -/
def firstW (g : IVec S8 32) : IVec S8 32 := fdivW (startsW g) (constantI S_ 32 256#32)
/-- The last tile of each group. -/
def lastW (g : IVec S8 32) : IVec S8 32 := fdivW (subi (endsW g) (b8 (constantI S_ 32 1#32))) (constantI S_ 32 256#32)
/-- How many tiles each group meets. -/
def tilesW (g : IVec S8 32) : IVec S8 32 :=
  select (cmpi .sgt g (b8 (constantI S_ 32 0#32))) (addi (subi (lastW g) (firstW g)) (b8 (constantI S_ 32 1#32))) (b8 (constantI S_ 32 0#32))
/-- Where each group's visits end. -/
def vendW (g : IVec S8 32) : IVec S8 32 := cumW (tilesW g)
/-- How many visits there are. -/
def nvOf (q : IVec S8 32) : IVec S_ 32 := shapeCast S_ (extractStridedSlice S1 ![7] q slices_S8_S1_7) shapeCasts_S1_S_
/-- The visit of each grid point. -/
def visOf (q : IVec S8 32) : IVec S43 32 := minsi (iotaInDim S43 32 0) (b43 (subi (nvOf q) (constantI S_ 32 1#32)))
/-- The group of each grid point. -/
def groupOf (q : IVec S8 32) : IVec S43 32 :=
  Host.reduce IntOp.addi (extui 32 (cmpi .sge (broadcastInDim S43x8 ![0, 1] bcast_S43x1_S43x8_0_1 (broadcastInDim S43x1 ![0] bcast_S43_S43x1_0 (visOf q)))
    (broadcastInDim S43x8 ![0, 1] bcast_S1x8_S43x8_0_1 (broadcastInDim S1x8 ![1] bcast_S8_S1x8_1 q))) natLt_1_32) (constantI S_ 32 0#32)
    reducesTo_S43x8_S43_d1 h_S_
/-- An index, a negative one counted from the end. -/
def wrapW (x : IVec S43 32) : IVec S43x1 32 :=
  broadcastInDim S43x1 ![0] bcast_S43_S43x1_0 (select (cmpi .slt x (b43 (constantI S_ 32 0#32))) (addi x (b43 (constantI S_ 32 8#32))) x)
/-- The tile of each grid point. -/
def tileOf (f k q : IVec S8 32) : IVec S43 32 :=
  subi (addi (Host.gather gather_S8_S43x1_S43_n_0_n_n_0_1_1 f (wrapW (groupOf q))) (visOf q))
    (Host.gather gather_S8_S43x1_S43_n_0_n_n_0_1_1 (subi q k) (wrapW (groupOf q)))

/-- The same of the groups' sizes. -/
def nvW (g : IVec S8 32) : IVec S_ 32 := nvOf (vendW g)
@[inherit_doc nvW] def groupW (g : IVec S8 32) : IVec S43 32 := groupOf (vendW g)
@[inherit_doc nvW] def tileW (g : IVec S8 32) : IVec S43 32 := tileOf (firstW g) (tilesW g) (vendW g)

variable (V : Valuation τ sig (Elt F))

/-! ## Each stretch of lines: what it leaves alone, what it computes -/

theorem pass0 {r : Ref sig .tc} (hr : r ∉ [main_call0_call0_c, main_call0_call0_v0, main_v0]) : after (hostOps0 (F := F)) V (Proc.devRef .tc r) = V (Proc.devRef .tc r) :=
  after_unwritten _ rfl hr V
theorem pass1 {r : Ref sig .tc} (hr : r ∉ [main_v1, main_c]) : after (hostOps0_1 (F := F)) V (Proc.devRef .tc r) = V (Proc.devRef .tc r) :=
  after_unwritten _ rfl hr V
theorem pass2 {r : Ref sig .tc} (hr : r ∉ [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v2]) : after (hostOps0_2 (F := F)) V (Proc.devRef .tc r) = V (Proc.devRef .tc r) :=
  after_unwritten _ rfl hr V
theorem pass3 {r : Ref sig .tc} (hr : r ∉ [main_c_0, main_v3, main_v4, main_c_1]) : after (hostOps0_3 (F := F)) V (Proc.devRef .tc r) = V (Proc.devRef .tc r) :=
  after_unwritten _ rfl hr V
theorem pass4 {r : Ref sig .tc} (hr : r ∉ [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v5]) : after (hostOps0_4 (F := F)) V (Proc.devRef .tc r) = V (Proc.devRef .tc r) :=
  after_unwritten _ rfl hr V
theorem pass5 {r : Ref sig .tc} (hr : r ∉ [main_c_2, main_v6, main_v7, main_v8, main_c_3, main_v9, main_v10, main_c_4]) : after (hostOps0_5 (F := F)) V (Proc.devRef .tc r) = V (Proc.devRef .tc r) :=
  after_unwritten _ rfl hr V
theorem pass6 {r : Ref sig .tc} (hr : r ∉ [main_call3_v0, main_call3_v1, main_v11]) : after (hostOps0_6 (F := F)) V (Proc.devRef .tc r) = V (Proc.devRef .tc r) :=
  after_unwritten _ rfl hr V
theorem pass7 {r : Ref sig .tc} (hr : r ∉ [main_call4_call0_c, main_call4_call0_v0, main_v12]) : after (hostOps0_7 (F := F)) V (Proc.devRef .tc r) = V (Proc.devRef .tc r) :=
  after_unwritten _ rfl hr V
theorem pass8 {r : Ref sig .tc} (hr : r ∉ [main_v13, main_v14, main_v15, main_c_5, main_v16, main_v17, main_v18, main_v19, main_v20, main_v21, main_v22, main_v23, main_v24, main_c_6, main_v25, main_c_7, main_v26, main_v27, main_c_8, main_v28, main_v29, main_v30, main_v31, main_v32, main_v33, main_v34, main_c_9, main_v35, main_v36, main_c_10, main_v37, main_v38, main_v39, main_v40, main_v41, main_v42, main_v43, main_v44]) : after (hostOps0_8 (F := F)) V (Proc.devRef .tc r) = V (Proc.devRef .tc r) :=
  after_unwritten _ rfl hr V

theorem s0_main_v0 : after (hostOps0 (F := F)) V (Proc.devRef .tc main_v0) = cumW (V (Proc.devRef .tc main_arg4)) := by
  after_reads_simp
  unfold cumW
  simp only [TRef.toBuf, TRef.ofBuf, cast_eq]
theorem s1_main_v1 : after (hostOps0_1 (F := F)) V (Proc.devRef .tc main_v1) = subi (V (Proc.devRef .tc main_v0)) (V (Proc.devRef .tc main_arg4)) := by
  after_reads_simp
theorem s1_main_c : after (hostOps0_1 (F := F)) V (Proc.devRef .tc main_c) = constantI S_ 32 256#32 := by
  after_reads_simp
theorem s2_main_v2 : after (hostOps0_2 (F := F)) V (Proc.devRef .tc main_v2) = fdivW (V (Proc.devRef .tc main_v1)) (V (Proc.devRef .tc main_c)) := by
  after_reads_simp
  rfl
theorem s3_main_v4 : after (hostOps0_3 (F := F)) V (Proc.devRef .tc main_v4) = subi (V (Proc.devRef .tc main_v0)) (b8 (constantI S_ 32 1#32)) := by
  after_reads_simp
theorem s3_main_c_1 : after (hostOps0_3 (F := F)) V (Proc.devRef .tc main_c_1) = constantI S_ 32 256#32 := by
  after_reads_simp
theorem s4_main_v5 : after (hostOps0_4 (F := F)) V (Proc.devRef .tc main_v5) = fdivW (V (Proc.devRef .tc main_v4)) (V (Proc.devRef .tc main_c_1)) := by
  after_reads_simp
  rfl
theorem s5_main_v7 : after (hostOps0_5 (F := F)) V (Proc.devRef .tc main_v7) = cmpi .sgt (V (Proc.devRef .tc main_arg4)) (b8 (constantI S_ 32 0#32)) := by
  after_reads_simp
theorem s5_main_v10 : after (hostOps0_5 (F := F)) V (Proc.devRef .tc main_v10) = addi (subi (V (Proc.devRef .tc main_v5)) (V (Proc.devRef .tc main_v2))) (b8 (constantI S_ 32 1#32)) := by
  after_reads_simp
theorem s5_main_c_4 : after (hostOps0_5 (F := F)) V (Proc.devRef .tc main_c_4) = constantI S_ 32 0#32 := by
  after_reads_simp
theorem s6_main_v11 : after (hostOps0_6 (F := F)) V (Proc.devRef .tc main_v11) = select (V (Proc.devRef .tc main_v7)) (V (Proc.devRef .tc main_v10)) (b8 (V (Proc.devRef .tc main_c_4))) := by
  after_reads_simp
  rfl
theorem s7_main_v12 : after (hostOps0_7 (F := F)) V (Proc.devRef .tc main_v12) = cumW (V (Proc.devRef .tc main_v11)) := by
  after_reads_simp
  unfold cumW
  simp only [TRef.toBuf, TRef.ofBuf, cast_eq]
theorem s8_main_v14 : after (hostOps0_8 (F := F)) V (Proc.devRef .tc main_v14) = nvOf (V (Proc.devRef .tc main_v12)) := by
  after_reads_simp
  rfl
theorem s8_main_v43 : after (hostOps0_8 (F := F)) V (Proc.devRef .tc main_v43) = shapeCast S1 (nvOf (V (Proc.devRef .tc main_v12))) shapeCasts_S_S1 := by
  after_reads_simp
  rfl
theorem s8_main_v18 : after (hostOps0_8 (F := F)) V (Proc.devRef .tc main_v18) = visOf (V (Proc.devRef .tc main_v12)) := by
  after_reads_simp
  rfl
theorem s8_main_v25 : after (hostOps0_8 (F := F)) V (Proc.devRef .tc main_v25) = groupOf (V (Proc.devRef .tc main_v12)) := by
  after_reads_simp
  rfl
theorem s8_main_v42 : after (hostOps0_8 (F := F)) V (Proc.devRef .tc main_v42) = tileOf (V (Proc.devRef .tc main_v2)) (V (Proc.devRef .tc main_v11)) (V (Proc.devRef .tc main_v12)) := by
  after_reads_simp
  rfl
theorem s8_main_v44 : after (hostOps0_8 (F := F)) V (Proc.devRef .tc main_v44) = shapeCast S8x1x5632 (V (Proc.devRef .tc main_arg3)) shapeCasts_S8x5632_S8x1x5632 := by
  after_reads_simp
  rfl

/-! ## All the lines -/

/-- The host lines before the kernel, one stretch after another. -/
def entry : Valuation τ sig (Elt F) :=
  after hostOps0_8 (after hostOps0_7 (after hostOps0_6 (after hostOps0_5 (after hostOps0_4 (after hostOps0_3 (after hostOps0_2 (after hostOps0_1 (after hostOps0 V))))))))

theorem entry_main_arg0 : entry V (Proc.devRef .tc main_arg0) = V (Proc.devRef .tc main_arg0) := by
  unfold entry
  rw [pass8 (hr := by decide), pass7 (hr := by decide), pass6 (hr := by decide), pass5 (hr := by decide), pass4 (hr := by decide), pass3 (hr := by decide), pass2 (hr := by decide), pass1 (hr := by decide), pass0 (hr := by decide)]
theorem entry_main_arg1 : entry V (Proc.devRef .tc main_arg1) = V (Proc.devRef .tc main_arg1) := by
  unfold entry
  rw [pass8 (hr := by decide), pass7 (hr := by decide), pass6 (hr := by decide), pass5 (hr := by decide), pass4 (hr := by decide), pass3 (hr := by decide), pass2 (hr := by decide), pass1 (hr := by decide), pass0 (hr := by decide)]
theorem entry_main_arg2 : entry V (Proc.devRef .tc main_arg2) = V (Proc.devRef .tc main_arg2) := by
  unfold entry
  rw [pass8 (hr := by decide), pass7 (hr := by decide), pass6 (hr := by decide), pass5 (hr := by decide), pass4 (hr := by decide), pass3 (hr := by decide), pass2 (hr := by decide), pass1 (hr := by decide), pass0 (hr := by decide)]
theorem entry_main_arg3 : entry V (Proc.devRef .tc main_arg3) = V (Proc.devRef .tc main_arg3) := by
  unfold entry
  rw [pass8 (hr := by decide), pass7 (hr := by decide), pass6 (hr := by decide), pass5 (hr := by decide), pass4 (hr := by decide), pass3 (hr := by decide), pass2 (hr := by decide), pass1 (hr := by decide), pass0 (hr := by decide)]
theorem entry_main_arg4 : entry V (Proc.devRef .tc main_arg4) = V (Proc.devRef .tc main_arg4) := by
  unfold entry
  rw [pass8 (hr := by decide), pass7 (hr := by decide), pass6 (hr := by decide), pass5 (hr := by decide), pass4 (hr := by decide), pass3 (hr := by decide), pass2 (hr := by decide), pass1 (hr := by decide), pass0 (hr := by decide)]
theorem entry_main_v44 : entry V (Proc.devRef .tc main_v44) = shapeCast S8x1x5632 (V (Proc.devRef .tc main_arg3)) shapeCasts_S8x5632_S8x1x5632 := by
  unfold entry
  rw [s8_main_v44, pass7 (hr := by decide), pass6 (hr := by decide), pass5 (hr := by decide), pass4 (hr := by decide), pass3 (hr := by decide), pass2 (hr := by decide), pass1 (hr := by decide), pass0 (hr := by decide)]
theorem entry_main_v0 : entry V (Proc.devRef .tc main_v0) = endsW (V (Proc.devRef .tc main_arg4)) := by
  unfold entry
  rw [pass8 (hr := by decide), pass7 (hr := by decide), pass6 (hr := by decide), pass5 (hr := by decide), pass4 (hr := by decide), pass3 (hr := by decide), pass2 (hr := by decide), pass1 (hr := by decide), s0_main_v0]
  rfl
theorem entry_main_v1 : entry V (Proc.devRef .tc main_v1) = startsW (V (Proc.devRef .tc main_arg4)) := by
  unfold entry
  rw [pass8 (hr := by decide), pass7 (hr := by decide), pass6 (hr := by decide), pass5 (hr := by decide), pass4 (hr := by decide), pass3 (hr := by decide), pass2 (hr := by decide), s1_main_v1, s0_main_v0, pass0 (hr := by decide)]
  rfl
theorem at2_main_v2 : (after hostOps0_2 (after hostOps0_1 (after hostOps0 V))) (Proc.devRef .tc main_v2) = firstW (V (Proc.devRef .tc main_arg4)) := by
  rw [s2_main_v2, s1_main_v1, s1_main_c, s0_main_v0, pass0 (hr := by decide)]
  rfl
theorem at4_main_v5 : (after hostOps0_4 (after hostOps0_3 (after hostOps0_2 (after hostOps0_1 (after hostOps0 V))))) (Proc.devRef .tc main_v5) = lastW (V (Proc.devRef .tc main_arg4)) := by
  rw [s4_main_v5, s3_main_v4, s3_main_c_1, pass2 (hr := by decide), pass1 (hr := by decide), s0_main_v0]
  rfl
theorem at6_main_v11 : (after hostOps0_6 (after hostOps0_5 (after hostOps0_4 (after hostOps0_3 (after hostOps0_2 (after hostOps0_1 (after hostOps0 V))))))) (Proc.devRef .tc main_v11) = tilesW (V (Proc.devRef .tc main_arg4)) := by
  rw [s6_main_v11, s5_main_v7, s5_main_v10, s5_main_c_4, at4_main_v5, pass4 (hr := (by decide : main_v2 ∉ _)), pass3 (hr := (by decide : main_v2 ∉ _)), at2_main_v2, pass4 (hr := (by decide : main_arg4 ∉ _)), pass3 (hr := (by decide : main_arg4 ∉ _)), pass2 (hr := (by decide : main_arg4 ∉ _)), pass1 (hr := (by decide : main_arg4 ∉ _)), pass0 (hr := (by decide : main_arg4 ∉ _))]
  rfl
theorem at7_main_v12 : (after hostOps0_7 (after hostOps0_6 (after hostOps0_5 (after hostOps0_4 (after hostOps0_3 (after hostOps0_2 (after hostOps0_1 (after hostOps0 V)))))))) (Proc.devRef .tc main_v12) = vendW (V (Proc.devRef .tc main_arg4)) := by
  rw [s7_main_v12, at6_main_v11]
  rfl
theorem entry_main_v25 : entry V (Proc.devRef .tc main_v25) = groupW (V (Proc.devRef .tc main_arg4)) := by
  unfold entry
  rw [s8_main_v25, at7_main_v12]
  rfl
theorem entry_main_v43 : entry V (Proc.devRef .tc main_v43) = shapeCast S1 (nvW (V (Proc.devRef .tc main_arg4))) shapeCasts_S_S1 := by
  unfold entry
  rw [s8_main_v43, at7_main_v12]
  rfl
theorem entry_main_v42 : entry V (Proc.devRef .tc main_v42) = tileW (V (Proc.devRef .tc main_arg4)) := by
  unfold entry
  rw [s8_main_v42, at7_main_v12, pass7 (hr := (by decide : main_v11 ∉ _)), at6_main_v11, pass7 (hr := (by decide : main_v2 ∉ _)), pass6 (hr := (by decide : main_v2 ∉ _)), pass5 (hr := (by decide : main_v2 ∉ _)), pass4 (hr := (by decide : main_v2 ∉ _)), pass3 (hr := (by decide : main_v2 ∉ _)), at2_main_v2]
  rfl

end Cert.KernelIdeal.Hand
-- ==== Proof.KernelIdeal.Tables.lean ====
module

public import proofs.«01_k».proof.Proof.KernelIdeal.Entry
public import proofs.«01_k».proof.Proof.Visits.Words
public import Idealize.ShloMosaic.Lib.Routing.Ops
public import Idealize.ShloMosaic.Lib.Routing.OpsSet

/-! The tables that the host lines make are the plan of visits: each word of each table is the plan's number. -/

@[expose] public section

set_option maxRecDepth 16384

noncomputable section

namespace Cert.KernelIdeal.Hand

open Cert.KernelIdeal Cert.KernelIdeal.Gen
open Idealize.ShloMosaic Idealize.ShloMosaic.ValueIdx Idealize.ShloMosaic.Routing
open Plan

/-- The groups' sizes are `n 0`, …, `n 7`. -/
def Sizes (g : IVec S8 32) (n : ℕ → ℕ) : Prop := ∀ e : Fin 8, g (ix1 e) = BitVec.ofNat 32 (n e.val)

variable {g : IVec S8 32} {n : ℕ → ℕ}

theorem cumW_eq {x : IVec S8 32} {f : ℕ → ℕ} (hx : Sizes x f) (e : Fin 8) :
    cumW x (ix1 e) = BitVec.ofNat 32 (∑ j ∈ Finset.range (e.val + 1), f j) := by
  unfold cumW
  rw [← sum_range]
  exact cumsum1 (by decide) x f hx _ rfl _ _ e

theorem fdivW_eq (x : IVec S8 32) (e : Fin 8) : fdivW x (constantI S_ 32 256#32) (ix1 e) = fd (x (ix1 e)) := rfl

/-- The number of visits is the last group's end of visits. -/
theorem nvOf_eq (q : IVec S8 32) (i : S_.Idx) : nvOf q i = q (ix1 7) := by
  unfold nvOf
  refine congrArg q (funext fun a => Fin.ext ?_)
  match a with
  | ⟨0, _⟩ =>
    have : ∀ j : Fin 1, 7 + j.val = 7 := fun j => by omega
    exact this _

variable (hg : Sizes g n) (hP : P n 8 = 9216)
include hg

theorem endsW_eq (e : Fin 8) : endsW g (ix1 e) = BitVec.ofNat 32 (P n (e.val + 1)) := cumW_eq hg e

theorem startsW_eq (e : Fin 8) : startsW g (ix1 e) = BitVec.ofNat 32 (P n e.val) := by
  show endsW g (ix1 e) - g (ix1 e) = _
  rw [endsW_eq hg, hg e, P_succ, sub_small]

include hP

theorem firstW_eq (e : Fin 8) : firstW g (ix1 e) = BitVec.ofNat 32 (P n e.val / 256) := by
  have := P_le hP e.val (by omega)
  unfold firstW
  rw [fdivW_eq, startsW_eq hg, fd_small (by omega)]

theorem tilesW_eq : Sizes (tilesW g) (tl n) := fun e => by
  have h8 := P_le hP (e.val + 1) (by omega)
  have hs := P_succ n e.val
  show Scalar.select (IntOp.cmpi .sgt (g (ix1 e)) 0#32) (lastW g (ix1 e) - firstW g (ix1 e) + 1#32) 0#32 = _
  rw [hg e]
  unfold Scalar.select IntOp.cmpi tl
  dsimp only
  rw [show (0#32 : BitVec 32) = BitVec.ofNat 32 0 from rfl, slt_small (by omega) (by omega)]
  by_cases h0 : n e.val = 0
  · rw [h0, if_pos rfl]
    rfl
  · rw [if_neg h0, if_pos (by rw [decide_eq_true (by omega)]; rfl), firstW_eq hg hP]
    have hl : lastW g (ix1 e) = BitVec.ofNat 32 ((P n (e.val + 1) - 1) / 256) := by
      unfold lastW
      rw [fdivW_eq]
      show fd (endsW g (ix1 e) - BitVec.ofNat 32 1) = _
      rw [endsW_eq hg, sub_small' (by omega), fd_small (by omega)]
    rw [hl, sub_small' (by omega), show (1#32 : BitVec 32) = BitVec.ofNat 32 1 from rfl, ← BitVec.ofNat_add]
    congr 1
    omega

theorem vendW_eq (e : Fin 8) : vendW g (ix1 e) = BitVec.ofNat 32 (Q n (e.val + 1)) := cumW_eq (tilesW_eq hg hP) e

theorem nvW_eq (i : S_.Idx) : nvW g i = BitVec.ofNat 32 (nv n) :=
  (nvOf_eq (vendW g) i).trans (vendW_eq hg hP 7)

theorem visW_eq (t : Fin 43) : visOf (vendW g) (ix1 t) = BitVec.ofNat 32 (vis n t.val) := by
  have h1 := nv_pos hP
  have h2 := nv_le hP
  show IntOp.minsi (BitVec.ofNat 32 t.val) (nvW g _ - BitVec.ofNat 32 1) = _
  rw [nvW_eq hg hP, sub_small' (by omega), minsi_small (by omega) (by omega)]
  rfl

theorem groupW_eq (t : Fin 43) : groupW g (ix1 t) = BitVec.ofNat 32 (E n t.val) := by
  have h2 := nv_le hP
  have hv := vis_lt hP t.val
  have := reduce_count (n := 43) (m := 8) (by decide) (cmpi .sge (broadcastInDim S43x8 ![0, 1] bcast_S43x1_S43x8_0_1 (broadcastInDim S43x1 ![0] bcast_S43_S43x1_0 (visOf (vendW g))))
    (broadcastInDim S43x8 ![0, 1] bcast_S1x8_S43x8_0_1 (broadcastInDim S1x8 ![1] bcast_S8_S1x8_1 (vendW g)))) natLt_1_32 reducesTo_S43x8_S43_d1 h_S_ t
    (fun e => Q n (e + 1) ≤ vis n t.val) (fun q => by
      show IntOp.cmpi .sge (broadcastInDim S43x8 ![0, 1] bcast_S43x1_S43x8_0_1 (broadcastInDim S43x1 ![0] bcast_S43_S43x1_0 (visOf (vendW g))) (ix2 t q))
        (broadcastInDim S43x8 ![0, 1] bcast_S1x8_S43x8_0_1 (broadcastInDim S1x8 ![1] bcast_S8_S1x8_1 (vendW g)) (ix2 t q)) = 1#1 ↔ _
      rw [bcRows (n := 43) (m := 8) bcast_S43_S43x1_0 bcast_S43x1_S43x8_0_1 (visOf (vendW g)) t q,
        bcCols (n := 43) (m := 8) bcast_S8_S1x8_1 bcast_S1x8_S43x8_0_1 (vendW g) t q, visW_eq hg hP, vendW_eq hg hP]
      have hq : Q n (q.val + 1) ≤ nv n := Q_mono n (by omega)
      unfold IntOp.cmpi
      dsimp only
      rw [ofBool_one, sle_small (by omega) (by omega), decide_eq_true_iff])
  refine Eq.trans this ?_
  unfold E
  rw [Nat.count_eq_card_filter_range]

theorem wrapW_eq (t : Fin 43) : wrapW (groupW g) (ix2 t (0 : Fin 1)) = BitVec.ofNat 32 (E n t.val) := by
  have he := (E_spec hP t.val).1
  unfold wrapW
  rw [bcCol (n := 43) bcast_S43_S43x1_0]
  show Scalar.select (IntOp.cmpi .slt (groupW g (ix1 t)) (BitVec.ofNat 32 0)) (groupW g (ix1 t) + 8#32) (groupW g (ix1 t)) = _
  rw [groupW_eq hg hP]
  unfold Scalar.select IntOp.cmpi
  dsimp only
  rw [slt_small (by omega) (by omega), if_neg]
  rw [decide_eq_false (by omega)]
  decide

theorem tileW_eq (t : Fin 43) : tileW g (ix1 t) = BitVec.ofNat 32 (T n t.val) := by
  have he := (E_spec hP t.val).1
  have hq := (E_spec hP t.val).2.1
  have h1 : ∀ x : IVec S8 32, Host.gather gather_S8_S43x1_S43_n_0_n_n_0_1_1 x (wrapW (groupW g)) (ix1 t) = x (ix1 ⟨E n t.val, he⟩) := fun x =>
    gather_take1 gather_S8_S43x1_S43_n_0_n_n_0_1_1 rfl rfl rfl rfl x _ t ⟨E n t.val, he⟩ (wrapW_eq hg hP t) (by decide)
  show Host.gather gather_S8_S43x1_S43_n_0_n_n_0_1_1 (firstW g) (wrapW (groupW g)) (ix1 t) + visOf (vendW g) (ix1 t)
    - Host.gather gather_S8_S43x1_S43_n_0_n_n_0_1_1 (subi (vendW g) (tilesW g)) (wrapW (groupW g)) (ix1 t) = _
  rw [h1, h1, firstW_eq hg hP, visW_eq hg hP]
  show _ - (vendW g (ix1 _) - tilesW g (ix1 _)) = _
  rw [vendW_eq hg hP, tilesW_eq hg hP, Q_succ, sub_small, ← BitVec.ofNat_add, sub_small' (by dsimp only; omega)]
  unfold Plan.T
  congr 1
  dsimp only
  omega

end Cert.KernelIdeal.Hand
-- ==== Proof.KernelIdeal.Sched.lean ====
module

public import proofs.«01_k».proof.Proof.KernelIdeal.Region
public import proofs.«01_k».proof.Proof.KernelIdeal.Tables
public import proofs.«01_k».proof.Proof.Visits.Plan

/-! At tables that are the plan of visits the region is admissible, and the body's conditions are the plan's. -/

@[expose] public section

set_option maxRecDepth 16384

noncomputable section

namespace Cert.KernelIdeal.Hand

open Cert.KernelIdeal Cert.KernelIdeal.Gen
open Idealize.ShloMosaic Idealize.ShloMosaic.ValueIdx
open Plan

variable {F : FTy → Type} [FloatOps F]

/-- The tables' contents are the plan of visits of the groups' sizes `n`. -/
structure Planned (pf : pre0.Contents (Elt F)) (n : ℕ → ℕ) : Prop where
  total : P n 8 = 9216
  expert : ∀ t : Fin 43, (pf 0 : S43.Idx → BitVec 32) (ix1 t) = BitVec.ofNat 32 (E n t.val)
  tile : ∀ t : Fin 43, (pf 1 : S43.Idx → BitVec 32) (ix1 t) = BitVec.ofNat 32 (T n t.val)
  lo : ∀ e : Fin 8, (pf 2 : S8.Idx → BitVec 32) (ix1 e) = BitVec.ofNat 32 (P n e.val)
  hi : ∀ e : Fin 8, (pf 3 : S8.Idx → BitVec 32) (ix1 e) = BitVec.ofNat 32 (P n (e.val + 1))
  count : ∀ j : S1.Idx, (pf 4 : S1.Idx → BitVec 32) j = BitVec.ofNat 32 (nv n)

theorem off1_val (i : grid0.Coords) : k0_off1 i 0 = (i 0).val := by
  have h : ∀ k : Fin 43, (Scalar.indexCast (BitVec.ofNat 32 k.val) : Index).toNat = k.val := by decide
  exact h (i 0)
theorem off2_val (e : Fin 8) : k0_off2 (BitVec.ofNat 32 e.val) 0 = e.val := by
  have h : ∀ k : Fin 8, (Scalar.indexCast (BitVec.ofNat 32 k.val) : Index).toNat = k.val := by decide
  exact h e

/-- The index that a one-word rectangle names. -/
theorem unit_first43 {off : Fin 1 → ℕ} (h : ∀ a, off a + S1.size a ≤ S43.size a) (k : Fin 43) (hk : off 0 = k.val)
    (j : S1.Idx) : (Rect.unit (s := S43) off S1.size h).emb j = ix1 k := by
  refine funext fun a => Fin.ext ?_
  match a with
  | ⟨0, _⟩ =>
    have hj : (j 0).val = 0 := by have := (j 0).isLt; have : (j 0).val < 1 := this; omega
    show off 0 + 1 * (j 0).val = k.val
    omega
theorem unit_first8 {off : Fin 1 → ℕ} (h : ∀ a, off a + S1.size a ≤ S8.size a) (k : Fin 8) (hk : off 0 = k.val)
    (j : S1.Idx) : (Rect.unit (s := S8) off S1.size h).emb j = ix1 k := by
  refine funext fun a => Fin.ext ?_
  match a with
  | ⟨0, _⟩ =>
    have hj : (j 0).val = 0 := by have := (j 0).isLt; have : (j 0).val < 1 := this; omega
    show off 0 + 1 * (j 0).val = k.val
    omega

section Words
variable {pf : pre0.Contents (Elt F)} {n : ℕ → ℕ} (hp : Planned pf n)
include hp

theorem E_lt (t : ℕ) : E n t < 8 := (E_spec hp.total t).1
theorem T_lt (t : ℕ) : T n t < 36 := (T_spec hp.total t).2.2.2
theorem P_lt {e : ℕ} (he : e ≤ 8) : P n e ≤ 9216 := P_le hp.total e he

theorem at_expert (i : grid0.Coords) :
    (pf.at 0 (Rect.unit (s := S43) (k0_off1 i) S1.size (k0_off1_inb i)) numel1_S1 : BitVec 32) = BitVec.ofNat 32 (E n (i 0).val) :=
  (congrArg (pf 0 : S43.Idx → BitVec 32) (unit_first43 (k0_off1_inb i) (i 0) (off1_val i) _)).trans (hp.expert (i 0))
theorem at_tile (i : grid0.Coords) :
    (pf.at 1 (Rect.unit (s := S43) (k0_off1 i) S1.size (k0_off1_inb i)) numel1_S1 : BitVec 32) = BitVec.ofNat 32 (T n (i 0).val) :=
  (congrArg (pf 1 : S43.Idx → BitVec 32) (unit_first43 (k0_off1_inb i) (i 0) (off1_val i) _)).trans (hp.tile (i 0))

theorem ix_0 (i : grid0.Coords) : cc0_transform_0 k0_off1_inb numel1_S1 pf i = ![T n (i 0).val, 0] := by
  have h := at_tile hp i
  have := T_lt hp (i 0).val
  show ![(pf.at 1 (Rect.unit (s := S43) (k0_off1 i) S1.size (k0_off1_inb i)) numel1_S1 : BitVec 32).toNat, 0] = _
  rw [h, toNat_small (by omega)]
theorem ix_1 (i : grid0.Coords) : cc0_transform_1 k0_off1_inb numel1_S1 pf i = ![T n (i 0).val, 0] := ix_0 hp i
theorem ix_4 (i : grid0.Coords) : cc0_transform_4 k0_off1_inb numel1_S1 pf i = ![T n (i 0).val, 0] := ix_0 hp i
theorem ix_2 (i : grid0.Coords) : cc0_transform_2 k0_off1_inb numel1_S1 pf i = ![E n (i 0).val, 0, 0] := by
  have h := at_expert hp i
  have := E_lt hp (i 0).val
  show ![(pf.at 0 (Rect.unit (s := S43) (k0_off1 i) S1.size (k0_off1_inb i)) numel1_S1 : BitVec 32).toNat, 0, 0] = _
  rw [h, toNat_small (by omega)]
theorem ix_3 (i : grid0.Coords) : cc0_transform_3 k0_off1_inb numel1_S1 pf i = ![E n (i 0).val, 0, 0] := ix_2 hp i

/-- Every block lies in its array, on whole words. -/
theorem ok0_of_planned : ok0 pf := by
  have hT := fun i : grid0.Coords => T_lt hp (i 0).val
  have hE := fun i : grid0.Coords => E_lt hp (i 0).val
  have i0 : ∀ (i : grid0.Coords) a, (cc0_transform_0 k0_off1_inb numel1_S1 pf i a + 1) * S256x2816.size a ≤ S9216x2816.size a := fun i a => by
    rw [ix_0 hp i]; have := hT i
    match a with
    | ⟨0, _⟩ => show (T n (i 0).val + 1) * 256 ≤ 9216; omega
    | ⟨1, _⟩ => show (0 + 1) * 2816 ≤ 2816; omega
  have i1 : ∀ (i : grid0.Coords) a, (cc0_transform_1 k0_off1_inb numel1_S1 pf i a + 1) * S256x1.size a ≤ S9216x1.size a := fun i a => by
    rw [ix_1 hp i]; have := hT i
    match a with
    | ⟨0, _⟩ => show (T n (i 0).val + 1) * 256 ≤ 9216; omega
    | ⟨1, _⟩ => show (0 + 1) * 1 ≤ 1; omega
  have i2 : ∀ (i : grid0.Coords) a, (cc0_transform_2 k0_off1_inb numel1_S1 pf i a + 1) * S1x2816x5632.size a ≤ S8x2816x5632.size a := fun i a => by
    rw [ix_2 hp i]; have := hE i
    match a with
    | ⟨0, _⟩ => show (E n (i 0).val + 1) * 1 ≤ 8; omega
    | ⟨1, _⟩ => show (0 + 1) * 2816 ≤ 2816; omega
    | ⟨2, _⟩ => show (0 + 1) * 5632 ≤ 5632; omega
  have i3 : ∀ (i : grid0.Coords) a, (cc0_transform_3 k0_off1_inb numel1_S1 pf i a + 1) * S1x1x5632.size a ≤ S8x1x5632.size a := fun i a => by
    rw [ix_3 hp i]; have := hE i
    match a with
    | ⟨0, _⟩ => show (E n (i 0).val + 1) * 1 ≤ 8; omega
    | ⟨1, _⟩ => show (0 + 1) * 1 ≤ 1; omega
    | ⟨2, _⟩ => show (0 + 1) * 5632 ≤ 5632; omega
  have i4 : ∀ (i : grid0.Coords) a, (cc0_transform_4 k0_off1_inb numel1_S1 pf i a + 1) * S256x5632.size a ≤ S9216x5632.size a := fun i a => by
    rw [ix_4 hp i]; have := hT i
    match a with
    | ⟨0, _⟩ => show (T n (i 0).val + 1) * 256 ≤ 9216; omega
    | ⟨1, _⟩ => show (0 + 1) * 5632 ≤ 5632; omega
  exact ⟨fun i => ⟨i0 i, .inr (Affine.block_words_dvd (s := S9216x2816) (p := EltTy.packing .fp8e4m3) (by decide) (by decide))⟩,
    fun i => ⟨i1 i, .inl rfl⟩,
    fun i => ⟨i2 i, .inr (Affine.block_words_dvd (s := S8x2816x5632) (p := EltTy.packing .fp8e4m3) (by decide) (by decide))⟩,
    fun i => ⟨i3 i, .inl rfl⟩,
    fun i => ⟨i4 i, .inr (Affine.block_words_dvd (s := S9216x5632) (p := EltTy.packing .bf16) (by decide) (by decide))⟩⟩

end Words

/-! ## The body's words and conditions -/

section Conds
variable (a : (pcfg0 (F := F)).Adm) {n : ℕ → ℕ} (hp : Planned a.1 n)
include hp

theorem wE_eq (i : grid0.Coords) : wE i (tE a) = BitVec.ofNat 32 (E n (i 0).val) := at_expert hp i
theorem wT_eq (i : grid0.Coords) : wT i (tT a) = BitVec.ofNat 32 (T n (i 0).val) := at_tile hp i
theorem chk_planned (i : grid0.Coords) : k0_chk1 (wE i (tE a)) := by
  rw [wE_eq a hp i]
  intro b
  have h := off2_val ⟨E n (i 0).val, E_lt hp _⟩
  have := E_lt hp (i 0).val
  match b with
  | ⟨0, _⟩ => show k0_off2 _ 0 + 1 ≤ 8; rw [h]; show E n (i 0).val + 1 ≤ 8; omega
theorem wLo_eq (i : grid0.Coords) (h : k0_chk1 (wE i (tE a))) : wLo (wE i (tE a)) h (tLo a) = BitVec.ofNat 32 (P n (E n (i 0).val)) :=
  (congrArg (tLo a) (unit_first8 (k0_off2_inb _ h) ⟨E n (i 0).val, E_lt hp _⟩ (by rw [wE_eq a hp i]; exact off2_val ⟨_, E_lt hp _⟩) _)).trans (hp.lo _)
theorem wHi_eq (i : grid0.Coords) (h : k0_chk1 (wE i (tE a))) : wHi (wE i (tE a)) h (tHi a) = BitVec.ofNat 32 (P n (E n (i 0).val + 1)) :=
  (congrArg (tHi a) (unit_first8 (k0_off2_inb _ h) ⟨E n (i 0).val, E_lt hp _⟩ (by rw [wE_eq a hp i]; exact off2_val ⟨_, E_lt hp _⟩) _)).trans (hp.hi _)
theorem wN_eq : wN (tN a) = BitVec.ofNat 32 (nv n) := hp.count _

omit hp [FloatOps F] in
theorem mul256 (k : ℕ) : IntOp.muli (BitVec.ofNat 32 k) 256#32 = BitVec.ofNat 32 (256 * k) := by
  show BitVec.ofNat 32 k * BitVec.ofNat 32 256 = _
  rw [← BitVec.ofNat_mul, Nat.mul_comm]

omit hp [FloatOps F] in
theorem cond1_nat (i : grid0.Coords) {T lo hi N : ℕ} (hT : T < 36) (hlo : lo ≤ 9216) (hhi : hi ≤ 9216) (hN : N ≤ 43) :
    k0_cond1 i (BitVec.ofNat 32 T) (BitVec.ofNat 32 lo) (BitVec.ofNat 32 hi) (BitVec.ofNat 32 N) = 1#1 ↔
      ((i 0).val < N ∧ lo ≤ 256 * T ∧ 256 * T + 256 ≤ hi) := by
  have hi0 : (i 0).val < 43 := (i 0).isLt
  unfold k0_cond1
  simp only [bool_cond]
  show (BitVec.ofBool ((BitVec.ofNat 32 (i 0).val).slt (BitVec.ofNat 32 N)) &&& (BitVec.ofBool ((BitVec.ofNat 32 lo).sle (BitVec.ofNat 32 T * 256#32)) &&&
    BitVec.ofBool ((BitVec.ofNat 32 T * 256#32 + 256#32).sle (BitVec.ofNat 32 hi)))) = 1#1 ↔ _
  have e1 : BitVec.ofNat 32 T * 256#32 = BitVec.ofNat 32 (256 * T) := mul256 T
  have e2 : BitVec.ofNat 32 (256 * T) + 256#32 = BitVec.ofNat 32 (256 * T + 256) := (BitVec.ofNat_add _ _).symm
  rw [e1, e2, slt_small (by omega) (by omega), sle_small (by omega) (by omega), sle_small (by omega) (by omega)]
  by_cases q1 : (i 0).val < N <;> by_cases q2 : lo ≤ 256 * T <;> by_cases q3 : 256 * T + 256 ≤ hi <;> simp [q1, q2, q3]

omit hp [FloatOps F] in
theorem cond2_nat (i : grid0.Coords) {T lo hi N : ℕ} (hT : T < 36) (hlo : lo ≤ 9216) (hhi : hi ≤ 9216) (hN : N ≤ 43) :
    k0_cond2 i (BitVec.ofNat 32 T) (BitVec.ofNat 32 lo) (BitVec.ofNat 32 hi) (BitVec.ofNat 32 N) = 1#1 ↔
      ((i 0).val < N ∧ ¬ (lo ≤ 256 * T ∧ 256 * T + 256 ≤ hi)) := by
  have hi0 : (i 0).val < 43 := (i 0).isLt
  unfold k0_cond2
  simp only [bool_cond]
  show (BitVec.ofBool ((BitVec.ofNat 32 (i 0).val).slt (BitVec.ofNat 32 N)) &&& ((BitVec.ofBool ((BitVec.ofNat 32 lo).sle (BitVec.ofNat 32 T * 256#32)) &&&
    BitVec.ofBool ((BitVec.ofNat 32 T * 256#32 + 256#32).sle (BitVec.ofNat 32 hi))) ^^^ 1#1)) = 1#1 ↔ _
  have e1 : BitVec.ofNat 32 T * 256#32 = BitVec.ofNat 32 (256 * T) := mul256 T
  have e2 : BitVec.ofNat 32 (256 * T) + 256#32 = BitVec.ofNat 32 (256 * T + 256) := (BitVec.ofNat_add _ _).symm
  rw [e1, e2, slt_small (by omega) (by omega), sle_small (by omega) (by omega), sle_small (by omega) (by omega)]
  by_cases q1 : (i 0).val < N <;> by_cases q2 : lo ≤ 256 * T <;> by_cases q3 : 256 * T + 256 ≤ hi <;> simp [q1, q2, q3]

omit hp [FloatOps F] in
theorem cond3_nat {T lo : ℕ} (hT : T < 36) (hlo : lo ≤ 9216) :
    k0_cond3 (BitVec.ofNat 32 T) (BitVec.ofNat 32 lo) = 1#1 ↔ lo ≤ 256 * T := by
  unfold k0_cond3
  simp only [bool_cond]
  show BitVec.ofBool ((BitVec.ofNat 32 lo).sle (BitVec.ofNat 32 T * 256#32)) = 1#1 ↔ _
  have e1 : BitVec.ofNat 32 T * 256#32 = BitVec.ofNat 32 (256 * T) := mul256 T
  rw [e1, sle_small (by omega) (by omega)]
  by_cases q2 : lo ≤ 256 * T <;> simp [q2]

theorem whole_iff (i : grid0.Coords) (h : k0_chk1 (wE i (tE a))) : Whole a i h ↔
    ((i 0).val < nv n ∧ P n (E n (i 0).val) ≤ 256 * T n (i 0).val ∧ 256 * T n (i 0).val + 256 ≤ P n (E n (i 0).val + 1)) := by
  unfold Whole
  rw [wT_eq a hp i, wLo_eq a hp i h, wHi_eq a hp i h, wN_eq a hp]
  exact cond1_nat i (T_lt hp _) (P_lt hp (by have := E_lt hp (i 0).val; omega)) (P_lt hp (by have := E_lt hp (i 0).val; omega)) (nv_le hp.total)
theorem shared_iff (i : grid0.Coords) (h : k0_chk1 (wE i (tE a))) : Shared a i h ↔
    ((i 0).val < nv n ∧ ¬ (P n (E n (i 0).val) ≤ 256 * T n (i 0).val ∧ 256 * T n (i 0).val + 256 ≤ P n (E n (i 0).val + 1))) := by
  unfold Shared
  rw [wT_eq a hp i, wLo_eq a hp i h, wHi_eq a hp i h, wN_eq a hp]
  exact cond2_nat i (T_lt hp _) (P_lt hp (by have := E_lt hp (i 0).val; omega)) (P_lt hp (by have := E_lt hp (i 0).val; omega)) (nv_le hp.total)
theorem begins_iff (i : grid0.Coords) (h : k0_chk1 (wE i (tE a))) : Begins a i h ↔ P n (E n (i 0).val) ≤ 256 * T n (i 0).val := by
  unfold Begins
  rw [wT_eq a hp i, wLo_eq a hp i h]
  exact cond3_nat (T_lt hp _) (P_lt hp (by have := E_lt hp (i 0).val; omega))

omit hp in
/-- The grid is one axis of 43 visits. -/
theorem crd_val (t : Fin (cfgA a).N) : ((crd a t) 0).val = t.val := by
  have h : ∀ t : Fin 43, ((grid0.coords t) 0).val = t.val := by decide +kernel
  exact h t

theorem index4 (t : Fin (cfgA a).N) : ((cfgA a).win (4 : Fin 5)).index t = ![T n t.val, 0] := by
  have h := ix_4 hp (crd a t)
  rw [crd_val a t] at h
  exact h

/-- A visit to the tile of the one before finds what that one left. -/
theorem fresh_same {t : ℕ} (ht : t + 1 < 43) (hlive : t < nv n) (hT : T n (t + 1) = T n t) : (cfgA a).fresh (4 : Fin 5) (t + 1) = false := by
  have htN : t < (cfgA a).N := by have : (cfgA a).N = 43 := rfl; omega
  rw [Pipeline.Cfg.fresh_succ _ _ t htN]
  have h1 : ((cfgA a).win (4 : Fin 5)).flush ⟨t, htN⟩ = false := by
    rw [Pipeline.Window.flush_eq_flushF]
    unfold Pipeline.Window.flushF
    have e : ¬ (∃ h : t + 1 < (cfgA a).grid.N, ∃ b, ((cfgA a).win (4 : Fin 5)).index ⟨t + 1, h⟩ b ≠ ((cfgA a).win (4 : Fin 5)).index ⟨t, htN⟩ b) := by
      rintro ⟨h, b, hb⟩
      refine hb ?_
      rw [index4 a hp ⟨t + 1, h⟩, index4 a hp ⟨t, htN⟩]
      show (![T n (t + 1), 0] : Fin 2 → ℕ) b = (![T n t, 0] : Fin 2 → ℕ) b
      rw [hT]
    have e2 : ¬ (t + 1 = (cfgA a).grid.N) := by
      have : (cfgA a).grid.N = 43 := rfl
      omega
    simp only [e, e2, decide_false, Bool.or_false, Bool.and_false]
  have h2 : (cfgA a).idle (4 : Fin 5) ((cfgA a).grid.coords ⟨t, htN⟩) = false := by
    have hc := crd_val a ⟨t, htN⟩
    refine Bool.eq_false_iff.2 fun hi => ?_
    obtain ⟨n1, n2⟩ := (idle_iff a (crd a ⟨t, htN⟩) (chk_planned a hp _)).1 hi
    rw [whole_iff a hp] at n1; rw [shared_iff a hp] at n2
    rw [hc] at n1 n2
    by_cases hq : P n (E n t) ≤ 256 * T n t ∧ 256 * T n t + 256 ≤ P n (E n t + 1)
    · exact n1 ⟨hlive, hq⟩
    · exact n2 ⟨hlive, hq⟩
  rw [h1, h2]; rfl

/-- So does a visit past the last. -/
theorem fresh_dead : ∀ t : ℕ, t < 43 → nv n ≤ t → (cfgA a).fresh (4 : Fin 5) t = false
  | 0, _, h => by have := nv_pos hp.total; omega
  | t + 1, ht, h => by
    obtain ⟨-, -, hT⟩ := idle hp.total h
    by_cases hl : t < nv n
    · exact fresh_same a hp ht hl hT
    have ih := fresh_dead t (by omega) (by omega)
    have htN : t < (cfgA a).N := by have : (cfgA a).N = 43 := rfl; omega
    rw [Pipeline.Cfg.fresh_succ _ _ t htN, ih, Bool.and_false, Bool.or_false]
    rw [Pipeline.Window.flush_eq_flushF]
    unfold Pipeline.Window.flushF
    have e : ¬ (∃ h : t + 1 < (cfgA a).grid.N, ∃ b, ((cfgA a).win (4 : Fin 5)).index ⟨t + 1, h⟩ b ≠ ((cfgA a).win (4 : Fin 5)).index ⟨t, htN⟩ b) := by
      rintro ⟨h, b, hb⟩
      refine hb ?_
      rw [index4 a hp ⟨t + 1, h⟩, index4 a hp ⟨t, htN⟩]
      show (![T n (t + 1), 0] : Fin 2 → ℕ) b = (![T n t, 0] : Fin 2 → ℕ) b
      rw [hT]; rfl
    have e2 : ¬ (t + 1 = (cfgA a).grid.N) := by
      have : (cfgA a).grid.N = 43 := rfl
      omega
    simp only [e, e2, decide_false, Bool.or_false, Bool.and_false]

/-- The plan's tables are what the region's proof needs. -/
theorem sched : Sched a where
  chk := chk_planned a hp
  later := fun t h2 h3 => by
    rw [shared_iff a hp, crd_val a t] at h2
    rw [begins_iff a hp, crd_val a t] at h3
    obtain ⟨h1, hT, -⟩ := shares hp.total h2.1 (by omega)
    have htN : t.val < 43 := t.isLt
    have e : t.val = (t.val - 1) + 1 := by omega
    rw [e]
    exact fresh_same a hp (by omega) (by omega) (by rw [← e]; exact hT.symm)
  dead := fun t h1 h2 => by
    rw [whole_iff a hp, crd_val a t] at h1
    rw [shared_iff a hp, crd_val a t] at h2
    refine fresh_dead a hp t.val t.isLt ?_
    by_contra hl
    by_cases hq : P n (E n t.val) ≤ 256 * T n t.val ∧ 256 * T n t.val + 256 ≤ P n (E n t.val + 1)
    · exact h1 ⟨by omega, hq⟩
    · exact h2 ⟨by omega, hq⟩

end Conds

end Cert.KernelIdeal.Hand

end
-- ==== Proof.KernelIdeal.Frame.lean ====
module

public import proofs.«01_k».proof.Proof.KernelIdeal.Sched

/-! From the groups' sizes in memory to the tables, and the kernel's frame. -/

@[expose] public section

set_option maxRecDepth 16384

noncomputable section

namespace Cert.KernelIdeal.Hand

open Cert.KernelIdeal Cert.KernelIdeal.Gen
open Idealize.ShloMosaic Idealize.ShloMosaic.ValueIdx
open Idealize.ShloMosaic.TcCoe
open Idealize.SL.Sem
open Plan

variable {F : FTy → Type} [FloatOps F]
variable (m : (ℓ : Loc nD τ sig) → Buf (Elt F) ℓ)

/-- What the region finds in memory is what the host lines leave. -/
theorem atEntry_eq (c : Dev nD) (b : Ref sig .tc) : atEntry m c b = entry (fun b => m (c, b)) (Proc.devRef .tc b) := by
  have h : (hostOps (F := F)).flatten = hostOps0 ++ (hostOps0_1 ++ (hostOps0_2 ++ (hostOps0_3 ++ (hostOps0_4 ++ (hostOps0_5 ++ (hostOps0_6 ++ (hostOps0_7 ++ hostOps0_8))))))) := by
    simp only [hostOps, List.flatten_cons, List.flatten_nil, List.append_nil]
  unfold atEntry entry
  rw [h]
  simp only [StableHlo.after_append]

/-- The tables the region finds. -/
def pfOf : pre0.Contents (Elt F) := fun k => atEntry m (0 : Dev nD) (pre0.ref k)

/-- The groups' sizes in memory. -/
abbrev gOf : IVec S8 32 := m (((0 : Dev nD).tc : Thread nD τ).loc main_arg4)

variable {n : ℕ → ℕ} (hg : Sizes (gOf m) n) (hP : P n 8 = 9216)
include hg hP

/-- They are the plan of visits. -/
theorem planned : Planned (pfOf m) n where
  total := hP
  expert t := (congrFun ((atEntry_eq m 0 main_v25).trans (entry_main_v25 _)) (ix1 t)).trans (groupW_eq hg hP t)
  tile t := (congrFun ((atEntry_eq m 0 main_v42).trans (entry_main_v42 _)) (ix1 t)).trans (tileW_eq hg hP t)
  lo e := (congrFun ((atEntry_eq m 0 main_v1).trans (entry_main_v1 _)) (ix1 e)).trans (startsW_eq hg e)
  hi e := (congrFun ((atEntry_eq m 0 main_v0).trans (entry_main_v0 _)) (ix1 e)).trans (endsW_eq hg e)
  count j := (congrFun ((atEntry_eq m 0 main_v43).trans (entry_main_v43 _)) j).trans (nvW_eq hg hP _)

omit hg hP in
/-- An input array after the run is what it was, at any tables. -/
theorem kept (a : (pcfg0 (F := F)).Adm) (hS : Sched a) (c : Dev nD) (w : Fin 5) (hw : ((cfgA a).win w).isOut = false) (N : ℕ) :
    (dats a hS (atEntry m) 0 c).arrAt w N = atEntry m c (Pipeline.arrRef (cfgA a).spec w) :=
  ((dats a hS (atEntry m) 0 c).arrAt_in w hw N).trans (by dsimp only [dats])

omit hg hP in
/-- No window of the region is over argument 3. -/
theorem rest_arg3 (a : (pcfg0 (F := F)).Adm) : ∀ w : Fin (cfgA a).W, ((cfgA a).spec w).arr.view.ref ≠ main_arg3 := by
  intro w
  change Fin 5 at w
  fin_cases w
  · exact show spec0_0.arr.view.ref ≠ main_arg3 by decide
  · exact show spec0_1.arr.view.ref ≠ main_arg3 by decide
  · exact show spec0_2.arr.view.ref ≠ main_arg3 by decide
  · exact show spec0_3.arr.view.ref ≠ main_arg3 by decide
  · exact show spec0_4.arr.view.ref ≠ main_arg3 by decide

omit hg hP in
/-- No window of the region is over argument 4. -/
theorem rest_arg4 (a : (pcfg0 (F := F)).Adm) : ∀ w : Fin (cfgA a).W, ((cfgA a).spec w).arr.view.ref ≠ main_arg4 := by
  intro w
  change Fin 5 at w
  fin_cases w
  · exact show spec0_0.arr.view.ref ≠ main_arg4 by decide
  · exact show spec0_1.arr.view.ref ≠ main_arg4 by decide
  · exact show spec0_2.arr.view.ref ≠ main_arg4 by decide
  · exact show spec0_3.arr.view.ref ≠ main_arg4 by decide
  · exact show spec0_4.arr.view.ref ≠ main_arg4 by decide

omit hg hP in
/-- The frame at any admissible tables that the region finds. -/
theorem frame_of (a : (pcfg0 (F := F)).Adm) (hS : Sched a) (ha : ∀ (c : Dev nD) (k : Fin (pcfg0 (F := F)).pre.K), atEntry m c ((pcfg0 (F := F)).pre.ref k) = a.1 k) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ?_, h.2⟩) (run a hS m ρ ha)
  refine ⟨?_, ?_, ?_, ?_, ?_⟩
  · exact ((h.1 c).1 (0 : Fin 5)).trans ((kept m a hS c 0 rfl _).trans ((atEntry_eq m c main_arg0).trans (entry_main_arg0 _)))
  · exact ((h.1 c).1 (1 : Fin 5)).trans ((kept m a hS c 1 rfl _).trans ((atEntry_eq m c main_arg1).trans (entry_main_arg1 _)))
  · exact ((h.1 c).1 (2 : Fin 5)).trans ((kept m a hS c 2 rfl _).trans ((atEntry_eq m c main_arg2).trans (entry_main_arg2 _)))
  · exact ((h.1 c).2 main_arg3 (Pipeline.mem_restRefs_of main_arg3 (by decide) (rest_arg3 a))).trans ((atEntry_eq m c main_arg3).trans (entry_main_arg3 _))
  · exact ((h.1 c).2 main_arg4 (Pipeline.mem_restRefs_of main_arg4 (by decide) (rest_arg4 a))).trans ((atEntry_eq m c main_arg4).trans (entry_main_arg4 _))

/-- There are admissible tables that the region finds, and they are the plan of visits. -/
theorem tables : ∃ a : (pcfg0 (F := F)).Adm, Planned a.1 n ∧ ∀ (c : Dev nD) (k : Fin (pcfg0 (F := F)).pre.K), atEntry m c ((pcfg0 (F := F)).pre.ref k) = a.1 k :=
  ⟨⟨pfOf m, ok0_of_planned (planned m hg hP)⟩, planned m hg hP, fun c k => by
    have : c = 0 := Subsingleton.elim _ _
    subst this; rfl⟩

/-- THE FRAME: the run ends, the arguments unchanged and the counters at zero. -/
theorem frame (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  obtain ⟨a, hp, ha⟩ := tables m hg hP
  exact frame_of m a (sched a hp) ha ρ

end Cert.KernelIdeal.Hand

end
-- ==== Proof.KernelIdeal.Pieces.lean ====
module

public import proofs.«01_k».proof.Proof.KernelIdeal.Run
public import Idealize.ShloMosaic.Lib.Pipeline.CanonAppend
public import Idealize.ShloMosaic.Lib.Pointwise

/-! What one visit leaves in the result's block at the ideal numbers, element by element: the row's product with the visit's
    weights times the two scales, on the rows of the visit's expert, and on the others what the block held before. -/

@[expose] public section

set_option maxRecDepth 16384

noncomputable section

namespace Cert.KernelIdeal.Hand

open Cert.KernelIdeal Cert.KernelIdeal.Gen
open Idealize.ShloMosaic

/-- The value of one element of the result: the sum of the products of a row of tokens and a column of weights, times the
    row's scale, times the column's. -/
def cell (x : Fin 2816 → EReal) (w : Fin 2816 → EReal) (xs ws : EReal) : EReal := (∑ k, x k * w k) * xs * ws

/-- A chunk's new values, from the row block, its scales, the chunk's weights and their scales. -/
def newv (v0 : Vec Ideal S256x2816 .fp8e4m3) (v1 : Vec Ideal S256x1 .f32) (v2 : Vec Ideal S1x2816x512 .fp8e4m3) (v3 : Vec Ideal S1x1x512 .f32) : FVec Ideal S256x512 .bf16 :=
  truncf .bf16 (mulf (mulf (matmul (φ₁ := .fp8e4m3) (φ₂ := .fp8e4m3) dot_S256x2816_S2816x512_S256x512_1_0_0_1_n_n none v0 (shapeCast S2816x512 v2 shapeCasts_S1x2816x512_S2816x512) (constant S256x512 .f32 0x00000000#32))
    (broadcastTo S256x512 v1 broadcasts_S256x1_S256x512)) (broadcastTo S256x512 (shapeCast S1x512 v3 shapeCasts_S1x1x512_S1x512) broadcasts_S1x512_S256x512)) bitsLt_bf16_f32

theorem newv_apply (v0 : Vec Ideal S256x2816 .fp8e4m3) (v1 : Vec Ideal S256x1 .f32) (v2 : Vec Ideal S1x2816x512 .fp8e4m3) (v3 : Vec Ideal S1x1x512 .f32) (x : S256x512.Idx) :
    newv v0 v1 v2 v3 x = cell (fun k => v0 (ix2 (x 0) k)) (fun k => v2 (ix3 0 k (x 1))) (v1 (ix2 (x 0) 0)) (v3 (ix3 0 0 (x 1))) := by
  unfold newv cell
  pointwise

/-- A masked chunk: the new values on the masked rows, what was there on the others. -/
def mixv (mk : IVec S256x1 1) (nv old : FVec Ideal S256x512 .bf16) : FVec Ideal S256x512 .bf16 :=
  select (broadcastTo S256x512 (shapeCast S256x1 mk shapeCasts_S256x1_S256x1) broadcasts_S256x1_S256x512) nv (shapeCast S256x512 old shapeCasts_S256x512_S256x512)

theorem mixv_apply (mk : IVec S256x1 1) (nv old : FVec Ideal S256x512 .bf16) (x : S256x512.Idx) :
    mixv mk nv old x = if mk (ix2 (x 0) 0) = 1#1 then nv x else old x := by
  unfold mixv
  pointwise
  rfl

/-- A property of element and index that every one of some stores has at every index it writes, holds at every index that one of
    them covers, whatever was stored before them. -/
theorem canon_of_stores {Val : EltTy → Type} [∀ e, Nonempty (Val e)] {S : Shape} {e : EltTy} (Q : S.Idx → Val e → Prop) (L' : List (View.Piece Val S e)) :
    ∀ (L : List (View.Piece Val S e)) (_ : ∀ p ∈ L, ∀ x : p.1.shape.Idx, Q (p.1.emb x) (p.2 x)) (y : S.Idx)
      (_ : ∃ p ∈ L, y ∈ p.1.set), Q y (View.canon (L ++ L') y)
  | [], _, _, hy => by obtain ⟨p, hp, _⟩ := hy; simp at hp
  | p :: L, hL, y, hy => by
    by_cases hm : y ∈ p.1.set
    · obtain ⟨x, rfl⟩ := p.1.exists_idx_of_mem hm
      rw [List.cons_append, show p.1.idx x = p.1.emb x from rfl, View.canon_cons_emb]
      exact hL p (by simp) x
    · rw [List.cons_append, View.canon_cons_of_not_mem _ _ hm]
      refine canon_of_stores Q L' L (fun q hq => hL q (by simp [hq])) y ?_
      obtain ⟨q, hq, hyq⟩ := hy
      rcases List.mem_cons.mp hq with rfl | hq'
      · exact absurd hyq hm
      · exact ⟨q, hq', hyq⟩

/-- Where a condition holds, an element under one of the last `n` stores is what these stores put there. -/
theorem canon_of_first_stores {Val : EltTy → Type} [∀ e, Nonempty (Val e)] {S : Shape} {e : EltTy} (C : S.Idx → Prop) (G : S.Idx → Val e) (n : ℕ)
    (L : List (View.Piece Val S e)) (hL : ∀ p ∈ L.take n, ∀ x : p.1.shape.Idx, C (p.1.emb x) → p.2 x = G (p.1.emb x)) (y : S.Idx)
    (hc : ∃ p ∈ L.take n, y ∈ p.1.set) (hy : C y) : View.canon L y = G y := by
  have h := canon_of_stores (fun y v => C y → v = G y) (L.drop n) (L.take n) hL y hc
  rw [List.take_append_drop] at h
  exact h hy

variable (arg6 : Memref sig .tc .vmem S256x2816 .fp8e4m3) (arg7 : Memref sig .tc .vmem S256x1 .f32) (arg8 : Memref sig .tc .vmem S1x2816x5632 .fp8e4m3)
  (arg9 : Memref sig .tc .vmem S1x1x5632 .f32) (arg10 : Memref sig .tc .vmem S256x5632 .bf16)
  (x0 : S256x2816.Idx → Elt Ideal .fp8e4m3) (x1 : S256x1.Idx → Elt Ideal .f32) (x2 : S1x2816x5632.Idx → Elt Ideal .fp8e4m3) (x3 : S1x1x5632.Idx → Elt Ideal .f32)
  (x4 : S256x5632.Idx → Elt Ideal .bf16)

/-- The element of the result's block that the blocks of the inputs give. -/
def prod (y : S256x5632.Idx) : EReal :=
  cell (fun k => x0 (ix2 (y 0) k)) (fun k => x2 (ix3 0 k (y 1))) (x1 (ix2 (y 0) 0)) (x3 (ix3 0 0 (y 1)))

/-- The chunk at column `o`, from the loads of the four blocks. -/
abbrev chunk (o : ℕ) (h2 : ∀ a, (![0, 0, o] : Fin 3 → ℕ) a + S1x2816x512.size a ≤ S1x2816x5632.size a) (h3 : ∀ a, (![0, 0, o] : Fin 3 → ℕ) a + S1x1x512.size a ≤ S1x1x5632.size a) : FVec Ideal S256x512 .bf16 :=
  newv (View.readAt (Elt Ideal) arg6.view (Rect.unit (s := S256x2816) ![0, 0] S256x2816.size inb_S256x2816_S256x2816_0_0).toLoadRect (arg6.view.rep x0))
    (View.readAt (Elt Ideal) arg7.view (Rect.unit (s := S256x1) ![0, 0] S256x1.size inb_S256x1_S256x1_0_0).toLoadRect (arg7.view.rep x1))
    (View.readAt (Elt Ideal) arg8.view (Rect.unit (s := S1x2816x5632) ![0, 0, o] S1x2816x512.size h2).toLoadRect (arg8.view.rep x2))
    (View.readAt (Elt Ideal) arg9.view (Rect.unit (s := S1x1x5632) ![0, 0, o] S1x1x512.size h3).toLoadRect (arg9.view.rep x3))

theorem chunk_apply (o : ℕ) (h1 : ∀ a, (![0, o] : Fin 2 → ℕ) a + S256x512.size a ≤ S256x5632.size a) (h2) (h3) (x : S256x512.Idx) :
    chunk arg6 arg7 arg8 arg9 x0 x1 x2 x3 o h2 h3 x = prod x0 x1 x2 x3 ((Rect.unit (s := S256x5632) ![0, o] S256x512.size h1).emb x) := by
  unfold chunk
  rw [newv_apply, View.readAt_rep, View.readAt_rep, View.readAt_rep, View.readAt_rep]
  unfold prod
  congr 1
  · funext k
    refine congrArg x0 (funext fun a => Fin.ext ?_)
    match a with
    | ⟨0, _⟩ => rfl
    | ⟨1, _⟩ => show 0 + 1 * k.val = k.val; omega
  · funext k
    refine congrArg x2 (funext fun a => Fin.ext ?_)
    match a with
    | ⟨0, _⟩ => rfl
    | ⟨1, _⟩ => show 0 + 1 * k.val = k.val; omega
    | ⟨2, _⟩ => show o + 1 * (x 1).val = o + 1 * (x 1).val; rfl
  · refine congrArg x1 (funext fun a => Fin.ext ?_)
    match a with
    | ⟨0, _⟩ => show 0 + 1 * (x 0).val = 0 + 1 * (x 0).val; rfl
    | ⟨1, _⟩ => rfl
  · refine congrArg x3 (funext fun a => Fin.ext ?_)
    match a with
    | ⟨0, _⟩ => rfl
    | ⟨1, _⟩ => rfl
    | ⟨2, _⟩ => show o + 1 * (x 1).val = o + 1 * (x 1).val; rfl

/-- A store of a visit whose tile lies in the expert's rows. -/
theorem whole_piece (o : ℕ) (h1 : ∀ a, (![0, o] : Fin 2 → ℕ) a + S256x512.size a ≤ S256x5632.size a) (h2) (h3) (x : S256x512.Idx) :
    (fun y v => v = prod x0 x1 x2 x3 y : S256x5632.Idx → Elt Ideal .bf16 → Prop) ((Rect.unit (s := S256x5632) ![0, o] S256x512.size h1).emb x) (chunk arg6 arg7 arg8 arg9 x0 x1 x2 x3 o h2 h3 x) :=
  chunk_apply arg6 arg7 arg8 arg9 x0 x1 x2 x3 o h1 h2 h3 x

/-- What a visit whose tile lies in the expert's rows leaves. -/
theorem outWhole_apply (c : Dev nD) (i : grid0.Coords) (harg6 : arg6.IsWhole) (harg7 : arg7.IsWhole) (harg8 : arg8.IsWhole) (harg9 : arg9.IsWhole) (harg10 : arg10.IsWhole)
    (T0 : S43.Idx → Elt Ideal .i32) (T1 : S43.Idx → Elt Ideal .i32) (T2 : S8.Idx → Elt Ideal .i32) (T3 : S8.Idx → Elt Ideal .i32) (T4 : S1.Idx → Elt Ideal .i32) (hw : k0_chk1 (wE i T0))
    (h1 : k0_cond1 i (wT i T1) (wLo (wE i T0) hw T2) (wHi (wE i T0) hw T3) (wN T4) = 1#1) (h2 : ¬(k0_cond2 i (wT i T1) (wLo (wE i T0) hw T2) (wHi (wE i T0) hw T3) (wN T4) = 1#1)) (y : S256x5632.Idx) :
    outWhole c i arg6 harg6 arg7 harg7 arg8 harg8 arg9 harg9 arg10 harg10 T0 T1 T2 T3 T4 x0 x1 x2 x3 hw h1 h2 y = prod x0 x1 x2 x3 y := by
  have hc := runWhole_cover c i arg6 harg6 arg7 harg7 arg8 harg8 arg9 harg9 arg10 harg10 T0 T1 T2 T3 T4 x0 x1 x2 x3 hw h1 h2 y
  unfold outWhole
  rw [View.read_writes_junk_apply_eq_canon, ← List.append_nil (runWhole c i arg6 harg6 arg7 harg7 arg8 harg8 arg9 harg9 arg10 harg10 T0 T1 T2 T3 T4 x0 x1 x2 x3 hw h1 h2).1]
  refine canon_of_stores (fun y v => v = prod x0 x1 x2 x3 y) [] _ ?_ y hc
  clear hc
  unfold runWhole runWhole.sl.HO4_11
  intro p hp x
  rcases List.mem_cons.mp hp with rfl | hp
  · exact whole_piece arg6 arg7 arg8 arg9 x0 x1 x2 x3 5120 inb_S256x5632_S256x512_0_5120 inb_S1x2816x5632_S1x2816x512_0_0_5120 inb_S1x1x5632_S1x1x512_0_0_5120 x
  rcases List.mem_cons.mp hp with rfl | hp
  · exact whole_piece arg6 arg7 arg8 arg9 x0 x1 x2 x3 4608 inb_S256x5632_S256x512_0_4608 inb_S1x2816x5632_S1x2816x512_0_0_4608 inb_S1x1x5632_S1x1x512_0_0_4608 x
  rcases List.mem_cons.mp hp with rfl | hp
  · exact whole_piece arg6 arg7 arg8 arg9 x0 x1 x2 x3 4096 inb_S256x5632_S256x512_0_4096 inb_S1x2816x5632_S1x2816x512_0_0_4096 inb_S1x1x5632_S1x1x512_0_0_4096 x
  rcases List.mem_cons.mp hp with rfl | hp
  · exact whole_piece arg6 arg7 arg8 arg9 x0 x1 x2 x3 3584 inb_S256x5632_S256x512_0_3584 inb_S1x2816x5632_S1x2816x512_0_0_3584 inb_S1x1x5632_S1x1x512_0_0_3584 x
  rcases List.mem_cons.mp hp with rfl | hp
  · exact whole_piece arg6 arg7 arg8 arg9 x0 x1 x2 x3 3072 inb_S256x5632_S256x512_0_3072 inb_S1x2816x5632_S1x2816x512_0_0_3072 inb_S1x1x5632_S1x1x512_0_0_3072 x
  rcases List.mem_cons.mp hp with rfl | hp
  · exact whole_piece arg6 arg7 arg8 arg9 x0 x1 x2 x3 2560 inb_S256x5632_S256x512_0_2560 inb_S1x2816x5632_S1x2816x512_0_0_2560 inb_S1x1x5632_S1x1x512_0_0_2560 x
  rcases List.mem_cons.mp hp with rfl | hp
  · exact whole_piece arg6 arg7 arg8 arg9 x0 x1 x2 x3 2048 inb_S256x5632_S256x512_0_2048 inb_S1x2816x5632_S1x2816x512_0_0_2048 inb_S1x1x5632_S1x1x512_0_0_2048 x
  rcases List.mem_cons.mp hp with rfl | hp
  · exact whole_piece arg6 arg7 arg8 arg9 x0 x1 x2 x3 1536 inb_S256x5632_S256x512_0_1536 inb_S1x2816x5632_S1x2816x512_0_0_1536 inb_S1x1x5632_S1x1x512_0_0_1536 x
  rcases List.mem_cons.mp hp with rfl | hp
  · exact whole_piece arg6 arg7 arg8 arg9 x0 x1 x2 x3 1024 inb_S256x5632_S256x512_0_1024 inb_S1x2816x5632_S1x2816x512_0_0_1024 inb_S1x1x5632_S1x1x512_0_0_1024 x
  rcases List.mem_cons.mp hp with rfl | hp
  · exact whole_piece arg6 arg7 arg8 arg9 x0 x1 x2 x3 512 inb_S256x5632_S256x512_0_512 inb_S1x2816x5632_S1x2816x512_0_0_512 inb_S1x1x5632_S1x1x512_0_0_512 x
  rcases List.mem_cons.mp hp with rfl | hp
  · exact whole_piece arg6 arg7 arg8 arg9 x0 x1 x2 x3 0 inb_S256x5632_S256x512_0_0 inb_S1x2816x5632_S1x2816x512_0_0_0 inb_S1x1x5632_S1x1x512_0_0_0 x
  nomatch hp

/-- The rows of the visit's expert in the visit's tile. -/
abbrev mask (i : grid0.Coords) (T0 : S43.Idx → Elt Ideal .i32) (T1 : S43.Idx → Elt Ideal .i32) (T2 : S8.Idx → Elt Ideal .i32) (T3 : S8.Idx → Elt Ideal .i32) (hw : k0_chk1 (wE i T0)) : IVec S256x1 1 :=
  k0_pay17 (F := Ideal) (Scalar.muli (wT i T1) 256#32) (wLo (wE i T0) hw T2) (wHi (wE i T0) hw T3)

/-- A store of a later visit to a shared tile. -/
theorem later_piece (mk : IVec S256x1 1) (o : ℕ) (h1 : ∀ a, (![0, o] : Fin 2 → ℕ) a + S256x512.size a ≤ S256x5632.size a) (h2) (h3) (x : S256x512.Idx) :
    (fun y v => v = if mk (ix2 (y 0) 0) = 1#1 then prod x0 x1 x2 x3 y else x4 y : S256x5632.Idx → Elt Ideal .bf16 → Prop) ((Rect.unit (s := S256x5632) ![0, o] S256x512.size h1).emb x)
      (mixv mk (chunk arg6 arg7 arg8 arg9 x0 x1 x2 x3 o h2 h3) (View.readAt (Elt Ideal) arg10.view (Rect.unit (s := S256x5632) ![0, o] S256x512.size h1).toLoadRect (arg10.view.rep x4)) x) := by
  show mixv mk _ _ x = _
  rw [mixv_apply, chunk_apply arg6 arg7 arg8 arg9 x0 x1 x2 x3 o h1 h2 h3 x, View.readAt_rep]
  have e0 : ((Rect.unit (s := S256x5632) ![0, o] S256x512.size h1).emb x) 0 = x 0 := Fin.ext (by show 0 + 1 * (x 0).val = _; omega)
  show _ = if mk (ix2 (((Rect.unit (s := S256x5632) ![0, o] S256x512.size h1).emb x) 0) 0) = 1#1 then _ else _
  rw [e0]
  rfl

/-- What a later visit to a shared tile leaves. -/
theorem outLater_apply (c : Dev nD) (i : grid0.Coords) (harg6 : arg6.IsWhole) (harg7 : arg7.IsWhole) (harg8 : arg8.IsWhole) (harg9 : arg9.IsWhole) (harg10 : arg10.IsWhole)
    (T0 : S43.Idx → Elt Ideal .i32) (T1 : S43.Idx → Elt Ideal .i32) (T2 : S8.Idx → Elt Ideal .i32) (T3 : S8.Idx → Elt Ideal .i32) (T4 : S1.Idx → Elt Ideal .i32) (hw : k0_chk1 (wE i T0))
    (h1 : ¬(k0_cond1 i (wT i T1) (wLo (wE i T0) hw T2) (wHi (wE i T0) hw T3) (wN T4) = 1#1)) (h2 : k0_cond2 i (wT i T1) (wLo (wE i T0) hw T2) (wHi (wE i T0) hw T3) (wN T4) = 1#1) (h3 : ¬(k0_cond3 (wT i T1) (wLo (wE i T0) hw T2) = 1#1)) (y : S256x5632.Idx) :
    outLater c i arg6 harg6 arg7 harg7 arg8 harg8 arg9 harg9 arg10 harg10 T0 T1 T2 T3 T4 x0 x1 x2 x3 x4 hw h1 h2 h3 y
      = if mask i T0 T1 T2 T3 hw (ix2 (y 0) 0) = 1#1 then prod x0 x1 x2 x3 y else x4 y := by
  have hc := runLater_cover c i arg6 harg6 arg7 harg7 arg8 harg8 arg9 harg9 arg10 harg10 T0 T1 T2 T3 T4 x0 x1 x2 x3 x4 hw h1 h2 h3 y
  unfold outLater
  rw [View.read_writes_junk_apply_eq_canon, ← List.append_nil (runLater c i arg6 harg6 arg7 harg7 arg8 harg8 arg9 harg9 arg10 harg10 T0 T1 T2 T3 T4 x0 x1 x2 x3 x4 hw h1 h2 h3).1]
  refine canon_of_stores (fun y v => v = if mask i T0 T1 T2 T3 hw (ix2 (y 0) 0) = 1#1 then prod x0 x1 x2 x3 y else x4 y) [] _ ?_ y hc
  clear hc
  unfold runLater runLater.sl.HO4_11
  intro p hp x
  rcases List.mem_cons.mp hp with rfl | hp
  · exact later_piece arg6 arg7 arg8 arg9 arg10 x0 x1 x2 x3 x4 (mask i T0 T1 T2 T3 hw) 5120 inb_S256x5632_S256x512_0_5120 inb_S1x2816x5632_S1x2816x512_0_0_5120 inb_S1x1x5632_S1x1x512_0_0_5120 x
  rcases List.mem_cons.mp hp with rfl | hp
  · exact later_piece arg6 arg7 arg8 arg9 arg10 x0 x1 x2 x3 x4 (mask i T0 T1 T2 T3 hw) 4608 inb_S256x5632_S256x512_0_4608 inb_S1x2816x5632_S1x2816x512_0_0_4608 inb_S1x1x5632_S1x1x512_0_0_4608 x
  rcases List.mem_cons.mp hp with rfl | hp
  · exact later_piece arg6 arg7 arg8 arg9 arg10 x0 x1 x2 x3 x4 (mask i T0 T1 T2 T3 hw) 4096 inb_S256x5632_S256x512_0_4096 inb_S1x2816x5632_S1x2816x512_0_0_4096 inb_S1x1x5632_S1x1x512_0_0_4096 x
  rcases List.mem_cons.mp hp with rfl | hp
  · exact later_piece arg6 arg7 arg8 arg9 arg10 x0 x1 x2 x3 x4 (mask i T0 T1 T2 T3 hw) 3584 inb_S256x5632_S256x512_0_3584 inb_S1x2816x5632_S1x2816x512_0_0_3584 inb_S1x1x5632_S1x1x512_0_0_3584 x
  rcases List.mem_cons.mp hp with rfl | hp
  · exact later_piece arg6 arg7 arg8 arg9 arg10 x0 x1 x2 x3 x4 (mask i T0 T1 T2 T3 hw) 3072 inb_S256x5632_S256x512_0_3072 inb_S1x2816x5632_S1x2816x512_0_0_3072 inb_S1x1x5632_S1x1x512_0_0_3072 x
  rcases List.mem_cons.mp hp with rfl | hp
  · exact later_piece arg6 arg7 arg8 arg9 arg10 x0 x1 x2 x3 x4 (mask i T0 T1 T2 T3 hw) 2560 inb_S256x5632_S256x512_0_2560 inb_S1x2816x5632_S1x2816x512_0_0_2560 inb_S1x1x5632_S1x1x512_0_0_2560 x
  rcases List.mem_cons.mp hp with rfl | hp
  · exact later_piece arg6 arg7 arg8 arg9 arg10 x0 x1 x2 x3 x4 (mask i T0 T1 T2 T3 hw) 2048 inb_S256x5632_S256x512_0_2048 inb_S1x2816x5632_S1x2816x512_0_0_2048 inb_S1x1x5632_S1x1x512_0_0_2048 x
  rcases List.mem_cons.mp hp with rfl | hp
  · exact later_piece arg6 arg7 arg8 arg9 arg10 x0 x1 x2 x3 x4 (mask i T0 T1 T2 T3 hw) 1536 inb_S256x5632_S256x512_0_1536 inb_S1x2816x5632_S1x2816x512_0_0_1536 inb_S1x1x5632_S1x1x512_0_0_1536 x
  rcases List.mem_cons.mp hp with rfl | hp
  · exact later_piece arg6 arg7 arg8 arg9 arg10 x0 x1 x2 x3 x4 (mask i T0 T1 T2 T3 hw) 1024 inb_S256x5632_S256x512_0_1024 inb_S1x2816x5632_S1x2816x512_0_0_1024 inb_S1x1x5632_S1x1x512_0_0_1024 x
  rcases List.mem_cons.mp hp with rfl | hp
  · exact later_piece arg6 arg7 arg8 arg9 arg10 x0 x1 x2 x3 x4 (mask i T0 T1 T2 T3 hw) 512 inb_S256x5632_S256x512_0_512 inb_S1x2816x5632_S1x2816x512_0_0_512 inb_S1x1x5632_S1x1x512_0_0_512 x
  rcases List.mem_cons.mp hp with rfl | hp
  · exact later_piece arg6 arg7 arg8 arg9 arg10 x0 x1 x2 x3 x4 (mask i T0 T1 T2 T3 hw) 0 inb_S256x5632_S256x512_0_0 inb_S1x2816x5632_S1x2816x512_0_0_0 inb_S1x1x5632_S1x1x512_0_0_0 x
  nomatch hp

/-- A store of the first visit to a shared tile, on the rows of the visit's expert. -/
theorem first_piece (mk : IVec S256x1 1) (old : FVec Ideal S256x512 .bf16) (o : ℕ) (h1 : ∀ a, (![0, o] : Fin 2 → ℕ) a + S256x512.size a ≤ S256x5632.size a) (h2) (h3) (x : S256x512.Idx) :
    mk (ix2 (((Rect.unit (s := S256x5632) ![0, o] S256x512.size h1).emb x) 0) 0) = 1#1 →
      mixv mk (chunk arg6 arg7 arg8 arg9 x0 x1 x2 x3 o h2 h3) old x = prod x0 x1 x2 x3 ((Rect.unit (s := S256x5632) ![0, o] S256x512.size h1).emb x) := by
  rw [mixv_apply, chunk_apply arg6 arg7 arg8 arg9 x0 x1 x2 x3 o h1 h2 h3 x]
  have e0 : ((Rect.unit (s := S256x5632) ![0, o] S256x512.size h1).emb x) 0 = x 0 := Fin.ext (by show 0 + 1 * (x 0).val = _; omega)
  rw [e0]
  intro h
  rw [if_pos h]

/-- What the first visit to a shared tile leaves on the rows of its expert. -/
theorem outFirst_apply (c : Dev nD) (i : grid0.Coords) (harg6 : arg6.IsWhole) (harg7 : arg7.IsWhole) (harg8 : arg8.IsWhole) (harg9 : arg9.IsWhole) (harg10 : arg10.IsWhole)
    (T0 : S43.Idx → Elt Ideal .i32) (T1 : S43.Idx → Elt Ideal .i32) (T2 : S8.Idx → Elt Ideal .i32) (T3 : S8.Idx → Elt Ideal .i32) (T4 : S1.Idx → Elt Ideal .i32) (hw : k0_chk1 (wE i T0))
    (h1 : ¬(k0_cond1 i (wT i T1) (wLo (wE i T0) hw T2) (wHi (wE i T0) hw T3) (wN T4) = 1#1)) (h2 : k0_cond2 i (wT i T1) (wLo (wE i T0) hw T2) (wHi (wE i T0) hw T3) (wN T4) = 1#1) (h3 : k0_cond3 (wT i T1) (wLo (wE i T0) hw T2) = 1#1) (y : S256x5632.Idx)
    (hy : mask i T0 T1 T2 T3 hw (ix2 (y 0) 0) = 1#1) :
    outFirst c i arg6 harg6 arg7 harg7 arg8 harg8 arg9 harg9 arg10 harg10 T0 T1 T2 T3 T4 x0 x1 x2 x3 hw h1 h2 h3 y = prod x0 x1 x2 x3 y := by
  have hc : ∃ pc ∈ (runFirst c i arg6 harg6 arg7 harg7 arg8 harg8 arg9 harg9 arg10 harg10 T0 T1 T2 T3 T4 x0 x1 x2 x3 hw h1 h2 h3).1.take 11, y ∈ pc.1.set :=
    View.cover_of_tiledL ((runFirst c i arg6 harg6 arg7 harg7 arg8 harg8 arg9 harg9 arg10 harg10 T0 T1 T2 T3 T4 x0 x1 x2 x3 hw h1 h2 h3).1.take 11) S256x512.size (by sl_kernel_rfl) y
  unfold outFirst
  rw [View.read_writes_junk_apply_eq_canon]
  obtain ⟨C, hC⟩ : ∃ C : S256x5632.Idx → Prop, ∀ y : S256x5632.Idx, C y = (mask i T0 T1 T2 T3 hw (ix2 (y 0) 0) = 1#1) := ⟨_, fun _ => rfl⟩
  have hy' : C y := (hC y).symm ▸ hy
  refine canon_of_first_stores C (prod x0 x1 x2 x3) 11 _ ?_ y hc hy'
  clear hc
  unfold runFirst runFirst.sl.HO4_12 runFirst.sl.HO4_11 runFirst.sl.HO4_10 runFirst.sl.HO4_9 runFirst.sl.HO4_8 runFirst.sl.HO4_7 runFirst.sl.HO4_6 runFirst.sl.HO4_5 runFirst.sl.HO4_4 runFirst.sl.HO4_3 runFirst.sl.HO4_2
  simp only [List.take]
  intro p hp x hx
  rw [hC] at hx
  revert hx
  rcases List.mem_cons.mp hp with rfl | hp
  · exact first_piece arg6 arg7 arg8 arg9 x0 x1 x2 x3 (mask i T0 T1 T2 T3 hw) _ 5120 inb_S256x5632_S256x512_0_5120 inb_S1x2816x5632_S1x2816x512_0_0_5120 inb_S1x1x5632_S1x1x512_0_0_5120 x
  rcases List.mem_cons.mp hp with rfl | hp
  · exact first_piece arg6 arg7 arg8 arg9 x0 x1 x2 x3 (mask i T0 T1 T2 T3 hw) _ 4608 inb_S256x5632_S256x512_0_4608 inb_S1x2816x5632_S1x2816x512_0_0_4608 inb_S1x1x5632_S1x1x512_0_0_4608 x
  rcases List.mem_cons.mp hp with rfl | hp
  · exact first_piece arg6 arg7 arg8 arg9 x0 x1 x2 x3 (mask i T0 T1 T2 T3 hw) _ 4096 inb_S256x5632_S256x512_0_4096 inb_S1x2816x5632_S1x2816x512_0_0_4096 inb_S1x1x5632_S1x1x512_0_0_4096 x
  rcases List.mem_cons.mp hp with rfl | hp
  · exact first_piece arg6 arg7 arg8 arg9 x0 x1 x2 x3 (mask i T0 T1 T2 T3 hw) _ 3584 inb_S256x5632_S256x512_0_3584 inb_S1x2816x5632_S1x2816x512_0_0_3584 inb_S1x1x5632_S1x1x512_0_0_3584 x
  rcases List.mem_cons.mp hp with rfl | hp
  · exact first_piece arg6 arg7 arg8 arg9 x0 x1 x2 x3 (mask i T0 T1 T2 T3 hw) _ 3072 inb_S256x5632_S256x512_0_3072 inb_S1x2816x5632_S1x2816x512_0_0_3072 inb_S1x1x5632_S1x1x512_0_0_3072 x
  rcases List.mem_cons.mp hp with rfl | hp
  · exact first_piece arg6 arg7 arg8 arg9 x0 x1 x2 x3 (mask i T0 T1 T2 T3 hw) (runFirst.sl.v125 c i arg6 arg7 arg8 arg9 arg10 T0 T1 T2 T3 x0 x1 x2 x3 hw) 2560 inb_S256x5632_S256x512_0_2560 inb_S1x2816x5632_S1x2816x512_0_0_2560 inb_S1x1x5632_S1x1x512_0_0_2560 x
  rcases List.mem_cons.mp hp with rfl | hp
  · exact first_piece arg6 arg7 arg8 arg9 x0 x1 x2 x3 (mask i T0 T1 T2 T3 hw) _ 2048 inb_S256x5632_S256x512_0_2048 inb_S1x2816x5632_S1x2816x512_0_0_2048 inb_S1x1x5632_S1x1x512_0_0_2048 x
  rcases List.mem_cons.mp hp with rfl | hp
  · exact first_piece arg6 arg7 arg8 arg9 x0 x1 x2 x3 (mask i T0 T1 T2 T3 hw) _ 1536 inb_S256x5632_S256x512_0_1536 inb_S1x2816x5632_S1x2816x512_0_0_1536 inb_S1x1x5632_S1x1x512_0_0_1536 x
  rcases List.mem_cons.mp hp with rfl | hp
  · exact first_piece arg6 arg7 arg8 arg9 x0 x1 x2 x3 (mask i T0 T1 T2 T3 hw) _ 1024 inb_S256x5632_S256x512_0_1024 inb_S1x2816x5632_S1x2816x512_0_0_1024 inb_S1x1x5632_S1x1x512_0_0_1024 x
  rcases List.mem_cons.mp hp with rfl | hp
  · exact first_piece arg6 arg7 arg8 arg9 x0 x1 x2 x3 (mask i T0 T1 T2 T3 hw) _ 512 inb_S256x5632_S256x512_0_512 inb_S1x2816x5632_S1x2816x512_0_0_512 inb_S1x1x5632_S1x1x512_0_0_512 x
  rcases List.mem_cons.mp hp with rfl | hp
  · exact first_piece arg6 arg7 arg8 arg9 x0 x1 x2 x3 (mask i T0 T1 T2 T3 hw) _ 0 inb_S256x5632_S256x512_0_0 inb_S1x2816x5632_S1x2816x512_0_0_0 inb_S1x1x5632_S1x1x512_0_0_0 x
  nomatch hp

end Cert.KernelIdeal.Hand

end
-- ==== Proof.Visits.Rows.lean ====
/-
  Which group a row belongs to, and the result that the mathematics gives at a row and a column.
-/
module

public import proofs.«01_k».proof.Proof.Visits.Plan
public import Idealize.ShloMosaic.Lib.Pointwise

@[expose] public section

noncomputable section

namespace Plan

/-- The group of row `r`: how many groups end at it or before it. -/
def owner (n : ℕ → ℕ) (r : ℕ) : ℕ := ((Finset.range 8).filter fun e => P n (e + 1) ≤ r).card

variable {n : ℕ → ℕ}

theorem owner_eq {e r : ℕ} (he : e < 8) (h0 : P n e ≤ r) (h1 : r < P n (e + 1)) : owner n r = e := by
  unfold owner
  have : (Finset.range 8).filter (fun e' => P n (e' + 1) ≤ r) = Finset.range e := by
    ext e'
    rw [Finset.mem_filter, Finset.mem_range, Finset.mem_range]
    refine ⟨fun h => ?_, fun h => ⟨by omega, (P_mono n (by omega : e' + 1 ≤ e)).trans h0⟩⟩
    by_contra hc
    have := P_mono n (by omega : e + 1 ≤ e' + 1)
    omega
  rw [this, Finset.card_range]

theorem exists_owner (r : ℕ) : ∀ k, r < P n k → ∃ e, e < k ∧ P n e ≤ r ∧ r < P n (e + 1)
  | 0, h => absurd h (by rw [P_zero]; omega)
  | k + 1, h => by
    by_cases hk : r < P n k
    · obtain ⟨e, he, h0, h1⟩ := exists_owner r k hk
      exact ⟨e, by omega, h0, h1⟩
    · exact ⟨k, by omega, by omega, h⟩

theorem owner_lt (hP : P n 8 = 9216) {r : ℕ} (hr : r < 9216) : owner n r < 8 := by
  obtain ⟨e, he, h0, h1⟩ := exists_owner (n := n) r 8 (by omega)
  rw [owner_eq he h0 h1]; exact he

/-- The group as an index; the result at a row and a column: the sum of the products of the row of tokens and the column of its
    group's weights, times the row's scale, times the scale of the column in the row's group. -/
def own (n : ℕ → ℕ) (r : Fin 9216) : Fin 8 := ⟨owner n r.val % 8, Nat.mod_lt _ (by omega)⟩
@[inherit_doc own] def resultAt (n : ℕ → ℕ) (x : Fin 9216 → Fin 2816 → EReal) (xs : Fin 9216 → EReal) (w : Fin 8 → Fin 2816 → Fin 5632 → EReal)
    (ws : Fin 8 → Fin 5632 → EReal) (r : Fin 9216) (j : Fin 5632) : EReal :=
  (∑ k, x r k * w (own n r) k j) * xs r * ws (own n r) j

theorem own_eq {e : Fin 8} {r : Fin 9216} (h0 : P n e.val ≤ r.val) (h1 : r.val < P n (e.val + 1)) : own n r = e :=
  Fin.ext (by show owner n r.val % 8 = e.val; rw [owner_eq e.isLt h0 h1]; exact Nat.mod_eq_of_lt e.isLt)

/-- At the last visit, and after it, the tile's rows all come before the end of the visit's group. -/
theorem passes_end (hP : P n 8 = 9216) : ∀ t, nv n ≤ t + 1 → 256 * (T n t + 1) ≤ P n (E n t + 1)
  | t, h => by
    by_cases hl : t < nv n
    · exact passes hP hl (.inl (by omega))
    · obtain ⟨h1, hE, hT⟩ := idle hP (by omega : nv n ≤ t)
      rw [hE, hT]
      obtain ⟨s, rfl⟩ : ∃ s, t = s + 1 := ⟨t - 1, by omega⟩
      exact passes_end hP s (by omega)

/-- So they do whenever the next grid point is at another tile. -/
theorem passes_any (hP : P n 8 = 9216) {t : ℕ} (h : nv n ≤ t + 1 ∨ T n (t + 1) ≠ T n t) : 256 * (T n t + 1) ≤ P n (E n t + 1) := by
  by_cases hl : nv n ≤ t + 1
  · exact passes_end hP t hl
  · exact passes hP (by omega) (h.imp (fun h => absurd h hl) id)

/-- From a grid point on, there is a last one at its tile. -/
theorem last_at {t : ℕ} : ∀ d, t + d = 42 → ∃ s, t ≤ s ∧ s < 43 ∧ T n s = T n t ∧ (s + 1 = 43 ∨ T n (s + 1) ≠ T n s)
  | 0, h => ⟨t, le_refl _, by omega, rfl, .inl (by omega)⟩
  | d + 1, h => by
    by_cases hT : T n (t + 1) = T n t
    · obtain ⟨s, h1, h2, h3, h4⟩ := last_at (t := t + 1) d (by omega)
      exact ⟨s, by omega, h2, h3.trans hT, h4⟩
    · exact ⟨t, le_refl _, by omega, rfl, .inr hT⟩

end Plan

end
-- ==== Proof.KernelIdeal.Blocks.lean ====
module

public import proofs.«01_k».proof.Proof.KernelIdeal.Sched
public import proofs.«01_k».proof.Proof.KernelIdeal.Pieces
public import proofs.«01_k».proof.Proof.Visits.Rows
public import Idealize.ShloMosaic.Lib.Pipeline.Value
public import Idealize.ShloMosaic.Lib.Pipeline.ValueKit

/-! The blocks of the inputs at a visit of the plan, and the rows that the visit's mask lets through. -/

@[expose] public section

set_option maxRecDepth 16384

noncomputable section

namespace Cert.KernelIdeal.Hand

open Cert.KernelIdeal Cert.KernelIdeal.Gen
open Idealize.ShloMosaic
open Idealize.ShloMosaic.TcCoe
open Plan

variable (a : (pcfg0 (F := Ideal)).Adm) {n : ℕ → ℕ} (hp : Planned a.1 n)
variable (V : (c : Dev nD) → (b : Ref sig .tc) → Buf (Elt Ideal) ((c.tc : Thread nD τ).loc b)) (c : Dev nD)
include hp

theorem index0 (t : Fin (cfgA a).N) : ((cfgA a).win (0 : Fin 5)).index t = ![T n t.val, 0] := by
  have h := ix_0 hp (crd a t)
  rw [crd_val a t] at h
  exact h
theorem index1 (t : Fin (cfgA a).N) : ((cfgA a).win (1 : Fin 5)).index t = ![T n t.val, 0] := by
  have h := ix_1 hp (crd a t)
  rw [crd_val a t] at h
  exact h
theorem index2 (t : Fin (cfgA a).N) : ((cfgA a).win (2 : Fin 5)).index t = ![E n t.val, 0, 0] := by
  have h := ix_2 hp (crd a t)
  rw [crd_val a t] at h
  exact h
theorem index3 (t : Fin (cfgA a).N) : ((cfgA a).win (3 : Fin 5)).index t = ![E n t.val, 0, 0] := by
  have h := ix_3 hp (crd a t)
  rw [crd_val a t] at h
  exact h

/-- The rows of tokens of a visit's tile. -/
theorem iblk0_apply (t : Fin (cfgA a).N) (i : Fin 256) (k : Fin 2816) (r : Fin 9216) (hr : r.val = 256 * T n t.val + i.val) :
    (iblk a V c (0 : Fin 5) t : S256x2816.Idx → EReal) (ix2 i k) = (V c main_arg0 : S9216x2816.Idx → EReal) (ix2 r k) := by
  refine congrArg (V c main_arg0 : S9216x2816.Idx → EReal) (funext fun b => Fin.ext ?_)
  refine (Pipeline.Window.rect_emb_val ((cfgA a).win (0 : Fin 5)) t (ix2 i k : S256x2816.Idx) b).trans ?_
  rw [index0 a hp t]
  match b with
  | ⟨0, _⟩ => show T n t.val * 256 + i.val = r.val; omega
  | ⟨1, _⟩ => show 0 * 2816 + k.val = k.val; omega

/-- Their scales. -/
theorem iblk1_apply (t : Fin (cfgA a).N) (i : Fin 256) (r : Fin 9216) (hr : r.val = 256 * T n t.val + i.val) :
    (iblk a V c (1 : Fin 5) t : S256x1.Idx → EReal) (ix2 i 0) = (V c main_arg1 : S9216x1.Idx → EReal) (ix2 r 0) := by
  refine congrArg (V c main_arg1 : S9216x1.Idx → EReal) (funext fun b => Fin.ext ?_)
  refine (Pipeline.Window.rect_emb_val ((cfgA a).win (1 : Fin 5)) t (ix2 i 0 : S256x1.Idx) b).trans ?_
  rw [index1 a hp t]
  match b with
  | ⟨0, _⟩ => show T n t.val * 256 + i.val = r.val; omega
  | ⟨1, _⟩ => show 0 * 1 + 0 = 0; omega

/-- The weights of the visit's expert. -/
theorem iblk2_apply (t : Fin (cfgA a).N) (k : Fin 2816) (j : Fin 5632) (e : Fin 8) (he : e.val = E n t.val) :
    (iblk a V c (2 : Fin 5) t : S1x2816x5632.Idx → EReal) (ix3 0 k j) = (V c main_arg2 : S8x2816x5632.Idx → EReal) (ix3 e k j) := by
  refine congrArg (V c main_arg2 : S8x2816x5632.Idx → EReal) (funext fun b => Fin.ext ?_)
  refine (Pipeline.Window.rect_emb_val ((cfgA a).win (2 : Fin 5)) t (ix3 0 k j : S1x2816x5632.Idx) b).trans ?_
  rw [index2 a hp t]
  match b with
  | ⟨0, _⟩ => show E n t.val * 1 + 0 = e.val; omega
  | ⟨1, _⟩ => show 0 * 2816 + k.val = k.val; omega
  | ⟨2, _⟩ => show 0 * 5632 + j.val = j.val; omega

/-- Their scales. -/
theorem iblk3_apply (t : Fin (cfgA a).N) (j : Fin 5632) (e : Fin 8) (he : e.val = E n t.val) :
    (iblk a V c (3 : Fin 5) t : S1x1x5632.Idx → EReal) (ix3 0 0 j) = (V c main_v44 : S8x1x5632.Idx → EReal) (ix3 e 0 j) := by
  refine congrArg (V c main_v44 : S8x1x5632.Idx → EReal) (funext fun b => Fin.ext ?_)
  refine (Pipeline.Window.rect_emb_val ((cfgA a).win (3 : Fin 5)) t (ix3 0 0 j : S1x1x5632.Idx) b).trans ?_
  rw [index3 a hp t]
  match b with
  | ⟨0, _⟩ => show E n t.val * 1 + 0 = e.val; omega
  | ⟨1, _⟩ => show 0 * 1 + 0 = 0; omega
  | ⟨2, _⟩ => show 0 * 5632 + j.val = j.val; omega

omit hp in
theorem mask_nat {T lo hi : ℕ} (hT : T < 36) (hlo : lo ≤ 9216) (hhi : hi ≤ 9216) (i : Fin 256) :
    k0_pay17 (F := Ideal) (BitVec.ofNat 32 (256 * T)) (BitVec.ofNat 32 lo) (BitVec.ofNat 32 hi) (ix2 i 0) = 1#1 ↔
      lo ≤ 256 * T + i.val ∧ 256 * T + i.val < hi := by
  have hi0 := i.isLt
  have hw : k0_pay17 (F := Ideal) (BitVec.ofNat 32 (256 * T)) (BitVec.ofNat 32 lo) (BitVec.ofNat 32 hi) (ix2 i 0)
      = IntOp.andi (IntOp.cmpi .sge (BitVec.ofNat 32 (256 * T) + BitVec.ofNat 32 i.val) (BitVec.ofNat 32 lo))
          (IntOp.cmpi .slt (BitVec.ofNat 32 (256 * T) + BitVec.ofNat 32 i.val) (BitVec.ofNat 32 hi)) := by
    unfold k0_pay17
    pointwise
    rfl
  rw [hw, ← BitVec.ofNat_add]
  show IntOp.andi (BitVec.ofBool ((BitVec.ofNat 32 lo).sle (BitVec.ofNat 32 (256 * T + i.val)))) (BitVec.ofBool ((BitVec.ofNat 32 (256 * T + i.val)).slt (BitVec.ofNat 32 hi))) = 1#1 ↔ _
  rw [sle_small (by omega) (by omega), slt_small (by omega) (by omega)]
  have : ∀ p q : Bool, IntOp.andi (BitVec.ofBool p) (BitVec.ofBool q) = 1#1 ↔ (p = true ∧ q = true) := by decide
  rw [this, decide_eq_true_iff, decide_eq_true_iff]

/-- The mask of a visit: the rows of the visit's expert. -/
theorem mask_iff (t : Fin (cfgA a).N) (h : k0_chk1 (wE (crd a t) (tE a))) (i : Fin 256) :
    mask (crd a t) (tE a) (tT a) (tLo a) (tHi a) h (ix2 i 0) = 1#1 ↔
      P n (E n t.val) ≤ 256 * T n t.val + i.val ∧ 256 * T n t.val + i.val < P n (E n t.val + 1) := by
  have hE := E_lt hp t.val
  have e : mask (crd a t) (tE a) (tT a) (tLo a) (tHi a) h = k0_pay17 (F := Ideal) (BitVec.ofNat 32 (256 * T n t.val)) (BitVec.ofNat 32 (P n (E n t.val))) (BitVec.ofNat 32 (P n (E n t.val + 1))) := by
    unfold mask
    rw [wT_eq a hp, wLo_eq a hp, wHi_eq a hp, crd_val a t]
    exact congrArg (fun w => k0_pay17 (F := Ideal) w _ _) (mul256 _)
  rw [e]
  exact mask_nat (T_lt hp _) (P_lt hp (by omega)) (P_lt hp (by omega)) i

/-- The result as a function of the arrays that the region finds. -/
abbrev want (n : ℕ → ℕ) (V : (c : Dev nD) → (b : Ref sig .tc) → Buf (Elt Ideal) ((c.tc : Thread nD τ).loc b)) (c : Dev nD) : Fin 9216 → Fin 5632 → EReal :=
  resultAt n (fun r k => (V c main_arg0 : S9216x2816.Idx → EReal) (ix2 r k)) (fun r => (V c main_arg1 : S9216x1.Idx → EReal) (ix2 r 0))
    (fun e k j => (V c main_arg2 : S8x2816x5632.Idx → EReal) (ix3 e k j)) (fun e j => (V c main_v44 : S8x1x5632.Idx → EReal) (ix3 e 0 j))

/-- On a row of the visit's expert, what the visit computes is the result. -/
theorem prod_eq (t : Fin (cfgA a).N) (i : Fin 256) (j : Fin 5632) (r : Fin 9216) (hr : r.val = 256 * T n t.val + i.val)
    (h0 : P n (E n t.val) ≤ r.val) (h1 : r.val < P n (E n t.val + 1)) :
    prod (iblk a V c (0 : Fin 5) t) (iblk a V c (1 : Fin 5) t) (iblk a V c (2 : Fin 5) t) (iblk a V c (3 : Fin 5) t) (ix2 i j) = want n V c r j := by
  have ho : own n r = ⟨E n t.val, E_lt hp _⟩ := own_eq h0 h1
  unfold want resultAt
  rw [ho]
  unfold prod cell
  refine congrArg₂ (· * ·) (congrArg₂ (· * ·) (Finset.sum_congr rfl fun k _ => congrArg₂ (· * ·) ?_ ?_) ?_) ?_
  · exact iblk0_apply a hp V c t i k r hr
  · exact iblk2_apply a hp V c t k j _ rfl
  · exact iblk1_apply a hp V c t i r hr
  · exact iblk3_apply a hp V c t j _ rfl

end Cert.KernelIdeal.Hand

end
-- ==== Proof.KernelIdeal.Value.lean ====
module

public import proofs.«01_k».proof.Proof.KernelIdeal.Blocks
public import proofs.«01_k».proof.Proof.KernelIdeal.Frame

/-! The result of the kernel at the ideal numbers. After each visit the rows of its tile that come before the end of its group
    hold the result; at the last visit to a tile these are all its rows, and then the block goes back to the array. -/

@[expose] public section

set_option maxRecDepth 16384

noncomputable section

namespace Cert.KernelIdeal.Hand

open Cert.KernelIdeal Cert.KernelIdeal.Gen
open Idealize.ShloMosaic
open Idealize.ShloMosaic.TcCoe
open Idealize.SL.Sem
open Plan

variable (a : (pcfg0 (F := Ideal)).Adm) {n : ℕ → ℕ} (hp : Planned a.1 n) (hS : Sched a)
variable (V : (c : Dev nD) → (b : Ref sig .tc) → Buf (Elt Ideal) ((c.tc : Thread nD τ).loc b)) (c : Dev nD)
include hp

/-- One visit: if the rows before the visit's group that share its tile were right, then the rows before its end are. -/
theorem step_done (t : Fin (cfgA a).N) (hl : t.val < nv n) (p : S256x5632.Idx → Elt Ideal .bf16) (i : Fin 256) (j : Fin 5632) (r : Fin 9216)
    (hr : r.val = 256 * T n t.val + i.val) (h1 : r.val < P n (E n t.val + 1))
    (hold : 256 * T n t.val < P n (E n t.val) → r.val < P n (E n t.val) → p (ix2 i j) = want n V c r j) :
    step a hS V c t p (ix2 i j) = want n V c r j := by
  by_cases hw : Whole a (crd a t) (hS.chk _)
  · have hw' := (whole_iff a hp _ _).1 hw
    rw [crd_val a t] at hw'
    rw [step_whole a hS V c t p hw, outWhole_apply]
    exact prod_eq a hp V c t i j r hr (by omega) h1
  have hw' := mt (whole_iff a hp _ (hS.chk _)).2 hw
  rw [crd_val a t] at hw'
  have hs : Shared a (crd a t) (hS.chk _) := by
    rw [shared_iff a hp, crd_val a t]
    exact ⟨hl, fun h => hw' ⟨hl, h⟩⟩
  by_cases hb : Begins a (crd a t) (hS.chk _)
  · have hb' := (begins_iff a hp _ _).1 hb
    rw [crd_val a t] at hb'
    have hm := (mask_iff a hp t (hS.chk _) i).2 ⟨by omega, by omega⟩
    rw [step_first a hS V c t p hw hs hb]
    refine (outFirst_apply _ _ _ _ _ _ _ _ _ _ _ _ _ _ _ _ _ _ _ _ _ _ _ _ _ (ix2 i j) hm).trans ?_
    exact prod_eq a hp V c t i j r hr (by omega) h1
  · have hb' := mt (begins_iff a hp _ (hS.chk _)).2 hb
    rw [crd_val a t] at hb'
    rw [step_later a hS V c t p hw hs hb, outLater_apply]
    by_cases hrow : P n (E n t.val) ≤ r.val
    · have hm := (mask_iff a hp t (hS.chk _) i).2 ⟨by omega, by omega⟩
      refine (if_pos hm).trans ?_
      exact prod_eq a hp V c t i j r hr hrow h1
    · have hm : ¬ _ := fun h => absurd ((mask_iff a hp t (hS.chk _) i).1 h).1 (by omega)
      refine (if_neg hm).trans ?_
      exact hold (by omega) (by omega)

/-- After each grid point, the rows of its tile before the end of its group hold the result. -/
theorem traj_done : ∀ (s : ℕ) (h : s < (cfgA a).N) (i : Fin 256) (j : Fin 5632) (r : Fin 9216),
    r.val = 256 * T n s + i.val → r.val < P n (E n s + 1) → traj a hS V c s h (ix2 i j) = want n V c r j
  | s, h, i, j, r, hr, h1 => by
    have ht := traj_eq a hS V c ⟨s, h⟩
    refine (congrFun ht (ix2 i j)).trans ?_
    by_cases hl : s < nv n
    · refine step_done a hp hS V c ⟨s, h⟩ hl _ i j r hr h1 fun ha hb => ?_
      obtain ⟨h1s, hT, hP⟩ := shares hp.total hl ha
      have e : prev a hS V c ⟨s, h⟩ = traj a hS V c (s - 1) (by omega) := dif_neg (by show ¬ s = 0; omega)
      rw [e]
      exact traj_done (s - 1) (by omega) i j r (by rw [hT]; exact hr) (by rw [hP]; exact hb)
    · obtain ⟨h1s, hE, hT⟩ := idle hp.total (by omega : nv n ≤ s)
      have hw : ¬ Whole a (crd a ⟨s, h⟩) (hS.chk _) := by
        rw [whole_iff a hp, crd_val a]
        exact fun h => absurd h.1 hl
      have hs : ¬ Shared a (crd a ⟨s, h⟩) (hS.chk _) := by
        rw [shared_iff a hp, crd_val a]
        exact fun h => absurd h.1 hl
      rw [step_dead a hS V c ⟨s, h⟩ _ hw hs]
      have e : prev a hS V c ⟨s, h⟩ = traj a hS V c (s - 1) (by omega) := dif_neg (by show ¬ s = 0; omega)
      rw [e]
      exact traj_done (s - 1) (by omega) i j r (by rw [← hT]; exact hr) (by rw [← hE]; exact h1)
termination_by s => s

/-- A block goes back to the array at the last grid point at its tile. -/
theorem flush_iff (s : ℕ) (h : s < (cfgA a).N) : ((cfgA a).win (4 : Fin 5)).flush ⟨s, h⟩ = true ↔ (s + 1 = 43 ∨ T n (s + 1) ≠ T n s) := by
  have hN : (cfgA a).grid.N = 43 := rfl
  have hs : s < 43 := h
  rw [Pipeline.Window.flush_eq_flushF]
  unfold Pipeline.Window.flushF
  have ho : ((cfgA a).win (4 : Fin 5)).isOut = true := rfl
  rw [ho, Bool.true_and, Bool.or_eq_true, decide_eq_true_iff, decide_eq_true_iff]
  refine or_congr Iff.rfl ⟨?_, fun hT => ?_⟩
  · rintro ⟨h', b, hb⟩ hT
    refine hb ?_
    rw [index4 a hp ⟨s + 1, h'⟩, index4 a hp ⟨s, h⟩]
    show (![T n (s + 1), 0] : Fin 2 → ℕ) b = (![T n s, 0] : Fin 2 → ℕ) b
    rw [hT]
  · by_cases h43 : s + 1 = 43
    · exfalso
      refine hT ?_
      exact (idle hp.total (by have := nv_le hp.total; omega : nv n ≤ s + 1)).2.2
    · have hs1 : s + 1 < (cfgA a).N := (by omega : s + 1 < 43)
      refine ⟨hs1, (0 : Fin 2), ?_⟩
      show ((cfgA a).win (4 : Fin 5)).index ⟨s + 1, hs1⟩ 0 ≠ ((cfgA a).win (4 : Fin 5)).index ⟨s, h⟩ 0
      rw [index4 a hp ⟨s + 1, hs1⟩, index4 a hp ⟨s, h⟩]
      exact hT

/-- The result as an array. -/
abbrev wantA (n : ℕ → ℕ) (V : (c : Dev nD) → (b : Ref sig .tc) → Buf (Elt Ideal) ((c.tc : Thread nD τ).loc b)) (c : Dev nD) : S9216x5632.Idx → EReal :=
  fun y => want n V c (y 0) (y 1)

/-- Where an index of the result's block at a grid point lies in the array. -/
theorem emb4_val (t : Fin (cfgA a).N) (y : S256x5632.Idx) (b : Fin 2) :
    (((((cfgA a).win (4 : Fin 5)).rect t).emb y b : Fin _) : ℕ) = (![T n t.val, 0] : Fin 2 → ℕ) b * (![256, 5632] : Fin 2 → ℕ) b + (y b).val := by
  refine (Pipeline.Window.rect_emb_val ((cfgA a).win (4 : Fin 5)) t y b).trans ?_
  rw [index4 a hp t]

/-- The result's array after the run. -/
theorem final : (dats a hS V 0 c).arrAt (4 : Fin 5) (cfgA a).N = (wantA n V c : S9216x5632.Idx → EReal) := by
  refine (dats a hS V 0 c).arrAt_eq_of_emb (4 : Fin 5) (wantA n V c : S9216x5632.Idx → EReal) ?_ ?_
  · intro t hf y
    obtain ⟨s, hs⟩ := t
    have hs43 : s < 43 := hs
    rw [flush_iff a hp s hs] at hf
    have hpass := passes_any hp.total (t := s) (hf.imp (fun h => by have := nv_le hp.total; omega) id)
    change S256x5632.Idx at y
    have e0 : ((((cfgA a).win (4 : Fin 5)).rect ⟨s, hs⟩).emb y 0 : Fin 9216).val = 256 * T n s + (y 0).val := by
      refine (emb4_val a hp ⟨s, hs⟩ y 0).trans ?_
      show T n s * 256 + (y 0).val = _
      omega
    have e1 : ((((cfgA a).win (4 : Fin 5)).rect ⟨s, hs⟩).emb y 1 : Fin 5632) = y 1 := Fin.ext (by
      refine (emb4_val a hp ⟨s, hs⟩ y 1).trans ?_
      show 0 * 5632 + (y 1).val = _
      omega)
    have hy : (y 0).val < 256 := (y 0).isLt
    have hd := traj_done a hp hS V c s hs (y 0) (y 1) ((((cfgA a).win (4 : Fin 5)).rect ⟨s, hs⟩).emb y 0 : Fin 9216) e0 (by rw [e0]; omega)
    have ey : (ix2 (y 0) (y 1) : S256x5632.Idx) = y := funext fun b => match b with | ⟨0, _⟩ => rfl | ⟨1, _⟩ => rfl
    rw [ey] at hd
    exact hd.trans (congrArg (want n V c _) e1.symm)
  · intro i
    change S9216x5632.Idx at i
    have hi0 : (i 0).val < 9216 := (i 0).isLt
    have hi1 : (i 1).val < 5632 := (i 1).isLt
    obtain ⟨t, ht, hT⟩ := visited hp.total (τ := (i 0).val / 256) (by omega)
    have hnv := nv_le hp.total
    obtain ⟨s, hts, hs, hTs, hf⟩ := last_at (n := n) (t := t) (42 - t) (by omega)
    refine ⟨⟨s, hs⟩, (flush_iff a hp s hs).2 hf, ?_⟩
    have key : (((cfgA a).win (4 : Fin 5)).rect ⟨s, hs⟩).emb (ix2 ⟨(i 0).val % 256, Nat.mod_lt _ (by omega)⟩ (i 1) : S256x5632.Idx) = i := by
      refine funext fun b => Fin.ext ?_
      refine (emb4_val a hp ⟨s, hs⟩ _ b).trans ?_
      match b with
      | ⟨0, _⟩ => show T n s * 256 + (i 0).val % 256 = (i 0).val; omega
      | ⟨1, _⟩ => show 0 * 5632 + (i 1).val = (i 1).val; omega
    exact key ▸ (((cfgA a).win (4 : Fin 5)).blk ⟨s, hs⟩).view.emb_mem_set _

/-- The run: the result's array at the result, the arguments unchanged. -/
theorem run_value (m : (ℓ : Loc nD τ sig) → Buf (Elt Ideal) ℓ) (ha : ∀ (c : Dev nD) (k : Fin (pcfg0 (F := Ideal)).pre.K), atEntry m c ((pcfg0 (F := Ideal)).pre.ref k) = a.1 k) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v45) = (wantA n (atEntry m) c : S9216x5632.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run a (sched a hp) m ρ ha)
  refine ⟨?_, ?_, ?_, ?_, ?_, ?_⟩
  · exact ((h.1 c).1 (4 : Fin 5)).trans (final a hp (sched a hp) (atEntry m) c)
  · exact ((h.1 c).1 (0 : Fin 5)).trans ((kept m a (sched a hp) c 0 rfl _).trans ((atEntry_eq m c main_arg0).trans (entry_main_arg0 _)))
  · exact ((h.1 c).1 (1 : Fin 5)).trans ((kept m a (sched a hp) c 1 rfl _).trans ((atEntry_eq m c main_arg1).trans (entry_main_arg1 _)))
  · exact ((h.1 c).1 (2 : Fin 5)).trans ((kept m a (sched a hp) c 2 rfl _).trans ((atEntry_eq m c main_arg2).trans (entry_main_arg2 _)))
  · exact ((h.1 c).2 main_arg3 (Pipeline.mem_restRefs_of main_arg3 (by decide) (rest_arg3 a))).trans ((atEntry_eq m c main_arg3).trans (entry_main_arg3 _))
  · exact ((h.1 c).2 main_arg4 (Pipeline.mem_restRefs_of main_arg4 (by decide) (rest_arg4 a))).trans ((atEntry_eq m c main_arg4).trans (entry_main_arg4 _))

omit hp in
/-- What the region finds is the arguments at launch. -/
theorem want_entry (m : (ℓ : Loc nD τ sig) → Buf (Elt Ideal) ℓ) (c : Dev nD) (n : ℕ → ℕ) (r : Fin 9216) (j : Fin 5632) :
    want n (atEntry m) c r j = resultAt n (fun r k => (m ((c.tc : Thread nD τ).loc main_arg0) : S9216x2816.Idx → EReal) (ix2 r k))
      (fun r => (m ((c.tc : Thread nD τ).loc main_arg1) : S9216x1.Idx → EReal) (ix2 r 0))
      (fun e k j => (m ((c.tc : Thread nD τ).loc main_arg2) : S8x2816x5632.Idx → EReal) (ix3 e k j))
      (fun e j => (m ((c.tc : Thread nD τ).loc main_arg3) : S8x5632.Idx → EReal) (ix2 e j)) r j := by
  have e0 : atEntry m c main_arg0 = m ((c.tc : Thread nD τ).loc main_arg0) := (atEntry_eq m c main_arg0).trans (entry_main_arg0 _)
  have e1 : atEntry m c main_arg1 = m ((c.tc : Thread nD τ).loc main_arg1) := (atEntry_eq m c main_arg1).trans (entry_main_arg1 _)
  have e2 : atEntry m c main_arg2 = m ((c.tc : Thread nD τ).loc main_arg2) := (atEntry_eq m c main_arg2).trans (entry_main_arg2 _)
  have e3 : ∀ (e : Fin 8) (j : Fin 5632), (atEntry m c main_v44 : S8x1x5632.Idx → EReal) (ix3 e 0 j) = (m ((c.tc : Thread nD τ).loc main_arg3) : S8x5632.Idx → EReal) (ix2 e j) := fun e j => by
    rw [(atEntry_eq m c main_v44).trans (entry_main_v44 _)]
    refine (shapeCast_apply (s := S8x5632) _ _ (ix3 e 0 j) (ix2 e j) ?_).trans rfl
    rw [Shape.rowMajor_val_two, Shape.rowMajor_val_three]
    show e.val * 5632 + j.val = (e.val * 1 + 0) * 5632 + j.val
    omega
  unfold want resultAt
  rw [e0, e1, e2]
  simp only [e3]

end Cert.KernelIdeal.Hand

end
-- ==== Proof.Reference.Host.lean ====
module

public import proofs.«01_k».proof.Proof.Gen.ReferenceIdeal.Frame
public import proofs.«01_k».proof.Proof.Visits.Words
public import proofs.«01_k».proof.Proof.Visits.Rows
public import Idealize.ShloMosaic.Lib.StableHlo.RunRead
public import Idealize.ShloMosaic.Lib.Routing.Ops
public import Idealize.ShloMosaic.Lib.Routing.OpsSet

/-! What the host lines of the reference compute: the expert of each row, and the scales of each row's expert. -/

@[expose] public section

set_option maxRecDepth 16384

noncomputable section

namespace Cert.ReferenceIdeal.Hand

open Cert.ReferenceIdeal Cert.ReferenceIdeal.Gen
open Idealize.ShloMosaic Idealize.ShloMosaic.Routing
open Idealize.ShloMosaic.TcCoe Idealize.ShloMosaic.Tactic
open Idealize.ShloMosaic.StableHlo
open Plan

variable {F : FTy → Type} [FloatOps F]

/-- One number at every row. -/
abbrev bR (x : IVec S_ 32) : IVec S9216 32 := broadcastInDim S9216 ![] bcast_S_S9216 x
/-- The running sum. -/
def cumW (x : IVec S8 32) : IVec S8 32 :=
  Host.reduceWindow IntOp.addi ![8] ![1] ![7] ![0] x (broadcastInDim S_ ![] bcast_S_S_ (constantI S_ 32 0#32)) reduceWindows_S8_S8_w8s1p7_0 h_S_
/-- How many of the eight ends are at a row or before it. -/
def countW (q : IVec S8 32) (i : IVec S9216 32) : IVec S9216 32 :=
  Host.reduce IntOp.addi (extui 32 (cmpi .sle (broadcastInDim S8x9216 ![0, 1] bcast_S8x1_S8x9216_0_1 (broadcastInDim S8x1 ![0] bcast_S8_S8x1_0 q))
    (broadcastInDim S8x9216 ![0, 1] bcast_S1x9216_S8x9216_0_1 (broadcastInDim S1x9216 ![1] bcast_S9216_S1x9216_1 i))) natLt_1_32) (constantI S_ 32 0#32)
    reducesTo_S8x9216_S9216_d0 h_S_
/-- Kept between two bounds. -/
def clipW (lo hi : IVec S_ 32) (v : IVec S9216 32) : IVec S9216 32 := minsi (bR hi) (maxsi (bR lo) v)
/-- An index, a negative one counted from the end. -/
def wrapW (x : IVec S9216 32) : IVec S9216x1 32 :=
  broadcastInDim S9216x1 ![0] bcast_S9216_S9216x1_0 (select (cmpi .slt x (bR (constantI S_ 32 0#32))) (addi x (bR (constantI S_ 32 8#32))) x)
/-- The expert of each row. -/
def rowW (g : IVec S8 32) : IVec S9216 32 := clipW (constantI S_ 32 0#32) (constantI S_ 32 7#32) (countW (cumW g) (iotaInDim S9216 32 0))

variable (V : Valuation τ sig (Elt F))

theorem pass0 {r : Ref sig .tc} (hr : r ∉ [main_call0_call0_c, main_call0_call0_v0, main_v0]) : after (hostOps0 (F := F)) V (Proc.devRef .tc r) = V (Proc.devRef .tc r) :=
  after_unwritten _ rfl hr V
theorem pass1 {r : Ref sig .tc} (hr : r ∉ [main_v1]) : after (hostOps0_1 (F := F)) V (Proc.devRef .tc r) = V (Proc.devRef .tc r) :=
  after_unwritten _ rfl hr V
theorem pass2 {r : Ref sig .tc} (hr : r ∉ [main_call1_call0_v0, main_call1_call0_v1, main_call1_call0_v2, main_call1_call0_v3, main_call1_call0_v4, main_call1_call0_v5, main_call1_call0_c, main_v2]) : after (hostOps0_2 (F := F)) V (Proc.devRef .tc r) = V (Proc.devRef .tc r) :=
  after_unwritten _ rfl hr V
theorem pass3 {r : Ref sig .tc} (hr : r ∉ [main_c, main_c_0]) : after (hostOps0_3 (F := F)) V (Proc.devRef .tc r) = V (Proc.devRef .tc r) :=
  after_unwritten _ rfl hr V
theorem pass4 {r : Ref sig .tc} (hr : r ∉ [main_call2_v0, main_call2_v1, main_call2_v2, main_call2_v3, main_call2_v4, main_v3]) : after (hostOps0_4 (F := F)) V (Proc.devRef .tc r) = V (Proc.devRef .tc r) :=
  after_unwritten _ rfl hr V

theorem s0_main_v0 : after (hostOps0 (F := F)) V (Proc.devRef .tc main_v0) = cumW (V (Proc.devRef .tc main_arg4)) := by
  after_reads_simp
  unfold cumW
  simp only [TRef.toBuf, TRef.ofBuf, cast_eq]
theorem s1_main_v1 : after (hostOps0_1 (F := F)) V (Proc.devRef .tc main_v1) = iotaInDim S9216 32 0 := by
  after_reads_simp
theorem s2_main_v2 : after (hostOps0_2 (F := F)) V (Proc.devRef .tc main_v2) = countW (V (Proc.devRef .tc main_v0)) (V (Proc.devRef .tc main_v1)) := by
  after_reads_simp
  unfold countW
  simp only [TRef.toBuf, TRef.ofBuf, cast_eq]
theorem s3_main_c : after (hostOps0_3 (F := F)) V (Proc.devRef .tc main_c) = constantI S_ 32 0#32 := by
  after_reads_simp
theorem s3_main_c_0 : after (hostOps0_3 (F := F)) V (Proc.devRef .tc main_c_0) = constantI S_ 32 7#32 := by
  after_reads_simp
theorem s4_main_v3 : after (hostOps0_4 (F := F)) V (Proc.devRef .tc main_v3) = clipW (V (Proc.devRef .tc main_c)) (V (Proc.devRef .tc main_c_0)) (V (Proc.devRef .tc main_v2)) := by
  after_reads_simp
  rfl
theorem s5_main_v10 : after (hostOps0_5 (F := F)) V (Proc.devRef .tc main_v10) =
    Host.gather gather_S8x5632_S9216x1_S9216x5632_1_0_n_n_0_1_15632 (V (Proc.devRef .tc main_arg3)) (wrapW (V (Proc.devRef .tc main_v3))) := by
  after_reads_simp
  rfl
theorem s5_main_v11 : after (hostOps0_5 (F := F)) V (Proc.devRef .tc main_v11) = shapeCast S9216x1 (V (Proc.devRef .tc main_v3)) shapeCasts_S9216_S9216x1 := by
  after_reads_simp
  rfl

/-- The lines up to the experts of the rows. -/
def upto : Valuation τ sig (Elt F) :=
  after hostOps0_4 (after hostOps0_3 (after hostOps0_2 (after hostOps0_1 (after hostOps0 V))))

theorem upto_main_v3 : upto V (Proc.devRef .tc main_v3) = rowW (V (Proc.devRef .tc main_arg4)) := by
  unfold upto
  rw [s4_main_v3, s3_main_c, s3_main_c_0, pass3 (hr := by decide), s2_main_v2, s1_main_v1, pass1 (hr := by decide), s0_main_v0]
  rfl
theorem upto_main_arg3 : upto V (Proc.devRef .tc main_arg3) = V (Proc.devRef .tc main_arg3) := by
  unfold upto
  rw [pass4 (hr := by decide), pass3 (hr := by decide), pass2 (hr := by decide), pass1 (hr := by decide), pass0 (hr := by decide)]

variable (m : (ℓ : Loc nD τ sig) → Buf (Elt F) ℓ)

theorem V_eq (c : Dev nD) (b : Ref sig .tc) : Gen.V m c b = after (hostOps0_5 (F := F)) (upto (fun b => m (c, b))) (Proc.devRef .tc b) := by
  have h : (List.flatten [hostOps0, hostOps0_1, hostOps0_2, hostOps0_3, hostOps0_4, hostOps0_5] : List (HloOp τ sig (Elt F))) = hostOps0 ++ (hostOps0_1 ++ (hostOps0_2 ++ (hostOps0_3 ++ (hostOps0_4 ++ hostOps0_5)))) := by
    simp only [List.flatten_cons, List.flatten_nil, List.append_nil]
  unfold Gen.V upto
  rw [h]
  simp only [StableHlo.after_append]

theorem V_main_v11 (c : Dev nD) : Gen.V m c main_v11 = shapeCast S9216x1 (rowW (m ((c : Thread nD τ).loc main_arg4))) shapeCasts_S9216_S9216x1 := by
  rw [V_eq, s5_main_v11, upto_main_v3]
theorem V_main_v10 (c : Dev nD) : Gen.V m c main_v10 =
    Host.gather gather_S8x5632_S9216x1_S9216x5632_1_0_n_n_0_1_15632 (m ((c : Thread nD τ).loc main_arg3)) (wrapW (rowW (m ((c : Thread nD τ).loc main_arg4)))) := by
  rw [V_eq, s5_main_v10, upto_main_v3, upto_main_arg3]

/-! ## Their values -/

/-- Summing the bits of a mask along its first axis counts the rows where it is set. -/
theorem count_rows {n m : ℕ} (hn : n < 2 ^ 32) (mask : IVec ⟨2, ![n, m]⟩ 1) (hw : 1 < 32) (h : (⟨2, ![n, m]⟩ : Shape).ReducesTo [0] ⟨1, ![m]⟩) {u : Shape} (hu : 0 < u.numel)
    (q : Fin m) (p : ℕ → Prop) [DecidablePred p] (hm : ∀ e : Fin n, mask (ValueIdx.ix2 e q) = 1#1 ↔ p e.val) :
    Host.reduce IntOp.addi (extui 32 mask hw) (constantI u 32 0#32) h hu (ValueIdx.ix1 q) = BitVec.ofNat 32 ((Finset.range n).filter p).card := by
  have hset : (Finset.range n).filter p = (Finset.univ.filter fun e : Fin n => p e.val).map Fin.valEmbedding := by
    ext e
    simp only [Finset.mem_filter, Finset.mem_range, Finset.mem_map, Finset.mem_univ, true_and, Fin.valEmbedding_apply]
    exact ⟨fun h => ⟨⟨e, h.1⟩, h.2, rfl⟩, by rintro ⟨f, hf, rfl⟩; exact ⟨f.isLt, hf⟩⟩
  have hc : ((Finset.range n).filter p).card < 2 ^ 32 := lt_of_le_of_lt ((Finset.card_filter_le _ _).trans (by rw [Finset.card_range])) hn
  apply BitVec.eq_of_toNat_eq
  rw [BitVec.toNat_ofNat, Nat.mod_eq_of_lt hc, hset, Finset.card_map]
  refine (StableHlo.Predicate.toNat_reduce_count_rows hn mask hw h hu (ValueIdx.ix1 q)).trans ?_
  refine congrArg Finset.card (Finset.filter_congr fun e _ => ?_)
  show mask (StableHlo.Predicate.ij e q) = 1#1 ↔ p e.val
  rw [ij_eq_ix2]
  exact hm e

variable {g : IVec S8 32} {n : ℕ → ℕ} (hg : ∀ e : Fin 8, g (ValueIdx.ix1 e) = BitVec.ofNat 32 (n e.val)) (hP : P n 8 = 9216)

include hg in
theorem cumW_eq (e : Fin 8) : cumW g (ValueIdx.ix1 e) = BitVec.ofNat 32 (P n (e.val + 1)) := by
  unfold cumW P
  rw [← sum_range]
  exact cumsum1 (by decide) g n hg _ rfl _ _ e

include hg hP

theorem countW_eq (r : Fin 9216) : countW (cumW g) (iotaInDim S9216 32 0) (ValueIdx.ix1 r) = BitVec.ofNat 32 (owner n r.val) := by
  have hr := r.isLt
  unfold countW owner
  refine count_rows (n := 8) (m := 9216) (by decide) _ natLt_1_32 reducesTo_S8x9216_S9216_d0 h_S_ r (fun e => P n (e + 1) ≤ r.val) fun e => ?_
  have hq := P_le hP (e.val + 1) (by omega)
  show IntOp.cmpi .sle (broadcastInDim S8x9216 ![0, 1] bcast_S8x1_S8x9216_0_1 (broadcastInDim S8x1 ![0] bcast_S8_S8x1_0 (cumW g)) (ValueIdx.ix2 e r))
    (broadcastInDim S8x9216 ![0, 1] bcast_S1x9216_S8x9216_0_1 (broadcastInDim S1x9216 ![1] bcast_S9216_S1x9216_1 (iotaInDim S9216 32 0)) (ValueIdx.ix2 e r)) = 1#1 ↔ _
  rw [bcRows (n := 8) (m := 9216) bcast_S8_S8x1_0 bcast_S8x1_S8x9216_0_1 (cumW g) e r,
    bcCols (n := 8) (m := 9216) bcast_S9216_S1x9216_1 bcast_S1x9216_S8x9216_0_1 (iotaInDim S9216 32 0) e r, cumW_eq hg]
  show BitVec.ofBool ((BitVec.ofNat 32 (P n (e.val + 1))).sle (BitVec.ofNat 32 r.val)) = 1#1 ↔ _
  rw [ofBool_one, sle_small (by omega) (by omega), decide_eq_true_iff]

/-- The expert of a row is the group it belongs to. -/
theorem rowW_eq (r : Fin 9216) : rowW g (ValueIdx.ix1 r) = BitVec.ofNat 32 (own n r).val := by
  have ho := owner_lt hP r.isLt
  have hown : (own n r).val = owner n r.val := Nat.mod_eq_of_lt ho
  rw [hown]
  show IntOp.minsi (BitVec.ofNat 32 7) (IntOp.maxsi (BitVec.ofNat 32 0) (countW (cumW g) (iotaInDim S9216 32 0) (ValueIdx.ix1 r))) = _
  rw [countW_eq hg hP]
  have hmax : IntOp.maxsi (BitVec.ofNat 32 0) (BitVec.ofNat 32 (owner n r.val)) = BitVec.ofNat 32 (owner n r.val) := by
    unfold IntOp.maxsi
    rw [slt_small (by omega) (by omega), if_neg (by simp)]
  rw [hmax, minsi_small (by omega) (by omega), Nat.min_eq_right (by omega)]

theorem wrapW_eq (r : Fin 9216) : wrapW (rowW g) (ValueIdx.ix2 r (0 : Fin 1)) = BitVec.ofNat 32 (own n r).val := by
  have he := (own n r).isLt
  unfold wrapW
  rw [bcCol (n := 9216) bcast_S9216_S9216x1_0]
  show Scalar.select (IntOp.cmpi .slt (rowW g (ValueIdx.ix1 r)) (BitVec.ofNat 32 0)) (rowW g (ValueIdx.ix1 r) + 8#32) (rowW g (ValueIdx.ix1 r)) = _
  rw [rowW_eq hg hP]
  unfold Scalar.select IntOp.cmpi
  dsimp only
  rw [slt_small (by omega) (by omega), if_neg]
  rw [decide_eq_false (by omega)]
  decide

theorem castW_eq (r : Fin 9216) : shapeCast S9216x1 (rowW g) shapeCasts_S9216_S9216x1 (ValueIdx.ix2 r (0 : Fin 1)) = BitVec.ofNat 32 (own n r).val :=
  (cast12 (rowW g) shapeCasts_S9216_S9216x1 r (0 : Fin 1) r (by show r.val = r.val * 1 + 0; omega)).trans (rowW_eq hg hP r)

theorem gatherW_eq {α : Type} (x : S8x5632.Idx → α) (r : Fin 9216) (j : Fin 5632) :
    Host.gather gather_S8x5632_S9216x1_S9216x5632_1_0_n_n_0_1_15632 x (wrapW (rowW g)) (ValueIdx.ix2 r j) = x (ValueIdx.ix2 (own n r) j) :=
  gather_row (nb := 8) (B := 5632) (n := 9216) gather_S8x5632_S9216x1_S9216x5632_1_0_n_n_0_1_15632 rfl rfl rfl rfl rfl x (wrapW (rowW g)) r j (own n r) (wrapW_eq hg hP r) (by decide)

end Cert.ReferenceIdeal.Hand

end
-- ==== Proof.Reference.Body.lean ====
module

public import proofs.«01_k».proof.Proof.Gen.ReferenceIdeal.Frame
public import Idealize.ShloMosaic.Lib.Pipeline.Value
public import Idealize.ShloMosaic.Lib.Pointwise

/-! What the reference's body computes, element by element: of the eight products it keeps the one of the row's expert. -/

@[expose] public section

set_option maxRecDepth 16384

noncomputable section

namespace Cert.ReferenceIdeal.Hand

open Cert.ReferenceIdeal Cert.ReferenceIdeal.Gen
open Idealize.ShloMosaic

/-- The product of the tokens with one expert's weights. -/
def one (x : Vec Ideal S9216x2816 .fp8e4m3) (w : Vec Ideal S1x2816x5632 .fp8e4m3) : FVec Ideal S9216x5632 .f32 :=
  matmul (φ₁ := .fp8e4m3) (φ₂ := .fp8e4m3) dot_S9216x2816_S2816x5632_S9216x5632_1_0_0_1_n_n none x (shapeCast S2816x5632 w shapeCasts_S1x2816x5632_S2816x5632) (constant S9216x5632 .f32 0x00000000#32)

theorem one_apply (x : Vec Ideal S9216x2816 .fp8e4m3) (w : Vec Ideal S1x2816x5632 .fp8e4m3) (y : S9216x5632.Idx) :
    one x w y = ∑ k : Fin 2816, x (ix2 (y 0) k) * w (ix3 0 k (y 1)) := by
  unfold one
  pointwise

/-- The rows whose expert is `e` from `a`, the others from `b`. -/
def pick (e : BitVec 32) (ids : IVec S9216x1 32) (a b : FVec Ideal S9216x5632 .f32) : FVec Ideal S9216x5632 .f32 :=
  select (broadcastTo S9216x5632 (shapeCast S9216x1 (cmpi .eq ids (broadcast S9216x1 e)) shapeCasts_S9216x1_S9216x1) broadcasts_S9216x1_S9216x5632) a b

theorem ofBool_beq (a b : BitVec 32) : (BitVec.ofBool (a == b) = 1#1) ↔ a = b := by
  by_cases h : a = b
  · subst h; simp
  · have : (a == b) = false := by simpa using h
    rw [this]; simp [h]

theorem pick_apply (e : BitVec 32) (ids : IVec S9216x1 32) (a b : FVec Ideal S9216x5632 .f32) (y : S9216x5632.Idx) :
    pick e ids a b y = if ids (ix2 (y 0) 0) = e then a y else b y := by
  have h : pick e ids a b y = if IntOp.cmpi .eq (ids (ix2 (y 0) 0)) e = 1#1 then a y else b y := by
    unfold pick
    pointwise
    try rfl
  rw [h]
  exact if_congr (ofBool_beq _ _) rfl rfl

/-- The eight picks, one after another. -/
def picks (ids : IVec S9216x1 32) (f : Fin 8 → FVec Ideal S9216x5632 .f32) (z : FVec Ideal S9216x5632 .f32) : FVec Ideal S9216x5632 .f32 :=
  pick 7#32 ids (f 7) (pick 6#32 ids (f 6) (pick 5#32 ids (f 5) (pick 4#32 ids (f 4) (pick 3#32 ids (f 3) (pick 2#32 ids (f 2) (pick 1#32 ids (f 1) (pick 0#32 ids (f 0) z)))))))

theorem picks_apply (ids : IVec S9216x1 32) (f : Fin 8 → FVec Ideal S9216x5632 .f32) (z : FVec Ideal S9216x5632 .f32) (y : S9216x5632.Idx) (e : Fin 8)
    (he : ids (ix2 (y 0) 0) = BitVec.ofNat 32 e.val) : picks ids f z y = f e y := by
  unfold picks
  simp only [pick_apply, he]
  fin_cases e <;> simp

/-- The body's stored value as one expression of its loads. -/
theorem body_eq (x : Vec Ideal S9216x2816 .fp8e4m3) (ids : Vec Ideal S9216x1 .i32) (f : Fin 8 → Vec Ideal S1x2816x5632 .fp8e4m3)
    (xs : Vec Ideal S9216x1 .f32) (ws : Vec Ideal S9216x5632 .f32) :
    k0_pay1 (k0_pay6 x (k0_pay2 (F := Ideal) ids) (k0_pay3 x ids (f 0) (f 1) (f 2)) (k0_pay4 x (f 3)) (k0_pay5 (F := Ideal) ids) (f 4) (f 5) (f 6) (f 7) xs) ws =
      truncf .bf16 (mulf (mulf (picks (shapeCast S9216x1 ids shapeCasts_S9216x1_S9216x1) (fun e => one x (f e)) (broadcast S9216x5632 (Scalar.ofBits .f32 0x00000000#32)))
        (broadcastTo S9216x5632 xs broadcasts_S9216x1_S9216x5632)) (shapeCast S9216x5632 ws shapeCasts_S9216x5632_S9216x5632)) bitsLt_bf16_f32 := rfl

theorem scaled_apply (a : FVec Ideal S9216x5632 .f32) (xs : Vec Ideal S9216x1 .f32) (ws : Vec Ideal S9216x5632 .f32) (y : S9216x5632.Idx) :
    truncf .bf16 (mulf (mulf a (broadcastTo S9216x5632 xs broadcasts_S9216x1_S9216x5632)) (shapeCast S9216x5632 ws shapeCasts_S9216x5632_S9216x5632)) bitsLt_bf16_f32 y =
      a y * xs (ix2 (y 0) 0) * ws y := by
  pointwise

theorem hz : (![0, 0] : Fin 2 → ℕ) = fun _ => 0 := funext fun a => by fin_cases a <;> rfl

/-- One expert's weights out of all. -/
theorem slab (X : Vec Ideal S8x2816x5632 .fp8e4m3) (e : Fin 8) (inb : ∀ a, (![e.val, 0, 0] : Fin 3 → ℕ) a + S1x2816x5632.size a ≤ S8x2816x5632.size a) (k : Fin 2816) (j : Fin 5632) :
    View.ld X (Rect.unit (s := S8x2816x5632) ![e.val, 0, 0] S1x2816x5632.size inb) (ix3 0 k j) = X (ix3 e k j) := by
  refine congrArg X (funext fun b => Fin.ext ?_)
  match b with
  | ⟨0, _⟩ => show e.val + 1 * 0 = e.val; omega
  | ⟨1, _⟩ => show 0 + 1 * k.val = k.val; omega
  | ⟨2, _⟩ => show 0 + 1 * j.val = j.val; omega

/-- The loads of the eight experts' weights. -/
def slabs (X : Vec Ideal S8x2816x5632 .fp8e4m3) : Fin 8 → Vec Ideal S1x2816x5632 .fp8e4m3 :=
  ![View.ld X r0_2, View.ld X r0_3, View.ld X r0_4, View.ld X r0_5, View.ld X r0_6, View.ld X r0_7, View.ld X r0_8, View.ld X r0_9]

theorem slabs_apply (X : Vec Ideal S8x2816x5632 .fp8e4m3) (e : Fin 8) (k : Fin 2816) (j : Fin 5632) : slabs X e (ix3 0 k j) = X (ix3 e k j) := by
  match e with
  | ⟨0, _⟩ => exact slab X 0 _ k j
  | ⟨1, _⟩ => exact slab X 1 _ k j
  | ⟨2, _⟩ => exact slab X 2 _ k j
  | ⟨3, _⟩ => exact slab X 3 _ k j
  | ⟨4, _⟩ => exact slab X 4 _ k j
  | ⟨5, _⟩ => exact slab X 5 _ k j
  | ⟨6, _⟩ => exact slab X 6 _ k j
  | ⟨7, _⟩ => exact slab X 7 _ k j

/-- What the body leaves at a row and a column. -/
theorem out_apply (x0 : Vec Ideal S9216x2816 .fp8e4m3) (x1 : Vec Ideal S9216x1 .f32) (x2 : Vec Ideal S8x2816x5632 .fp8e4m3) (x3 : Vec Ideal S9216x5632 .f32) (x4 : Vec Ideal S9216x1 .i32)
    (r : Fin 9216) (j : Fin 5632) (e : Fin 8) (he : x4 (ix2 r 0) = BitVec.ofNat 32 e.val) :
    out0_5 x0 x1 x2 x3 x4 (ix2 r j) = (∑ k : Fin 2816, x0 (ix2 r k) * x2 (ix3 e k j)) * x1 (ix2 r 0) * x3 (ix2 r j) := by
  unfold out0_5
  rw [View.canon_unit_zero hz, View.ld_unit_zero hz, View.ld_unit_zero hz, View.ld_unit_zero hz, View.ld_unit_zero hz]
  refine (congrFun (body_eq x0 x4 (slabs x2) x1 x3) (ix2 r j)).trans ?_
  rw [scaled_apply, picks_apply _ _ _ _ e ((shapeCast_apply _ _ _ (ix2 r 0) rfl).trans he), one_apply]
  refine congrArg₂ (· * ·) (congrArg₂ (· * ·) (Finset.sum_congr rfl fun k _ => congrArg₂ (· * ·) rfl ?_) rfl) rfl
  exact slabs_apply x2 e k j

end Cert.ReferenceIdeal.Hand

end
-- ==== Proof.Reference.Value.lean ====
module

public import proofs.«01_k».proof.Proof.Reference.Host
public import proofs.«01_k».proof.Proof.Reference.Body
public import proofs.«01_k».proof.Proof.Gen.ReferenceIdeal.Value
public import Idealize.ShloMosaic.Lib.Pipeline.ValueKit

/-! The reference's result array after its run: at every row and column the result that the mathematics gives. -/

@[expose] public section

set_option maxRecDepth 16384

noncomputable section

namespace Cert.ReferenceIdeal.Hand

open Cert.ReferenceIdeal Cert.ReferenceIdeal.Gen
open Idealize.ShloMosaic
open Idealize.ShloMosaic.TcCoe
open Idealize.SL.Sem
open Plan

variable (m : (ℓ : Loc nD τ sig) → Buf (Elt Ideal) ℓ)

/-- Each block of an input is its whole array. -/
theorem iblk0_eq (c : Dev nD) (t : Fin cfg0.N) : (iblk m c 0 t : S9216x2816.Idx → EReal) = m ((c : Thread nD τ).loc main_arg0) := by
  rcases fin_N0 t with rfl
  refine Eq.trans ?_ (V_main_arg0 m c)
  funext y
  refine congrArg (Gen.V m c main_arg0 : S9216x2816.Idx → EReal) (funext fun b => Fin.ext ?_)
  refine (Pipeline.Window.rect_emb_val (cfg0.win 0) t0_0 (y : S9216x2816.Idx) b).trans ?_
  match b with
  | ⟨0, _⟩ => show 0 * 9216 + (y 0).val = (y 0).val; omega
  | ⟨1, _⟩ => show 0 * 2816 + (y 1).val = (y 1).val; omega
@[inherit_doc iblk0_eq] theorem iblk1_eq (c : Dev nD) (t : Fin cfg0.N) : (iblk m c 1 t : S9216x1.Idx → EReal) = m ((c : Thread nD τ).loc main_arg1) := by
  rcases fin_N0 t with rfl
  refine Eq.trans ?_ (V_main_arg1 m c)
  funext y
  refine congrArg (Gen.V m c main_arg1 : S9216x1.Idx → EReal) (funext fun b => Fin.ext ?_)
  refine (Pipeline.Window.rect_emb_val (cfg0.win 1) t0_0 (y : S9216x1.Idx) b).trans ?_
  match b with
  | ⟨0, _⟩ => show 0 * 9216 + (y 0).val = (y 0).val; omega
  | ⟨1, _⟩ => show 0 * 1 + (y 1).val = (y 1).val; omega
@[inherit_doc iblk0_eq] theorem iblk2_eq (c : Dev nD) (t : Fin cfg0.N) : (iblk m c 2 t : S8x2816x5632.Idx → EReal) = m ((c : Thread nD τ).loc main_arg2) := by
  rcases fin_N0 t with rfl
  refine Eq.trans ?_ (V_main_arg2 m c)
  funext y
  refine congrArg (Gen.V m c main_arg2 : S8x2816x5632.Idx → EReal) (funext fun b => Fin.ext ?_)
  refine (Pipeline.Window.rect_emb_val (cfg0.win 2) t0_0 (y : S8x2816x5632.Idx) b).trans ?_
  match b with
  | ⟨0, _⟩ => show 0 * 8 + (y 0).val = (y 0).val; omega
  | ⟨1, _⟩ => show 0 * 2816 + (y 1).val = (y 1).val; omega
  | ⟨2, _⟩ => show 0 * 5632 + (y 2).val = (y 2).val; omega
@[inherit_doc iblk0_eq] theorem iblk3_eq (c : Dev nD) (t : Fin cfg0.N) : (iblk m c 3 t : S9216x5632.Idx → EReal) = Gen.V m c main_v10 := by
  rcases fin_N0 t with rfl
  funext y
  refine congrArg (Gen.V m c main_v10 : S9216x5632.Idx → EReal) (funext fun b => Fin.ext ?_)
  refine (Pipeline.Window.rect_emb_val (cfg0.win 3) t0_0 (y : S9216x5632.Idx) b).trans ?_
  match b with
  | ⟨0, _⟩ => show 0 * 9216 + (y 0).val = (y 0).val; omega
  | ⟨1, _⟩ => show 0 * 5632 + (y 1).val = (y 1).val; omega
@[inherit_doc iblk0_eq] theorem iblk4_eq (c : Dev nD) (t : Fin cfg0.N) : (iblk m c 4 t : S9216x1.Idx → BitVec 32) = Gen.V m c main_v11 := by
  rcases fin_N0 t with rfl
  funext y
  refine congrArg (Gen.V m c main_v11 : S9216x1.Idx → BitVec 32) (funext fun b => Fin.ext ?_)
  refine (Pipeline.Window.rect_emb_val (cfg0.win 4) t0_0 (y : S9216x1.Idx) b).trans ?_
  match b with
  | ⟨0, _⟩ => show 0 * 9216 + (y 0).val = (y 0).val; omega
  | ⟨1, _⟩ => show 0 * 1 + (y 1).val = (y 1).val; omega

/-- The result as a function of the arguments. -/
abbrev want (n : ℕ → ℕ) (c : Dev nD) : Fin 9216 → Fin 5632 → EReal :=
  resultAt n (fun r k => (m ((c : Thread nD τ).loc main_arg0) : S9216x2816.Idx → EReal) (ix2 r k))
    (fun r => (m ((c : Thread nD τ).loc main_arg1) : S9216x1.Idx → EReal) (ix2 r 0))
    (fun e k j => (m ((c : Thread nD τ).loc main_arg2) : S8x2816x5632.Idx → EReal) (ix3 e k j))
    (fun e j => (m ((c : Thread nD τ).loc main_arg3) : S8x5632.Idx → EReal) (ix2 e j))
@[inherit_doc want] abbrev wantA (n : ℕ → ℕ) (c : Dev nD) : S9216x5632.Idx → EReal := fun y => want m n c (y 0) (y 1)

variable {n : ℕ → ℕ} (c : Dev nD) (hg : ∀ e : Fin 8, (m ((c : Thread nD τ).loc main_arg4) : IVec S8 32) (ValueIdx.ix1 e) = BitVec.ofNat 32 (n e.val)) (hP : P n 8 = 9216)
include hg hP

/-- What the body leaves in its block. -/
theorem out_eq (t : Fin cfg0.N) (r : Fin 9216) (j : Fin 5632) :
    out0_5 (iblk m c 0 t) (iblk m c 1 t) (iblk m c 2 t) (iblk m c 3 t) (iblk m c 4 t) (ix2 r j) = want m n c r j := by
  have h4 : (iblk m c 4 t : S9216x1.Idx → BitVec 32) (ix2 r 0) = BitVec.ofNat 32 (own n r).val :=
    (congrFun (iblk4_eq m c t) _).trans ((congrFun (V_main_v11 m c) _).trans (castW_eq hg hP r))
  have h3 : (iblk m c 3 t : S9216x5632.Idx → EReal) (ix2 r j) = (m ((c : Thread nD τ).loc main_arg3) : S8x5632.Idx → EReal) (ix2 (own n r) j) :=
    (congrFun (iblk3_eq m c t) _).trans ((congrFun (V_main_v10 m c) _).trans (gatherW_eq hg hP (m ((c : Thread nD τ).loc main_arg3) : S8x5632.Idx → EReal) r j))
  refine (out_apply _ _ _ _ _ r j (own n r) h4).trans ?_
  refine congrArg₂ (· * ·) (congrArg₂ (· * ·) (Finset.sum_congr rfl fun k _ => congrArg₂ (· * ·) ?_ ?_) ?_) h3
  · exact congrFun (iblk0_eq m c t) _
  · exact congrFun (iblk2_eq m c t) _
  · exact congrFun (iblk1_eq m c t) _

omit hg hP in
/-- The one block is the whole array. -/
theorem emb5 (t : Fin cfg0.N) (y : S9216x5632.Idx) : ((cfg0.win 5).rect t).emb y = y := by
  rcases fin_N0 t with rfl
  refine funext fun b => Fin.ext ?_
  refine (Pipeline.Window.rect_emb_val (cfg0.win 5) t0_0 (y : S9216x5632.Idx) b).trans ?_
  match b with
  | ⟨0, _⟩ => show 0 * 9216 + (y 0).val = (y 0).val; omega
  | ⟨1, _⟩ => show 0 * 5632 + (y 1).val = (y 1).val; omega

omit hg hP in
/-- If the body leaves `W` in its block, the array holds `W` after the run. -/
theorem final_of (W : S9216x5632.Idx → EReal)
    (hW : ∀ t : Fin cfg0.N, out0_5 (iblk m c 0 t) (iblk m c 1 t) (iblk m c 2 t) (iblk m c 3 t) (iblk m c 4 t) = W) :
    (dats m 0 c).arrAt 5 cfg0.N = W := by
  refine (dats m 0 c).arrAt_eq_of_emb 5 W ?_ ?_
  · intro t hf y
    rw [after0_5, hW]
    exact congrArg W (emb5 t y).symm
  · intro i
    refine ⟨t0_0, flush0_5 _, ?_⟩
    exact (emb5 t0_0 i) ▸ ((cfg0.win 5).blk t0_0).view.emb_mem_set _

/-- The result's array after the run. -/
theorem final : (dats m 0 c).arrAt 5 cfg0.N = (wantA m n c : S9216x5632.Idx → EReal) := by
  refine final_of m c _ fun t => funext fun y => ?_
  have ey : (ix2 (y 0) (y 1) : S9216x5632.Idx) = y := funext fun b => match b with | ⟨0, _⟩ => rfl | ⟨1, _⟩ => rfl
  have hd := out_eq m c hg hP t (y 0) (y 1)
  rw [ey] at hd
  exact hd

end Cert.ReferenceIdeal.Hand

end
-- ==== Proof.Visits.Sizes.lean ====
/-
  The precondition read: the groups' sizes are natural numbers, and together they are the 9216 rows.
-/
module

public import proofs.«01_k».proof.Pre_groups_partition_tokens
public import proofs.«01_k».proof.Proof.Gen.Pre_groups_partition_tokens
public import proofs.«01_k».proof.Proof.Visits.Words
public import Idealize.ShloMosaic.Lib.Routing.Ops

@[expose] public section

namespace Plan

open Idealize.ShloMosaic Idealize.ShloMosaic.ValueIdx Idealize.ShloMosaic.Routing

/-- The natural numbers that eight words are. -/
def sizesOf (g : IVec Cert.Pre_groups_partition_tokens.S8 32) (e : ℕ) : ℕ := if h : e < 8 then (g (ix1 ⟨e, h⟩)).toNat else 0

theorem sizesOf_eq (g : IVec Cert.Pre_groups_partition_tokens.S8 32) (e : Fin 8) : g (ix1 e) = BitVec.ofNat 32 (sizesOf g e.val) := by
  unfold sizesOf
  rw [dif_pos e.isLt, BitVec.ofNat_toNat, BitVec.setWidth_eq]

/-- Under the precondition the groups' sizes sum to the number of rows. -/
theorem total_of_pre {F : FTy → Type} [FloatOps F] (x0 : FVec F Cert.Pre_groups_partition_tokens.S9216x2816 .fp8e4m3)
    (x1 : FVec F Cert.Pre_groups_partition_tokens.S9216x1 .f32) (x2 : FVec F Cert.Pre_groups_partition_tokens.S8x2816x5632 .fp8e4m3)
    (x3 : FVec F Cert.Pre_groups_partition_tokens.S8x5632 .f32) (g : IVec Cert.Pre_groups_partition_tokens.S8 32)
    (h : (Cert.Pre_groups_partition_tokens.fn (F := F) x0 x1 x2 x3 g).1 = (fun _ => 1#1)
      ∧ (Cert.Pre_groups_partition_tokens.fn (F := F) x0 x1 x2 x3 g).2 = (fun _ => 1#1)) : P (sizesOf g) 8 = 9216 := by
  obtain ⟨h1, h2⟩ := h
  have hb : ∀ e : ℕ, sizesOf g e ≤ 9216 := by
    intro e
    by_cases he : e < 8
    · have hh : IntOp.andi (IntOp.cmpi .sge (g (ix1 ⟨e, he⟩)) 0#32) (IntOp.cmpi .sle (g (ix1 ⟨e, he⟩)) 9216#32) = 1#1 := congrFun h1 (ix1 ⟨e, he⟩)
      have hs : sizesOf g e = (g (ix1 ⟨e, he⟩)).toNat := by unfold sizesOf; rw [dif_pos he]
      rw [hs]
      generalize g (ix1 ⟨e, he⟩) = w at hh
      have a1 : IntOp.cmpi .sge w 0#32 = 1#1 ∧ IntOp.cmpi .sle w 9216#32 = 1#1 := by
        revert hh
        generalize IntOp.cmpi .sge w 0#32 = p
        generalize IntOp.cmpi .sle w 9216#32 = q
        revert p q
        decide
      obtain ⟨a1, a2⟩ := a1
      unfold IntOp.cmpi at a1 a2
      dsimp only at a1 a2
      rw [ofBool_one] at a1 a2
      rw [BitVec.sle_eq_decide, decide_eq_true_iff] at a1 a2
      have e0 : (0#32 : BitVec 32).toInt = 0 := by decide
      have e1 : (9216#32 : BitVec 32).toInt = 9216 := by decide
      rw [e0] at a1
      rw [e1] at a2
      have := BitVec.toInt_eq_toNat_of_lt (x := w) (by
        have := BitVec.toInt_eq_toNat_cond w
        have := w.isLt
        split at * <;> omega)
      omega
    · unfold sizesOf; rw [dif_neg he]; omega
  have hs := reduce_sum (N := 8) g (sizesOf g) (sizesOf_eq g) Cert.Pre_groups_partition_tokens.Gen.reducesTo_S8_S_d0 Cert.Pre_groups_partition_tokens.Gen.h_S_
  have hq : IntOp.cmpi .eq (Host.reduce IntOp.addi g (constantI Cert.Pre_groups_partition_tokens.S_ 32 0#32) Cert.Pre_groups_partition_tokens.Gen.reducesTo_S8_S_d0 Cert.Pre_groups_partition_tokens.Gen.h_S_ ix0) 9216#32 = 1#1 := congrFun h2 ix0
  rw [StableHlo.Predicate.cmpi_eq_iff] at hq
  rw [hs, sum_range] at hq
  have hle : ∑ j ∈ Finset.range 8, sizesOf g j ≤ 8 * 9216 := by
    have := Finset.sum_le_card_nsmul (Finset.range 8) (sizesOf g) 9216 (fun j _ => hb j)
    rwa [Finset.card_range, smul_eq_mul] at this
  have := congrArg BitVec.toNat hq
  rw [toNat_small (by omega)] at this
  exact this

end Plan
-- ==== Proof.lean ====
/-
  The proof of the claim: the frames of the kernel, of its ideal copy and of the reference, and that the ideal kernel and the
  reference end with the same result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Kernel.Frame
public import proofs.«01_k».proof.Proof.KernelIdeal.Frame
public import proofs.«01_k».proof.Proof.KernelIdeal.Value
public import proofs.«01_k».proof.Proof.Reference.Value
public import proofs.«01_k».proof.Proof.Visits.Sizes
public import proofs.«01_k».proof.Proof.Gen.Pre_groups_partition_tokens
public import Idealize.ShloMosaic.Adequacy
public import Idealize.ShloMosaic.Init

@[expose] public section

noncomputable section

namespace Cert.Proof

open Idealize.ShloMosaic Idealize.SL.Sem

/-- The kernel's frame, from the precondition's sizes. -/
theorem frame_Kernel : quiescent_Kernel := fun m ρ h =>
  Cert.Kernel.Hand.frame m (n := Plan.sizesOf _) (Plan.sizesOf_eq _) (Plan.total_of_pre _ _ _ _ _ (h 0)) ρ

/-- The ideal kernel's frame, the same. -/
theorem frame_KernelIdeal : quiescent_KernelIdeal := fun m ρ h =>
  Cert.KernelIdeal.Hand.frame m (n := Plan.sizesOf _) (Plan.sizesOf_eq _) (Plan.total_of_pre _ _ _ _ _ (h 0)) ρ

open Idealize.ShloMosaic.TcCoe in
/-- The ideal kernel and the reference end with equal results: both hold, at every row and column, the sum of the products of the
    row of tokens with the column of its group's weights, times the row's scale, times the scale of the column in the row's group. -/
theorem value : algebraic_KernelIdeal_ReferenceIdeal := fun m g m' g' h hm => by
  have hP := Plan.total_of_pre _ _ _ _ _ (h 0)
  have hg := Plan.sizesOf_eq (m (((0 : Dev Cert.KernelIdeal.nD).tc : Thread Cert.KernelIdeal.nD Cert.KernelIdeal.τ).loc Cert.KernelIdeal.main_arg4))
  obtain ⟨a, hp, ha⟩ := Cert.KernelIdeal.Hand.tables m hg hP
  refine ⟨fun c => (Cert.KernelIdeal.Hand.wantA _ (Cert.KernelIdeal.Hand.atEntry m) c : Cert.KernelIdeal.S9216x5632.Idx → EReal), Cert.KernelIdeal.Hand.run_value a hp m ha g, ?_⟩
  refine (θ_run Cert.ReferenceIdeal.defs _ _).mono (fun r hr c => ⟨(hr c).1.trans ?_, (hr c).2⟩) (Cert.ReferenceIdeal.Value.run_blocks m' g')
  have hc : c = 0 := Subsingleton.elim _ _
  subst hc
  obtain ⟨h0, h1, h2, h3, h4⟩ := hm 0
  refine (Cert.ReferenceIdeal.Hand.final m' 0 (fun e => (congrFun h4 _).trans (hg e)) hP).trans ?_
  funext y
  refine Eq.trans ?_ (Cert.KernelIdeal.Hand.want_entry m 0 _ (y 0) (y 1)).symm
  show Cert.ReferenceIdeal.Hand.want m' _ 0 (y 0) (y 1) = _
  unfold Cert.ReferenceIdeal.Hand.want
  rw [h0, h1, h2, h3]

theorem claim : Cert.Claim := ⟨Cert.Kernel.Gen.facts, Cert.KernelIdeal.Gen.facts, Cert.ReferenceIdeal.Gen.facts, Cert.Pre_groups_partition_tokens.Gen.facts,
  frame_Kernel, frame_KernelIdeal, fun m ρ _ => Cert.ReferenceIdeal.Gen.frame m ρ, fun m ρ _ => Cert.ReferenceIdeal.Gen.frame m ρ, trivial, value⟩

end Cert.Proof

end
